-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_input [hPre_finite_input : Cert.Pre_finite_input.Facts] (m : (ℓ : Loc Cert.KernelIdeal.nD Cert.KernelIdeal.τ Cert.KernelIdeal.sig) → Buf (Elt Ideal) ℓ) : Prop :=
  ∀ c : Dev Cert.KernelIdeal.nD,
    (Cert.Pre_finite_input.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_input [hPre_finite_input : Cert.Pre_finite_input.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_input.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_input [hKernelIdeal : Cert.KernelIdeal.Facts] [hPre_finite_input : Cert.Pre_finite_input.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_input m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_input [hReferenceIdeal : Cert.ReferenceIdeal.Facts] [hPre_finite_input : Cert.Pre_finite_input.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_input m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_input [hKernelIdeal : Cert.KernelIdeal.Facts] [hReferenceIdeal : Cert.ReferenceIdeal.Facts] [hPre_finite_input : Cert.Pre_finite_input.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_input m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_input : Cert.Pre_finite_input.Facts),
    quiescent_Kernel (hKernel := hKernel)
    ∧ quiescent_KernelIdeal (hKernelIdeal := hKernelIdeal)
    ∧ quiescent_KernelIdeal_pre_finite_input (hKernelIdeal := hKernelIdeal) (hPre_finite_input := hPre_finite_input)
    ∧ quiescent_ReferenceIdeal (hReferenceIdeal := hReferenceIdeal)
    ∧ quiescent_ReferenceIdeal_pre_finite_input (hReferenceIdeal := hReferenceIdeal) (hPre_finite_input := hPre_finite_input)
    ∧ preserves_Kernel_KernelIdeal
    ∧ algebraic_KernelIdeal_ReferenceIdeal_pre_finite_input (hKernelIdeal := hKernelIdeal) (hReferenceIdeal := hReferenceIdeal) (hPre_finite_input := hPre_finite_input)
-- ==== Pre_finite_input.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  main_v3
-- ==== Kernel.lean ====
abbrev S16x3x512x512 : Shape := ⟨4, ![16, 3, 512, 512]⟩
abbrev S12x1x128 : Shape := ⟨3, ![12, 1, 128]⟩
abbrev S6x3x512x512 : Shape := ⟨4, ![6, 3, 512, 512]⟩
abbrev S6 : Shape := ⟨1, ![6]⟩
abbrev S1 : Shape := ⟨1, ![1]⟩
abbrev S_ : Shape := ⟨0, ![]⟩
abbrev S1x1x512x512 : Shape := ⟨4, ![1, 1, 512, 512]⟩
abbrev S512x512 : Shape := ⟨2, ![512, 512]⟩
abbrev S1x3x512x512 : Shape := ⟨4, ![1, 3, 512, 512]⟩
abbrev S3x512x512 : Shape := ⟨3, ![3, 512, 512]⟩
abbrev S1x512x512 : Shape := ⟨3, ![1, 512, 512]⟩
abbrev S1x1x1 : Shape := ⟨3, ![1, 1, 1]⟩
abbrev S512 : Shape := ⟨1, ![512]⟩
abbrev S1x512 : Shape := ⟨2, ![1, 512]⟩
abbrev S1x1 : Shape := ⟨2, ![1, 1]⟩
abbrev S1x128 : Shape := ⟨2, ![1, 128]⟩
abbrev S1x1x128 : Shape := ⟨3, ![1, 1, 128]⟩
abbrev S12x128 : Shape := ⟨2, ![12, 128]⟩
abbrev S32x16 : Shape := ⟨2, ![32, 16]⟩
abbrev S3x3x16x512 : Shape := ⟨4, ![3, 3, 16, 512]⟩
abbrev S16 : Shape := ⟨1, ![16]⟩
abbrev S1x1x16x512 : Shape := ⟨4, ![1, 1, 16, 512]⟩
abbrev S16x512 : Shape := ⟨2, ![16, 512]⟩
abbrev S1x1x1x16 : Shape := ⟨4, ![1, 1, 1, 16]⟩
abbrev S1x16 : Shape := ⟨2, ![1, 16]⟩
abbrev S4x8x16 : Shape := ⟨3, ![4, 8, 16]⟩
abbrev S12x1 : Shape := ⟨2, ![12, 1]⟩
abbrev S12 : Shape := ⟨1, ![12]⟩
abbrev S4x8x1 : Shape := ⟨3, ![4, 8, 1]⟩
abbrev S4x8 : Shape := ⟨2, ![4, 8]⟩
abbrev S4 : Shape := ⟨1, ![4]⟩
abbrev S16x1 : Shape := ⟨2, ![16, 1]⟩
abbrev S16x5 : Shape := ⟨2, ![16, 5]⟩

abbrev nBuf : Table → Nat
  | .hbm => 79
  | .local .tc .vmem => 2
  | .local .scVector .vmem => 2
  | _ => 0

abbrev bufTy : (tb : Table) → Fin (nBuf tb) → BufTy
  | .hbm, ⟨0, _⟩ => ⟨S16x3x512x512, .f32⟩
  | .hbm, ⟨1, _⟩ => ⟨S12x1x128, .f32⟩
  | .hbm, ⟨2, _⟩ => ⟨S12x128, .f32⟩
  | .hbm, ⟨3, _⟩ => ⟨S32x16, .f32⟩
  | .hbm, ⟨4, _⟩ => ⟨S4x8x16, .f32⟩
  | .hbm, ⟨5, _⟩ => ⟨S12x1, .f32⟩
  | .hbm, ⟨6, _⟩ => ⟨S12, .f32⟩
  | .hbm, ⟨7, _⟩ => ⟨S4x8x1, .f32⟩
  | .hbm, ⟨8, _⟩ => ⟨S4x8, .f32⟩
  | .hbm, ⟨9, _⟩ => ⟨S_, .f32⟩
  | .hbm, ⟨10, _⟩ => ⟨S4, .f32⟩
  | .hbm, ⟨11, _⟩ => ⟨S16, .f32⟩
  | .hbm, ⟨12, _⟩ => ⟨S12x1, .f32⟩
  | .hbm, ⟨13, _⟩ => ⟨S12, .f32⟩
  | .hbm, ⟨14, _⟩ => ⟨S4x8x1, .f32⟩
  | .hbm, ⟨15, _⟩ => ⟨S4x8, .f32⟩
  | .hbm, ⟨16, _⟩ => ⟨S_, .f32⟩
  | .hbm, ⟨17, _⟩ => ⟨S4, .f32⟩
  | .hbm, ⟨18, _⟩ => ⟨S16, .f32⟩
  | .hbm, ⟨19, _⟩ => ⟨S12x1, .f32⟩
  | .hbm, ⟨20, _⟩ => ⟨S12, .f32⟩
  | .hbm, ⟨21, _⟩ => ⟨S4x8x1, .f32⟩
  | .hbm, ⟨22, _⟩ => ⟨S4x8, .f32⟩
  | .hbm, ⟨23, _⟩ => ⟨S_, .f32⟩
  | .hbm, ⟨24, _⟩ => ⟨S4, .f32⟩
  | .hbm, ⟨25, _⟩ => ⟨S16, .f32⟩
  | .hbm, ⟨26, _⟩ => ⟨S12x1, .f32⟩
  | .hbm, ⟨27, _⟩ => ⟨S12, .f32⟩
  | .hbm, ⟨28, _⟩ => ⟨S4x8x1, .f32⟩
  | .hbm, ⟨29, _⟩ => ⟨S4x8, .f32⟩
  | .hbm, ⟨30, _⟩ => ⟨S_, .f32⟩
  | .hbm, ⟨31, _⟩ => ⟨S4, .f32⟩
  | .hbm, ⟨32, _⟩ => ⟨S16, .f32⟩
  | .hbm, ⟨33, _⟩ => ⟨S12x1, .f32⟩
  | .hbm, ⟨34, _⟩ => ⟨S12, .f32⟩
  | .hbm, ⟨35, _⟩ => ⟨S4x8x1, .f32⟩
  | .hbm, ⟨36, _⟩ => ⟨S4x8, .f32⟩
  | .hbm, ⟨37, _⟩ => ⟨S_, .f32⟩
  | .hbm, ⟨38, _⟩ => ⟨S4, .f32⟩
  | .hbm, ⟨39, _⟩ => ⟨S16, .f32⟩
  | .hbm, ⟨40, _⟩ => ⟨S12x1, .f32⟩
  | .hbm, ⟨41, _⟩ => ⟨S12, .f32⟩
  | .hbm, ⟨42, _⟩ => ⟨S4x8x1, .f32⟩
  | .hbm, ⟨43, _⟩ => ⟨S4x8, .f32⟩
  | .hbm, ⟨44, _⟩ => ⟨S_, .f32⟩
  | .hbm, ⟨45, _⟩ => ⟨S4, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .i1⟩
  | .hbm, ⟨50, _⟩ => ⟨S16, .f32⟩
  | .hbm, ⟨51, _⟩ => ⟨S_, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .i1⟩
  | .hbm, ⟨58, _⟩ => ⟨S16, .f32⟩
  | .hbm, ⟨59, _⟩ => ⟨S_, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S16x1, .f32⟩
  | .hbm, ⟨74, _⟩ => ⟨S16x1, .f32⟩
  | .hbm, ⟨75, _⟩ => ⟨S16x1, .f32⟩
  | .hbm, ⟨76, _⟩ => ⟨S16x1, .f32⟩
  | .hbm, ⟨77, _⟩ => ⟨S16x1, .f32⟩
  | .hbm, ⟨78, _⟩ => ⟨S16x5, .f32⟩
  | .local .tc .vmem, ⟨0, _⟩ => ⟨S12x1x128, .f32⟩
  | .local .tc .vmem, ⟨1, _⟩ => ⟨S6x3x512x512, .f32⟩
  | .local .scVector .vmem, ⟨0, _⟩ => ⟨S3x3x16x512, .f32⟩
  | .local .scVector .vmem, ⟨1, _⟩ => ⟨S16, .f32⟩
  | _, _ => ⟨S16x3x512x512, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_1 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_2 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_3 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_4 : Ref sig .tc := ⟨.hbm, 44, rfl⟩
abbrev main_v38 : Ref sig .tc := ⟨.hbm, 45, rfl⟩
abbrev main_v39 : Ref sig .tc := ⟨.hbm, 46, rfl⟩
abbrev main_cst_5 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_6 : Ref sig .tc := ⟨.hbm, 51, rfl⟩
abbrev main_call0_v0 : Ref sig .tc := ⟨.hbm, 52, rfl⟩
abbrev main_call0_v1 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_call1_v0 : Ref sig .tc := ⟨.hbm, 60, rfl⟩
abbrev main_call1_v1 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_arg0_scv : Ref sig .scVector := ⟨.hbm, 0, rfl⟩
abbrev main_v2_scv : Ref sig .scVector := ⟨.hbm, 3, rfl⟩
abbrev cc0_stg0_0 : Ref sig .tc := ⟨.vmem, 0, rfl⟩
abbrev cc0_scratch0 : Ref sig .tc := ⟨.vmem, 1, rfl⟩
abbrev cc1_scratch0 : Ref sig .scVector := ⟨.vmem, 0, rfl⟩
abbrev cc1_scratch1 : Ref sig .scVector := ⟨.vmem, 1, rfl⟩
abbrev cc0_sem0_0 : DmaSem sig := 0
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S12x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := ⟨2, ![2, 16], ![false, false]⟩

def k1_off1 (i : grid1.Coords) (c0_i32_10 : BitVec 32) : Fin 4 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v19 : BitVec 32 := Scalar.addi c12_i32 v18
  let c0_i32_11 : BitVec 32 := 0#32
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c64_i32 : BitVec 32 := 64#32
  let v30 : BitVec 32 := Scalar.muli v29 c64_i32
  let v33 : BitVec 32 := Scalar.addi v30 c0_i32_10
  let c0_i32_16 : BitVec 32 := 0#32
  ![v19.toNat, 0, v33.toNat, 0]
def k1_off2 (i : grid1.Coords) (c0_i32_10 : BitVec 32) : Fin 4 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v19 : BitVec 32 := Scalar.addi c12_i32 v18
  let c1_i32_20 : BitVec 32 := 1#32
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c64_i32 : BitVec 32 := 64#32
  let v30 : BitVec 32 := Scalar.muli v29 c64_i32
  let v33 : BitVec 32 := Scalar.addi v30 c0_i32_10
  let c0_i32_25 : BitVec 32 := 0#32
  ![v19.toNat, 1, v33.toNat, 0]
def k1_off3 (i : grid1.Coords) (c0_i32_10 : BitVec 32) : Fin 4 → Nat :=
  let c12_i32 : BitVec 32 := 12#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v19 : BitVec 32 := Scalar.addi c12_i32 v18
  let c2_i32 : BitVec 32 := 2#32
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c64_i32 : BitVec 32 := 64#32
  let v30 : BitVec 32 := Scalar.muli v29 c64_i32
  let v33 : BitVec 32 := Scalar.addi v30 c0_i32_10
  let c0_i32_33 : BitVec 32 := 0#32
  ![v19.toNat, 2, v33.toNat, 0]
@[reducible] def k1_t1_loop : Scf.Loop 32 :=
  let c0_i32_97 : BitVec 32 := 0#32
  let c16_i32_98 : BitVec 32 := 16#32
  let v108 : BitVec 32 := Scalar.addi c0_i32_97 c16_i32_98
  let c1_i32_99 : BitVec 32 := 1#32
  ⟨c0_i32_97, v108, c1_i32_99⟩
@[reducible] def k1_t2_loop : Scf.Loop 32 :=
  let c0_i32_254 : BitVec 32 := 0#32
  let c32_i32_255 : BitVec 32 := 32#32
  let v361 : BitVec 32 := Scalar.addi c0_i32_254 c32_i32_255
  let c1_i32_256 : BitVec 32 := 1#32
  ⟨c0_i32_254, v361, c1_i32_256⟩
def k1_off4 (k1_t1 : Fin k1_t1_loop.trips) (k1_t2 : Fin k1_t2_loop.trips) : Fin 4 → Nat :=
  let c0_i32_267 : BitVec 32 := 0#32
  let v392 : Index := Scalar.indexCast c0_i32_267
  let c0_i32_268 : BitVec 32 := 0#32
  let v393 : Index := Scalar.indexCast c0_i32_268
  let c0_i32_97 : BitVec 32 := 0#32
  let c1_i32_99 : BitVec 32 := 1#32
  let arg9 : BitVec 32 := Scf.iv c0_i32_97 c1_i32_99 k1_t1
  let v394 : Index := Scalar.indexCast arg9
  let c0_i32_254 : BitVec 32 := 0#32
  let c1_i32_256 : BitVec 32 := 1#32
  let arg16 : BitVec 32 := Scf.iv c0_i32_254 c1_i32_256 k1_t2
  let c16_i32_266 : BitVec 32 := 16#32
  let v391 : BitVec 32 := Scalar.muli arg16 c16_i32_266
  let v395 : Index := Scalar.indexCast v391
  ![0, 0, v394.toNat, v395.toNat]
def k1_off5 (k1_t1 : Fin k1_t1_loop.trips) (k1_t2 : Fin k1_t2_loop.trips) : Fin 4 → Nat :=
  let c0_i32_269 : BitVec 32 := 0#32
  let v397 : Index := Scalar.indexCast c0_i32_269
  let c1_i32_270 : BitVec 32 := 1#32
  let v398 : Index := Scalar.indexCast c1_i32_270
  let c0_i32_97 : BitVec 32 := 0#32
  let c1_i32_99 : BitVec 32 := 1#32
  let arg9 : BitVec 32 := Scf.iv c0_i32_97 c1_i32_99 k1_t1
  let v399 : Index := Scalar.indexCast arg9
  let c0_i32_254 : BitVec 32 := 0#32
  let c1_i32_256 : BitVec 32 := 1#32
  let arg16 : BitVec 32 := Scf.iv c0_i32_254 c1_i32_256 k1_t2
  let c16_i32_266 : BitVec 32 := 16#32
  let v391 : BitVec 32 := Scalar.muli arg16 c16_i32_266
  let v400 : Index := Scalar.indexCast v391
  ![0, 1, v399.toNat, v400.toNat]
def k1_off6 (k1_t1 : Fin k1_t1_loop.trips) (k1_t2 : Fin k1_t2_loop.trips) : Fin 4 → Nat :=
  let c0_i32_271 : BitVec 32 := 0#32
  let v402 : Index := Scalar.indexCast c0_i32_271
  let c2_i32_272 : BitVec 32 := 2#32
  let v403 : Index := Scalar.indexCast c2_i32_272
  let c0_i32_97 : BitVec 32 := 0#32
  let c1_i32_99 : BitVec 32 := 1#32
  let arg9 : BitVec 32 := Scf.iv c0_i32_97 c1_i32_99 k1_t1
  let v404 : Index := Scalar.indexCast arg9
  let c0_i32_254 : BitVec 32 := 0#32
  let c1_i32_256 : BitVec 32 := 1#32
  let arg16 : BitVec 32 := Scf.iv c0_i32_254 c1_i32_256 k1_t2
  let c16_i32_266 : BitVec 32 := 16#32
  let v391 : BitVec 32 := Scalar.muli arg16 c16_i32_266
  let v405 : Index := Scalar.indexCast v391
  ![0, 2, v404.toNat, v405.toNat]
@[reducible] def k1_t3_loop : Scf.Loop 32 :=
  let c0_i32_156 : BitVec 32 := 0#32
  let c16_i32_157 : BitVec 32 := 16#32
  let v160 : BitVec 32 := Scalar.addi c0_i32_156 c16_i32_157
  let c1_i32_158 : BitVec 32 := 1#32
  ⟨c0_i32_156, v160, c1_i32_158⟩
@[reducible] def k1_t4_loop : Scf.Loop 32 :=
  let c0_i32_254 : BitVec 32 := 0#32
  let c32_i32_255 : BitVec 32 := 32#32
  let v361 : BitVec 32 := Scalar.addi c0_i32_254 c32_i32_255
  let c1_i32_256 : BitVec 32 := 1#32
  ⟨c0_i32_254, v361, c1_i32_256⟩
def k1_off7 (k1_t3 : Fin k1_t3_loop.trips) (k1_t4 : Fin k1_t4_loop.trips) : Fin 4 → Nat :=
  let c1_i32_267 : BitVec 32 := 1#32
  let v392 : Index := Scalar.indexCast c1_i32_267
  let c0_i32_268 : BitVec 32 := 0#32
  let v393 : Index := Scalar.indexCast c0_i32_268
  let c0_i32_156 : BitVec 32 := 0#32
  let c1_i32_158 : BitVec 32 := 1#32
  let arg9 : BitVec 32 := Scf.iv c0_i32_156 c1_i32_158 k1_t3
  let v394 : Index := Scalar.indexCast arg9
  let c0_i32_254 : BitVec 32 := 0#32
  let c1_i32_256 : BitVec 32 := 1#32
  let arg16 : BitVec 32 := Scf.iv c0_i32_254 c1_i32_256 k1_t4
  let c16_i32_266 : BitVec 32 := 16#32
  let v391 : BitVec 32 := Scalar.muli arg16 c16_i32_266
  let v395 : Index := Scalar.indexCast v391
  ![1, 0, v394.toNat, v395.toNat]
def k1_off8 (k1_t3 : Fin k1_t3_loop.trips) (k1_t4 : Fin k1_t4_loop.trips) : Fin 4 → Nat :=
  let c1_i32_269 : BitVec 32 := 1#32
  let v397 : Index := Scalar.indexCast c1_i32_269
  let c1_i32_270 : BitVec 32 := 1#32
  let v398 : Index := Scalar.indexCast c1_i32_270
  let c0_i32_156 : BitVec 32 := 0#32
  let c1_i32_158 : BitVec 32 := 1#32
  let arg9 : BitVec 32 := Scf.iv c0_i32_156 c1_i32_158 k1_t3
  let v399 : Index := Scalar.indexCast arg9
  let c0_i32_254 : BitVec 32 := 0#32
  let c1_i32_256 : BitVec 32 := 1#32
  let arg16 : BitVec 32 := Scf.iv c0_i32_254 c1_i32_256 k1_t4
  let c16_i32_266 : BitVec 32 := 16#32
  let v391 : BitVec 32 := Scalar.muli arg16 c16_i32_266
  let v400 : Index := Scalar.indexCast v391
  ![1, 1, v399.toNat, v400.toNat]
def k1_off9 (k1_t3 : Fin k1_t3_loop.trips) (k1_t4 : Fin k1_t4_loop.trips) : Fin 4 → Nat :=
  let c1_i32_271 : BitVec 32 := 1#32
  let v402 : Index := Scalar.indexCast c1_i32_271
  let c2_i32_272 : BitVec 32 := 2#32
  let v403 : Index := Scalar.indexCast c2_i32_272
  let c0_i32_156 : BitVec 32 := 0#32
  let c1_i32_158 : BitVec 32 := 1#32
  let arg9 : BitVec 32 := Scf.iv c0_i32_156 c1_i32_158 k1_t3
  let v404 : Index := Scalar.indexCast arg9
  let c0_i32_254 : BitVec 32 := 0#32
  let c1_i32_256 : BitVec 32 := 1#32
  let arg16 : BitVec 32 := Scf.iv c0_i32_254 c1_i32_256 k1_t4
  let c16_i32_266 : BitVec 32 := 16#32
  let v391 : BitVec 32 := Scalar.muli arg16 c16_i32_266
  let v405 : Index := Scalar.indexCast v391
  ![1, 2, v404.toNat, v405.toNat]
@[reducible] def k1_t5_loop : Scf.Loop 32 :=
  let c0_i32_215 : BitVec 32 := 0#32
  let c16_i32_216 : BitVec 32 := 16#32
  let v212 : BitVec 32 := Scalar.addi c0_i32_215 c16_i32_216
  let c1_i32_217 : BitVec 32 := 1#32
  ⟨c0_i32_215, v212, c1_i32_217⟩
@[reducible] def k1_t6_loop : Scf.Loop 32 :=
  let c0_i32_254 : BitVec 32 := 0#32
  let c32_i32_255 : BitVec 32 := 32#32
  let v361 : BitVec 32 := Scalar.addi c0_i32_254 c32_i32_255
  let c1_i32_256 : BitVec 32 := 1#32
  ⟨c0_i32_254, v361, c1_i32_256⟩
def k1_off10 (k1_t5 : Fin k1_t5_loop.trips) (k1_t6 : Fin k1_t6_loop.trips) : Fin 4 → Nat :=
  let c2_i32_267 : BitVec 32 := 2#32
  let v392 : Index := Scalar.indexCast c2_i32_267
  let c0_i32_268 : BitVec 32 := 0#32
  let v393 : Index := Scalar.indexCast c0_i32_268
  let c0_i32_215 : BitVec 32 := 0#32
  let c1_i32_217 : BitVec 32 := 1#32
  let arg9 : BitVec 32 := Scf.iv c0_i32_215 c1_i32_217 k1_t5
  let v394 : Index := Scalar.indexCast arg9
  let c0_i32_254 : BitVec 32 := 0#32
  let c1_i32_256 : BitVec 32 := 1#32
  let arg16 : BitVec 32 := Scf.iv c0_i32_254 c1_i32_256 k1_t6
  let c16_i32_266 : BitVec 32 := 16#32
  let v391 : BitVec 32 := Scalar.muli arg16 c16_i32_266
  let v395 : Index := Scalar.indexCast v391
  ![2, 0, v394.toNat, v395.toNat]
def k1_off11 (k1_t5 : Fin k1_t5_loop.trips) (k1_t6 : Fin k1_t6_loop.trips) : Fin 4 → Nat :=
  let c2_i32_269 : BitVec 32 := 2#32
  let v397 : Index := Scalar.indexCast c2_i32_269
  let c1_i32_270 : BitVec 32 := 1#32
  let v398 : Index := Scalar.indexCast c1_i32_270
  let c0_i32_215 : BitVec 32 := 0#32
  let c1_i32_217 : BitVec 32 := 1#32
  let arg9 : BitVec 32 := Scf.iv c0_i32_215 c1_i32_217 k1_t5
  let v399 : Index := Scalar.indexCast arg9
  let c0_i32_254 : BitVec 32 := 0#32
  let c1_i32_256 : BitVec 32 := 1#32
  let arg16 : BitVec 32 := Scf.iv c0_i32_254 c1_i32_256 k1_t6
  let c16_i32_266 : BitVec 32 := 16#32
  let v391 : BitVec 32 := Scalar.muli arg16 c16_i32_266
  let v400 : Index := Scalar.indexCast v391
  ![2, 1, v399.toNat, v400.toNat]
def k1_off12 (k1_t5 : Fin k1_t5_loop.trips) (k1_t6 : Fin k1_t6_loop.trips) : Fin 4 → Nat :=
  let c2_i32_271 : BitVec 32 := 2#32
  let v402 : Index := Scalar.indexCast c2_i32_271
  let c2_i32_272 : BitVec 32 := 2#32
  let v403 : Index := Scalar.indexCast c2_i32_272
  let c0_i32_215 : BitVec 32 := 0#32
  let c1_i32_217 : BitVec 32 := 1#32
  let arg9 : BitVec 32 := Scf.iv c0_i32_215 c1_i32_217 k1_t5
  let v404 : Index := Scalar.indexCast arg9
  let c0_i32_254 : BitVec 32 := 0#32
  let c1_i32_256 : BitVec 32 := 1#32
  let arg16 : BitVec 32 := Scf.iv c0_i32_254 c1_i32_256 k1_t6
  let c16_i32_266 : BitVec 32 := 16#32
  let v391 : BitVec 32 := Scalar.muli arg16 c16_i32_266
  let v405 : Index := Scalar.indexCast v391
  ![2, 2, v404.toNat, v405.toNat]
@[reducible] def k1_t7_loop : Scf.Loop 32 :=
  let c0_i32_247 : BitVec 32 := 0#32
  let c16_i32_248 : BitVec 32 := 16#32
  let v239 : BitVec 32 := Scalar.addi c0_i32_247 c16_i32_248
  let c1_i32_249 : BitVec 32 := 1#32
  ⟨c0_i32_247, v239, c1_i32_249⟩
@[reducible] def k1_t8_loop : Scf.Loop 32 :=
  let c0_i32_254 : BitVec 32 := 0#32
  let c32_i32_255 : BitVec 32 := 32#32
  let v361 : BitVec 32 := Scalar.addi c0_i32_254 c32_i32_255
  let c1_i32_256 : BitVec 32 := 1#32
  ⟨c0_i32_254, v361, c1_i32_256⟩
def k1_off13 (k1_t7 : Fin k1_t7_loop.trips) (k1_t8 : Fin k1_t8_loop.trips) : Fin 4 → Nat :=
  let c0_i32_267 : BitVec 32 := 0#32
  let v392 : Index := Scalar.indexCast c0_i32_267
  let c0_i32_268 : BitVec 32 := 0#32
  let v393 : Index := Scalar.indexCast c0_i32_268
  let c0_i32_247 : BitVec 32 := 0#32
  let c1_i32_249 : BitVec 32 := 1#32
  let arg9 : BitVec 32 := Scf.iv c0_i32_247 c1_i32_249 k1_t7
  let v394 : Index := Scalar.indexCast arg9
  let c0_i32_254 : BitVec 32 := 0#32
  let c1_i32_256 : BitVec 32 := 1#32
  let arg16 : BitVec 32 := Scf.iv c0_i32_254 c1_i32_256 k1_t8
  let c16_i32_266 : BitVec 32 := 16#32
  let v391 : BitVec 32 := Scalar.muli arg16 c16_i32_266
  let v395 : Index := Scalar.indexCast v391
  ![0, 0, v394.toNat, v395.toNat]
def k1_off14 (k1_t7 : Fin k1_t7_loop.trips) (k1_t8 : Fin k1_t8_loop.trips) : Fin 4 → Nat :=
  let c0_i32_269 : BitVec 32 := 0#32
  let v397 : Index := Scalar.indexCast c0_i32_269
  let c1_i32_270 : BitVec 32 := 1#32
  let v398 : Index := Scalar.indexCast c1_i32_270
  let c0_i32_247 : BitVec 32 := 0#32
  let c1_i32_249 : BitVec 32 := 1#32
  let arg9 : BitVec 32 := Scf.iv c0_i32_247 c1_i32_249 k1_t7
  let v399 : Index := Scalar.indexCast arg9
  let c0_i32_254 : BitVec 32 := 0#32
  let c1_i32_256 : BitVec 32 := 1#32
  let arg16 : BitVec 32 := Scf.iv c0_i32_254 c1_i32_256 k1_t8
  let c16_i32_266 : BitVec 32 := 16#32
  let v391 : BitVec 32 := Scalar.muli arg16 c16_i32_266
  let v400 : Index := Scalar.indexCast v391
  ![0, 1, v399.toNat, v400.toNat]
def k1_off15 (k1_t7 : Fin k1_t7_loop.trips) (k1_t8 : Fin k1_t8_loop.trips) : Fin 4 → Nat :=
  let c0_i32_271 : BitVec 32 := 0#32
  let v402 : Index := Scalar.indexCast c0_i32_271
  let c2_i32_272 : BitVec 32 := 2#32
  let v403 : Index := Scalar.indexCast c2_i32_272
  let c0_i32_247 : BitVec 32 := 0#32
  let c1_i32_249 : BitVec 32 := 1#32
  let arg9 : BitVec 32 := Scf.iv c0_i32_247 c1_i32_249 k1_t7
  let v404 : Index := Scalar.indexCast arg9
  let c0_i32_254 : BitVec 32 := 0#32
  let c1_i32_256 : BitVec 32 := 1#32
  let arg16 : BitVec 32 := Scf.iv c0_i32_254 c1_i32_256 k1_t8
  let c16_i32_266 : BitVec 32 := 16#32
  let v391 : BitVec 32 := Scalar.muli arg16 c16_i32_266
  let v405 : Index := Scalar.indexCast v391
  ![0, 2, v404.toNat, v405.toNat]
def k1_off16 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_254_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x3x512x512 : Shape := ⟨4, ![16, 3, 512, 512]⟩
abbrev S_ : Shape := ⟨0, ![]⟩
abbrev S16x512x512 : Shape := ⟨3, ![16, 512, 512]⟩
abbrev S16x512 : Shape := ⟨2, ![16, 512]⟩
abbrev S512 : Shape := ⟨1, ![512]⟩
abbrev S1x512 : Shape := ⟨2, ![1, 512]⟩
abbrev S16 : Shape := ⟨1, ![16]⟩
abbrev S16x1 : Shape := ⟨2, ![16, 1]⟩
abbrev S16x2 : Shape := ⟨2, ![16, 2]⟩
abbrev S16x1x512x512 : Shape := ⟨4, ![16, 1, 512, 512]⟩
abbrev S16x4 : Shape := ⟨2, ![16, 4]⟩
abbrev S16x5 : Shape := ⟨2, ![16, 5]⟩

abbrev nBuf : Space → Nat
  | .hbm => 136
  | .vmem => 0
  | .smem => 0
  | _ => 0

abbrev hbmTy0_0 (i : Nat) : BufTy := match i % 128 with
  | 0 => ⟨S16x3x512x512, .f32⟩
  | 1 => ⟨S16x3x512x512, .i32⟩
  | 2 => ⟨S_, .f32⟩
  | 3 => ⟨S_, .i32⟩
  | 4 => ⟨S16x512x512, .f32⟩
  | 5 => ⟨S16x512x512, .i32⟩
  | 6 => ⟨S_, .i32⟩
  | 7 => ⟨S16x512x512, .i32⟩
  | 8 => ⟨S16x512x512, .i1⟩
  | 9 => ⟨S_, .i1⟩
  | 10 => ⟨S16x512, .i1⟩
  | 11 => ⟨S512, .i32⟩
  | 12 => ⟨S1x512, .i32⟩
  | 13 => ⟨S_, .i32⟩
  | 14 => ⟨S_, .i32⟩
  | 15 => ⟨S16x512, .i32⟩
  | 16 => ⟨S16x512, .i32⟩
  | 17 => ⟨S16x512, .i32⟩
  | 18 => ⟨S_, .i32⟩
  | 19 => ⟨S16, .i32⟩
  | 20 => ⟨S_, .i32⟩
  | 21 => ⟨S_, .i32⟩
  | 22 => ⟨S16x512, .i32⟩
  | 23 => ⟨S16x512, .i32⟩
  | 24 => ⟨S16x512, .i32⟩
  | 25 => ⟨S_, .i32⟩
  | 26 => ⟨S16, .i32⟩
  | 27 => ⟨S_, .i1⟩
  | 28 => ⟨S16, .i1⟩
  | 29 => ⟨S_, .i32⟩
  | 30 => ⟨S_, .i32⟩
  | 31 => ⟨S16, .i32⟩
  | 32 => ⟨S16, .i32⟩
  | 33 => ⟨S_, .i32⟩
  | 34 => ⟨S_, .i32⟩
  | 35 => ⟨S16, .i32⟩
  | 36 => ⟨S16, .i32⟩
  | 37 => ⟨S16x1, .i32⟩
  | 38 => ⟨S16x1, .i32⟩
  | 39 => ⟨S16x2, .i32⟩
  | 40 => ⟨S16x2, .f32⟩
  | 41 => ⟨S_, .i32⟩
  | 42 => ⟨S16x512x512, .i32⟩
  | 43 => ⟨S16x512x512, .i1⟩
  | 44 => ⟨S_, .i1⟩
  | 45 => ⟨S16x512, .i1⟩
  | 46 => ⟨S512, .i32⟩
  | 47 => ⟨S1x512, .i32⟩
  | 48 => ⟨S_, .i32⟩
  | 49 => ⟨S_, .i32⟩
  | 50 => ⟨S16x512, .i32⟩
  | 51 => ⟨S16x512, .i32⟩
  | 52 => ⟨S16x512, .i32⟩
  | 53 => ⟨S_, .i32⟩
  | 54 => ⟨S16, .i32⟩
  | 55 => ⟨S_, .i32⟩
  | 56 => ⟨S_, .i32⟩
  | 57 => ⟨S16x512, .i32⟩
  | 58 => ⟨S16x512, .i32⟩
  | 59 => ⟨S16x512, .i32⟩
  | 60 => ⟨S_, .i32⟩
  | 61 => ⟨S16, .i32⟩
  | 62 => ⟨S_, .i1⟩
  | 63 => ⟨S16, .i1⟩
  | 64 => ⟨S_, .i32⟩
  | 65 => ⟨S_, .i32⟩
  | 66 => ⟨S16, .i32⟩
  | 67 => ⟨S16, .i32⟩
  | 68 => ⟨S_, .i32⟩
  | 69 => ⟨S_, .i32⟩
  | 70 => ⟨S16, .i32⟩
  | 71 => ⟨S16, .i32⟩
  | 72 => ⟨S16x1, .i32⟩
  | 73 => ⟨S16x1, .i32⟩
  | 74 => ⟨S16x2, .i32⟩
  | 75 => ⟨S16x2, .f32⟩
  | 76 => ⟨S16x1, .f32⟩
  | 77 => ⟨S16, .f32⟩
  | 78 => ⟨S16x1, .f32⟩
  | 79 => ⟨S16, .f32⟩
  | 80 => ⟨S16, .f32⟩
  | 81 => ⟨S16x1, .f32⟩
  | 82 => ⟨S16x1, .f32⟩
  | 83 => ⟨S16, .f32⟩
  | 84 => ⟨S16x1, .f32⟩
  | 85 => ⟨S16, .f32⟩
  | 86 => ⟨S16, .f32⟩
  | 87 => ⟨S16x1, .f32⟩
  | 88 => ⟨S_, .f32⟩
  | 89 => ⟨S16x1, .f32⟩
  | 90 => ⟨S16x1, .f32⟩
  | 91 => ⟨S16x1, .f32⟩
  | 92 => ⟨S_, .f32⟩
  | 93 => ⟨S16x512x512, .f32⟩
  | 94 => ⟨S_, .f32⟩
  | 95 => ⟨S16x512x512, .f32⟩
  | 96 => ⟨S16x512x512, .f32⟩
  | 97 => ⟨S16x1x512x512, .f32⟩
  | 98 => ⟨S16x3x512x512, .f32⟩
  | 99 => ⟨S16x3x512x512, .f32⟩
  | 100 => ⟨S16x3x512x512, .f32⟩
  | 101 => ⟨S_, .f32⟩
  | 102 => ⟨S16x512x512, .f32⟩
  | 103 => ⟨S16x1x512x512, .f32⟩
  | 104 => ⟨S16x3x512x512, .f32⟩
  | 105 => ⟨S16x3x512x512, .f32⟩
  | 106 => ⟨S16x1x512x512, .f32⟩
  | 107 => ⟨S16x512x512, .f32⟩
  | 108 => ⟨S16x1x512x512, .f32⟩
  | 109 => ⟨S16x512x512, .f32⟩
  | 110 => ⟨S_, .f32⟩
  | 111 => ⟨S16, .f32⟩
  | 112 => ⟨S_, .f32⟩
  | 113 => ⟨S16, .f32⟩
  | 114 => ⟨S16, .f32⟩
  | 115 => ⟨S16x1, .f32⟩
  | 116 => ⟨S_, .f32⟩
  | 117 => ⟨S16, .f32⟩
  | 118 => ⟨S_, .f32⟩
  | 119 => ⟨S16, .f32⟩
  | 120 => ⟨S16, .f32⟩
  | 121 => ⟨S16x1, .f32⟩
  | 122 => ⟨S_, .f32⟩
  | 123 => ⟨S16, .f32⟩
  | 124 => ⟨S_, .f32⟩
  | 125 => ⟨S16, .f32⟩
  | 126 => ⟨S16, .f32⟩
  | 127 => ⟨S16x1, .f32⟩
  | _ => ⟨S16x3x512x512, .f32⟩

abbrev hbmTy0_1 (i : Nat) : BufTy := match i % 128 with
  | 0 => ⟨S_, .f32⟩
  | 1 => ⟨S16, .f32⟩
  | 2 => ⟨S_, .f32⟩
  | 3 => ⟨S16, .f32⟩
  | 4 => ⟨S16, .f32⟩
  | 5 => ⟨S16x1, .f32⟩
  | 6 => ⟨S16x4, .f32⟩
  | 7 => ⟨S16x5, .f32⟩
  | _ => ⟨S16x3x512x512, .f32⟩

abbrev hbmTy (i : Nat) : BufTy := match i / 128 with
  | 0 => hbmTy0_0 i
  | 1 => hbmTy0_1 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_c_3 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_v8 : Ref sig .tc := ⟨.hbm, 24, rfl⟩
abbrev main_c_4 : Ref sig .tc := ⟨.hbm, 25, rfl⟩
abbrev main_v9 : Ref sig .tc := ⟨.hbm, 26, rfl⟩
abbrev main_c_5 : Ref sig .tc := ⟨.hbm, 27, rfl⟩
abbrev main_v10 : Ref sig .tc := ⟨.hbm, 28, rfl⟩
abbrev main_c_6 : Ref sig .tc := ⟨.hbm, 29, rfl⟩
abbrev main_call3_v0 : Ref sig .tc := ⟨.hbm, 30, rfl⟩
abbrev main_call3_v1 : Ref sig .tc := ⟨.hbm, 31, rfl⟩
abbrev main_v11 : Ref sig .tc := ⟨.hbm, 32, rfl⟩
abbrev main_c_7 : Ref sig .tc := ⟨.hbm, 33, rfl⟩
abbrev main_call4_v0 : Ref sig .tc := ⟨.hbm, 34, rfl⟩
abbrev main_call4_v1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c_8 : Ref sig .tc := ⟨.hbm, 41, rfl⟩
abbrev main_v17 : Ref sig .tc := ⟨.hbm, 42, rfl⟩
abbrev main_v18 : Ref sig .tc := ⟨.hbm, 43, rfl⟩
abbrev main_c_9 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_10 : Ref sig .tc := ⟨.hbm, 48, rfl⟩
abbrev main_call5_v0 : Ref sig .tc := ⟨.hbm, 49, rfl⟩
abbrev main_call5_v1 : Ref sig .tc := ⟨.hbm, 50, rfl⟩
abbrev main_call5_v2 : Ref sig .tc := ⟨.hbm, 51, rfl⟩
abbrev main_v22 : Ref sig .tc := ⟨.hbm, 52, rfl⟩
abbrev main_c_11 : Ref sig .tc := ⟨.hbm, 53, rfl⟩
abbrev main_v23 : Ref sig .tc := ⟨.hbm, 54, rfl⟩
abbrev main_c_12 : Ref sig .tc := ⟨.hbm, 55, rfl⟩
abbrev main_call6_v0 : Ref sig .tc := ⟨.hbm, 56, rfl⟩
abbrev main_call6_v1 : Ref sig .tc := ⟨.hbm, 57, rfl⟩
abbrev main_call6_v2 : Ref sig .tc := ⟨.hbm, 58, rfl⟩
abbrev main_v24 : Ref sig .tc := ⟨.hbm, 59, rfl⟩
abbrev main_c_13 : Ref sig .tc := ⟨.hbm, 60, rfl⟩
abbrev main_v25 : Ref sig .tc := ⟨.hbm, 61, rfl⟩
abbrev main_c_14 : Ref sig .tc := ⟨.hbm, 62, rfl⟩
abbrev main_v26 : Ref sig .tc := ⟨.hbm, 63, rfl⟩
abbrev main_c_15 : Ref sig .tc := ⟨.hbm, 64, rfl⟩
abbrev main_call7_v0 : Ref sig .tc := ⟨.hbm, 65, rfl⟩
abbrev main_call7_v1 : Ref sig .tc := ⟨.hbm, 66, rfl⟩
abbrev main_v27 : Ref sig .tc := ⟨.hbm, 67, rfl⟩
abbrev main_c_16 : Ref sig .tc := ⟨.hbm, 68, rfl⟩
abbrev main_call8_v0 : Ref sig .tc := ⟨.hbm, 69, rfl⟩
abbrev main_call8_v1 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_17 : Ref sig .tc := ⟨.hbm, 92, rfl⟩
abbrev main_v48 : Ref sig .tc := ⟨.hbm, 93, rfl⟩
abbrev main_cst_18 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_19 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_20 : Ref sig .tc := ⟨.hbm, 110, rfl⟩
abbrev main_v63 : Ref sig .tc := ⟨.hbm, 111, rfl⟩
abbrev main_cst_21 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_22 : Ref sig .tc := ⟨.hbm, 116, rfl⟩
abbrev main_v67 : Ref sig .tc := ⟨.hbm, 117, rfl⟩
abbrev main_cst_23 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_24 : Ref sig .tc := ⟨.hbm, 122, rfl⟩
abbrev main_v71 : Ref sig .tc := ⟨.hbm, 123, rfl⟩
abbrev main_cst_25 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_26 : Ref sig .tc := ⟨.hbm, 128, rfl⟩
abbrev main_v75 : Ref sig .tc := ⟨.hbm, 129, rfl⟩
abbrev main_cst_27 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩

abbrev nD : Nat := 1
abbrev τ : Topo := Topo.v7x

variable {F : FTy → Type} [FloatOps F]
-- ==== Proof.TcProg.lean ====
/-
  The TensorCore kernel of the idealized program, written once more with one definition per kind of step: `issue b s`
  starts the three channel copies of image `b` into ring slot `s`, `settle b s` waits for them, `image b s` reads the
  slot, computes the image's six numbers and stores them in row `b` of the output. `tcProg_eq` says that the printed
  kernel is this program.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Mask

open Cert.KernelIdeal Cert.KernelIdeal.Gen
open Idealize.ShloMosaic Idealize.SL.Sem

variable {F : FTy → Type} [FloatOps F]

theorem xInb {b c : ℕ} (hb : b < 16) (hc : c < 3) :
    ∀ a, (![b, c, 0, 0] : Fin 4 → ℕ) a + S1x1x512x512.size a ≤ S16x3x512x512.size a := by
  intro a; fin_cases a <;> simp [S1x1x512x512, S16x3x512x512] <;> omega

theorem slotInb {s c : ℕ} (hs : s < 6) (hc : c < 3) :
    ∀ a, (![s, c, 0, 0] : Fin 4 → ℕ) a + S1x1x512x512.size a ≤ S6x3x512x512.size a := by
  intro a; fin_cases a <;> simp [S1x1x512x512, S6x3x512x512] <;> omega

theorem ringInb {s : ℕ} (hs : s < 6) :
    ∀ a, (![s, 0, 0, 0] : Fin 4 → ℕ) a + S1x3x512x512.size a ≤ S6x3x512x512.size a := by
  intro a; fin_cases a <;> simp [S1x3x512x512, S6x3x512x512] <;> omega

theorem semInb {s : ℕ} (hs : s < 6) : ∀ a, (![s] : Fin 1 → ℕ) a + S1.size a ≤ S6.size a := by
  intro a; fin_cases a; simp [S1, S6]; omega

theorem outInb {b : ℕ} (hb : b < 12) :
    ∀ a, (![b, 0, 0] : Fin 3 → ℕ) a + S1x1x128.size a ≤ S12x1x128.size a := by
  intro a; fin_cases a <;> simp [S1x1x128, S12x1x128] <;> omega

/-- The six numbers of one image (in lanes 0 to 5 of a row), of its three channels. -/
def imgPay (x : Vec F S1x3x512x512 .f32) : FVec F S1x1x128 .f32 :=
  k0_pay17 (k0_pay10 (k0_pay9 x)) (k0_pay11 (k0_pay7 x) (k0_pay8 x)) (k0_pay13 (k0_pay4 x) (k0_pay5 x)) k0_pay14
    (k0_pay15 (k0_pay4 x) (k0_pay5 x)) (k0_pay16 (k0_pay4 x) (k0_pay5 x))

section

variable (a0 : Memref sig .tc .hbm S16x3x512x512 .f32) (a1 : Memref sig .tc .vmem S12x1x128 .f32)
  (a2 : Memref sig .tc .vmem S6x3x512x512 .f32) (a3 : DmaSems sig S6)

/-- Slot `s`'s semaphore. -/
def slotSem (s : ℕ) (hs : s < 6) : DmaSems sig S_ :=
  (a3.slice (Rect.unit (s := S6) ![s] S1.size (semInb hs))).squeeze S_ squeezes_S1_S_

/-- Channel `c` of image `b` in `x`. -/
def xWin (b c : ℕ) (hb : b < 16) (hc : c < 3) : Memref sig .tc .hbm S512x512 .f32 :=
  (a0.slice (Rect.unit (s := S16x3x512x512) ![b, c, 0, 0] S1x1x512x512.size (xInb hb hc)) (fun _ => rfl)).squeeze
    S512x512 squeezes_S1x1x512x512_S512x512

/-- Channel `c` of slot `s` of the ring. -/
def slotWin (s c : ℕ) (hs : s < 6) (hc : c < 3) : Memref sig .tc .vmem S512x512 .f32 :=
  (a2.slice (Rect.unit (s := S6x3x512x512) ![s, c, 0, 0] S1x1x512x512.size (slotInb hs hc)) (fun _ => rfl)).squeeze
    S512x512 squeezes_S1x1x512x512_S512x512

def issue1 (b s c : ℕ) (hb : b < 16) (hs : s < 6) (hc : c < 3) :
    Prog (TpuEff nD τ sig (Elt F) Λ₀ .tc) PUnit :=
  Prog.lift (.enqueueDma (xWin a0 b c hb hc) (.here (slotWin a2 s c hs hc)) (.dma (slotSem a3 s hs).sem)
    ((View.wordExact_bits rfl).reshape _ _) ((View.wordExact_bits rfl).reshape _ _) ⟨Or.inl rfl, trivial⟩)

def settle1 (b s c : ℕ) (hb : b < 16) (hs : s < 6) (hc : c < 3) :
    Prog (TpuEff nD τ sig (Elt F) Λ₀ .tc) PUnit :=
  Prog.lift (.waitDma2 (slotSem a3 s hs).sem (xWin a0 b c hb hc) (slotWin a2 s c hs hc)
    ((View.wordExact_bits rfl).reshape _ _) ((View.wordExact_bits rfl).reshape _ _))

def issue (b s : ℕ) (hb : b < 16) (hs : s < 6) : Prog (TpuEff nD τ sig (Elt F) Λ₀ .tc) PUnit := do
  issue1 a0 a2 a3 b s 0 hb hs (by decide)
  issue1 a0 a2 a3 b s 1 hb hs (by decide)
  issue1 a0 a2 a3 b s 2 hb hs (by decide)

def settle (b s : ℕ) (hb : b < 16) (hs : s < 6) : Prog (TpuEff nD τ sig (Elt F) Λ₀ .tc) PUnit := do
  settle1 a0 a2 a3 b s 0 hb hs (by decide)
  settle1 a0 a2 a3 b s 1 hb hs (by decide)
  settle1 a0 a2 a3 b s 2 hb hs (by decide)

def image (b s : ℕ) (hb : b < 12) (hs : s < 6) : Prog (TpuEff nD τ sig (Elt F) Λ₀ .tc) PUnit := do
  let x : Vec F S1x3x512x512 .f32 ← Prog.lift (.load a2 (Rect.unit (s := S6x3x512x512) ![s, 0, 0, 0] S1x3x512x512.size
    (ringInb hs)).toLoadRect (View.loadsAt_vmem h_S1x3x512x512))
  let _old : Vec F S1x1x128 .f32 ← Prog.lift (.load a1 (Rect.unit (s := S12x1x128) ![b, 0, 0] S1x1x128.size
    (outInb hb)).toLoadRect (View.loadsAt_vmem h_S1x1x128))
  Prog.lift (.store a1 (Rect.unit (s := S12x1x128) ![b, 0, 0] S1x1x128.size (outInb hb)) (imgPay x) Finset.univ
    (View.stores_vmem_bits_univ h_S1x1x128 rfl) (.inl rfl))

/-- One image of the first six: wait, compute, and start the copies of the image six later. -/
def early (b : ℕ) (hb : b < 6) : Prog (TpuEff nD τ sig (Elt F) Λ₀ .tc) PUnit := do
  settle a0 a2 a3 b b (by omega) hb
  image a1 a2 b b (by omega) hb
  issue a0 a2 a3 (b + 6) b (by omega) hb

/-- One image of the last six. -/
def late (b : ℕ) (hb : b < 6) : Prog (TpuEff nD τ sig (Elt F) Λ₀ .tc) PUnit := do
  settle a0 a2 a3 (b + 6) b (by omega) hb
  image a1 a2 (b + 6) b (by omega) hb

def tcProg : Prog (TpuEff nD τ sig (Elt F) Λ₀ .tc) PUnit := do
  issue a0 a2 a3 0 0 (by decide) (by decide)
  issue a0 a2 a3 1 1 (by decide) (by decide)
  issue a0 a2 a3 2 2 (by decide) (by decide)
  issue a0 a2 a3 3 3 (by decide) (by decide)
  issue a0 a2 a3 4 4 (by decide) (by decide)
  issue a0 a2 a3 5 5 (by decide) (by decide)
  early a0 a1 a2 a3 0 (by decide)
  early a0 a1 a2 a3 1 (by decide)
  early a0 a1 a2 a3 2 (by decide)
  early a0 a1 a2 a3 3 (by decide)
  early a0 a1 a2 a3 4 (by decide)
  early a0 a1 a2 a3 5 (by decide)
  late a0 a1 a2 a3 0 (by decide)
  late a0 a1 a2 a3 1 (by decide)
  late a0 a1 a2 a3 2 (by decide)
  late a0 a1 a2 a3 3 (by decide)
  late a0 a1 a2 a3 4 (by decide)
  late a0 a1 a2 a3 5 (by decide)

end

set_option maxRecDepth 65536 in
/-- The printed TensorCore kernel is `tcProg`. -/
theorem tcProg_eq (a0 : Memref sig .tc .hbm S16x3x512x512 .f32) (h0 : a0.IsWhole)
    (a1 : Memref sig .tc .vmem S12x1x128 .f32) (h1 : a1.IsWhole)
    (a2 : Memref sig .tc .vmem S6x3x512x512 .f32) (h2 : a2.IsWhole) (a3 : DmaSems sig S6) :
    cc0__tc_kernel (F := F) a0 h0 a1 h1 a2 h2 a3 = tcProg a0 a1 a2 a3 := rfl

end Cert.Proof.Mask

end
-- ==== Proof.ScProg.lean ====
/-
  The SparseCore kernel of the idealized program at one (SparseCore, tile), written once more with one definition per
  kind of step: `scIssue` starts the three channel copies of one chunk of sixteen image rows, `scSettle` waits for
  them, `rows` runs over the chunk's rows and their groups of sixteen lanes. `scProg_eq` says that the printed kernel
  is this program.
-/
module

public import proofs.«01_k».proof.Proof.TcProg

@[expose] public section

noncomputable section

namespace Cert.Proof.Mask

open Cert.KernelIdeal Cert.KernelIdeal.Gen
open Idealize.ShloMosaic Idealize.SL.Sem

variable {F : FTy → Type} [FloatOps F]

/-- The lanes' sums of the two probabilities, and the lowest and highest rows of the two labels. -/
abbrev Acc (F : FTy → Type) : Type := FVec F S16 .f32 × FVec F S16 .f32 × F .f32 × F .f32 × F .f32 × F .f32

/-- The same within a row: the sums, and which lanes have met each label. -/
abbrev Grp (F : FTy → Type) : Type := FVec F S16 .f32 × FVec F S16 .f32 × IVec S16 1 × IVec S16 1

/-- Whether some lane is set, as the kernel asks. -/
def anyLane (v : IVec S16 1) : BitVec 1 :=
  Scalar.cmpi .sgt (extractAt ![15] (xori (scan .max (xori (select v (broadcast S16 1#32) (broadcast S16 0#32))
    (broadcast S16 2147483648#32))) (broadcast S16 2147483648#32)) inpos_S16_p15) 0#32

/-- The image row at trip `t` of the chunk that starts `k` rows after the tile's first. -/
def rowNum (r0 k : BitVec 32) (t : Fin k1_t1_loop.trips) : F .f32 :=
  Scalar.sitofp .f32 (Scalar.addi (Scalar.addi r0 k) (Scf.iv 0#32 1#32 t))

def rowLow (r0 k : BitVec 32) (t : Fin k1_t1_loop.trips) (y : F .f32) (v : IVec S16 1) : F .f32 :=
  Scalar.select (anyLane v) (Scalar.minimumf y (rowNum r0 k t)) y

def rowHigh (r0 k : BitVec 32) (t : Fin k1_t1_loop.trips) (y : F .f32) (v : IVec S16 1) : F .f32 :=
  Scalar.select (anyLane v) (rowNum r0 k t) y

def grpStep (g : Grp F) (x0 x1 x2 : Vec F S1x1x1x16 .f32) : Grp F :=
  (k1_pay9 g.1 x0 x1 x2, k1_pay10 g.2.1 x0 x1 x2, k1_pay11 g.2.2.1 x0 x1 x2, k1_pay12 g.2.2.2 x0 x1 x2)

def rowStep (r0 k : BitVec 32) (t : Fin k1_t1_loop.trips) (a : Acc F) (g : Grp F) : Acc F :=
  (g.1, g.2.1, rowLow r0 k t a.2.2.1 g.2.2.1, rowHigh r0 k t a.2.2.2.1 g.2.2.1, rowLow r0 k t a.2.2.2.2.1 g.2.2.2,
    rowHigh r0 k t a.2.2.2.2.2 g.2.2.2)

/-- What a tile's accumulators start from. -/
def acc0 : Acc F :=
  (k1_pay1, k1_pay1, Scalar.ofBits .f32 0x44000000#32, Scalar.ofBits .f32 0xBF800000#32,
    Scalar.ofBits .f32 0x44000000#32, Scalar.ofBits .f32 0xBF800000#32)

/-- A tile's row of the output, of its accumulators. -/
def accPay (a : Acc F) : FVec F S16 .f32 :=
  k1_pay67 a.2.1 (iota .scVector S16 32 [0] iota_S16_d0_w32_scVector)
    (k1_pay64 a.2.2.2.2.1 a.2.2.2.2.2 (iota .scVector S16 32 [0] iota_S16_d0_w32_scVector)
      (k1_pay63 k1_pay1 a.2.2.1 a.2.2.2.1))
    (k1_pay65 (iota .scVector S16 32 [0] iota_S16_d0_w32_scVector)) (k1_pay66 a.1)

/-- The first image row of a tile, as the kernel computes it. -/
def row0 (i : grid1.Coords) : BitVec 32 :=
  let w : BitVec 32 := Scalar.addi (Scalar.muli (BitVec.ofNat 32 (i 0).val) 16#32) (BitVec.ofNat 32 (i 1).val)
  let e : BitVec 32 := Scalar.select (Scalar.cmpi .eq 8#32 0#32) 1#32 8#32
  let r : BitVec 32 := Scalar.remsi w e
  Scalar.muli (Scalar.select (Scalar.andi (Scalar.xori (Scalar.cmpi .slt r 0#32) (Scalar.cmpi .slt e 0#32))
    (Scalar.cmpi .ne r 0#32)) (Scalar.addi r e) r) 64#32

/-- Where a group of sixteen lanes lies in the scratch. -/
def grpOff (s c : ℕ) (t : Fin k1_t1_loop.trips) (u : Fin k1_t2_loop.trips) : Fin 4 → ℕ :=
  ![s, c, (Scalar.indexCast (Scf.iv 0#32 1#32 t) : Index).toNat,
    (Scalar.indexCast (Scalar.muli (Scf.iv 0#32 1#32 u) 16#32) : Index).toNat]

theorem trips_rows : k1_t1_loop.trips = 16 := by decide
theorem trips_grps : k1_t2_loop.trips = 32 := by decide

theorem grpOff_eq (s c : ℕ) (t : Fin k1_t1_loop.trips) (u : Fin k1_t2_loop.trips) :
    grpOff s c t u = ![s, c, t.val, 16 * u.val] := by
  have ht : t.val < 16 := lt_of_lt_of_eq t.isLt trips_rows
  have hu : u.val < 32 := lt_of_lt_of_eq u.isLt trips_grps
  have e1 : (Scalar.indexCast (Scf.iv 0#32 1#32 t.val) : Index).toNat = t.val := by
    generalize t.val = n at ht; interval_cases n <;> decide
  have e2 : (Scalar.indexCast (Scalar.muli (Scf.iv 0#32 1#32 u.val) 16#32) : Index).toNat = 16 * u.val := by
    generalize u.val = n at hu; interval_cases n <;> decide
  unfold grpOff; rw [e1, e2]

theorem grpInb {s c : ℕ} (hs : s < 3) (hc : c < 3) (t : Fin k1_t1_loop.trips) (u : Fin k1_t2_loop.trips) :
    ∀ a, grpOff s c t u a + S1x1x1x16.size a ≤ S3x3x16x512.size a := by
  have ht : t.val < 16 := lt_of_lt_of_eq t.isLt trips_rows
  have hu : u.val < 32 := lt_of_lt_of_eq u.isLt trips_grps
  rw [grpOff_eq]
  intro a; fin_cases a <;> simp [S1x1x1x16, S3x3x16x512] <;> omega

theorem bufInb {s c : ℕ} (hs : s < 3) (hc : c < 3) :
    ∀ a, (![s, c, 0, 0] : Fin 4 → ℕ) a + S1x1x16x512.size a ≤ S3x3x16x512.size a := by
  intro a; fin_cases a <;> simp [S1x1x16x512, S3x3x16x512] <;> omega

section

variable (i : grid1.Coords) (a2 : Memref sig .scVector .hbm S16x3x512x512 .f32)
  (a3 : Memref sig .scVector .hbm S32x16 .f32) (h3 : a3.IsWhole) (a4 : Memref sig .scVector .vmem S3x3x16x512 .f32)
  (a5 : Memref sig .scVector .vmem S16 .f32) (h5 : a5.IsWhole) (q0 q1 q2 qo : DmaSems sig S_)

abbrev ScP (F : FTy → Type) (i : grid1.Coords) (α : Type) : Type _ :=
  Prog (TpuEff nD τ sig (Elt F) Λ₀ (.scVector ((i 0).castLE hcore1) ((i 1).castLE hsub1))) α

/-- Channel `c` of a slot of the scratch. -/
def bufWin (s c : ℕ) (hs : s < 3) (hc : c < 3) : Memref sig .scVector .vmem S16x512 .f32 :=
  (a4.slice (Rect.unit (s := S3x3x16x512) ![s, c, 0, 0] S1x1x16x512.size (bufInb hs hc)) (fun _ => rfl)).squeeze
    S16x512 squeezes_S1x1x16x512_S16x512

/-- Chunk `r`'s rows of the tile's image, channel 0, 1 and 2. -/
def srcWin0 (r : Fin 4) : Memref sig .scVector .hbm S16x512 .f32 :=
  (a2.slice (Rect.unit (s := S16x3x512x512) (k1_off1 i (BitVec.ofNat 32 (16 * r.val))) S1x1x16x512.size
    (k1_off1_inb i r)) (fun _ => rfl)).squeeze S16x512 squeezes_S1x1x16x512_S16x512
def srcWin1 (r : Fin 4) : Memref sig .scVector .hbm S16x512 .f32 :=
  (a2.slice (Rect.unit (s := S16x3x512x512) (k1_off2 i (BitVec.ofNat 32 (16 * r.val))) S1x1x16x512.size
    (k1_off2_inb i r)) (fun _ => rfl)).squeeze S16x512 squeezes_S1x1x16x512_S16x512
def srcWin2 (r : Fin 4) : Memref sig .scVector .hbm S16x512 .f32 :=
  (a2.slice (Rect.unit (s := S16x3x512x512) (k1_off3 i (BitVec.ofNat 32 (16 * r.val))) S1x1x16x512.size
    (k1_off3_inb i r)) (fun _ => rfl)).squeeze S16x512 squeezes_S1x1x16x512_S16x512

def scIssue1 (q : DmaSems sig S_) (src : Memref sig .scVector .hbm S16x512 .f32)
    (dst : Memref sig .scVector .vmem S16x512 .f32) (hs : src.view.WordExact) (hd : dst.view.WordExact) :
    ScP F i PUnit :=
  Prog.lift (.enqueueDma src (.here dst) (.dma q.sem) hs hd ⟨Or.inl rfl, trivial⟩)

def scSettle1 (q : DmaSems sig S_) (src : Memref sig .scVector .hbm S16x512 .f32)
    (dst : Memref sig .scVector .vmem S16x512 .f32) (hs : src.view.WordExact) (hd : dst.view.WordExact) :
    ScP F i PUnit :=
  Prog.lift (.waitDma2 q.sem src dst hs hd)

def scIssue (q : DmaSems sig S_) (s : ℕ) (hs : s < 3) (r : Fin 4) : ScP F i PUnit := do
  scIssue1 i q (srcWin0 i a2 r) (bufWin a4 s 0 hs (by decide)) ((View.wordExact_bits rfl).reshape _ _)
    ((View.wordExact_bits rfl).reshape _ _)
  scIssue1 i q (srcWin1 i a2 r) (bufWin a4 s 1 hs (by decide)) ((View.wordExact_bits rfl).reshape _ _)
    ((View.wordExact_bits rfl).reshape _ _)
  scIssue1 i q (srcWin2 i a2 r) (bufWin a4 s 2 hs (by decide)) ((View.wordExact_bits rfl).reshape _ _)
    ((View.wordExact_bits rfl).reshape _ _)

def scSettle (q : DmaSems sig S_) (s : ℕ) (hs : s < 3) (r : Fin 4) : ScP F i PUnit := do
  scSettle1 i q (srcWin0 i a2 r) (bufWin a4 s 0 hs (by decide)) ((View.wordExact_bits rfl).reshape _ _)
    ((View.wordExact_bits rfl).reshape _ _)
  scSettle1 i q (srcWin1 i a2 r) (bufWin a4 s 1 hs (by decide)) ((View.wordExact_bits rfl).reshape _ _)
    ((View.wordExact_bits rfl).reshape _ _)
  scSettle1 i q (srcWin2 i a2 r) (bufWin a4 s 2 hs (by decide)) ((View.wordExact_bits rfl).reshape _ _)
    ((View.wordExact_bits rfl).reshape _ _)

/-- One group of sixteen lanes of row `t` in slot `s`. -/
def grpBody (s : ℕ) (hs : s < 3) (t : Fin k1_t1_loop.trips) : Fin k1_t2_loop.trips → Grp F → ScP F i (Grp F) :=
  fun u (g0, g1, g2, g3) => do
    let x0 : Vec F S1x1x1x16 .f32 ← Prog.lift (.load a4 (Rect.unit (s := S3x3x16x512) (grpOff s 0 t u) S1x1x1x16.size
      (grpInb hs (by decide) t u)).toLoadRect (View.loadsAt_vmem h_S1x1x1x16))
    let x1 : Vec F S1x1x1x16 .f32 ← Prog.lift (.load a4 (Rect.unit (s := S3x3x16x512) (grpOff s 1 t u) S1x1x1x16.size
      (grpInb hs (by decide) t u)).toLoadRect (View.loadsAt_vmem h_S1x1x1x16))
    let x2 : Vec F S1x1x1x16 .f32 ← Prog.lift (.load a4 (Rect.unit (s := S3x3x16x512) (grpOff s 2 t u) S1x1x1x16.size
      (grpInb hs (by decide) t u)).toLoadRect (View.loadsAt_vmem h_S1x1x1x16))
    pure (grpStep (g0, g1, g2, g3) x0 x1 x2)

/-- One row of the chunk in slot `s`. -/
def rowBody (s : ℕ) (hs : s < 3) (k : BitVec 32) : Fin k1_t1_loop.trips → Acc F → ScP F i (Acc F) :=
  fun t (b0, b1, b2, b3, b4, b5) => do
    let (g0, g1, g2, g3) ← Scf.Loop.for k1_t2_loop k1_t2_ok (b0, b1, k1_pay2, k1_pay2) (grpBody i a4 s hs t)
    pure (rowStep (row0 i) k t (b0, b1, b2, b3, b4, b5) (g0, g1, g2, g3))

def rows (s : ℕ) (hs : s < 3) (k : BitVec 32) (a : Acc F) : ScP F i (Acc F) :=
  Scf.Loop.for k1_t1_loop k1_t1_ok a (rowBody i a4 s hs k)

/-- The tile's row of the output. -/
def outWin : Memref sig .scVector .hbm S16 .f32 :=
  (a3.slice (Rect.unit (s := S32x16) (k1_off16 i) S1x16.size (k1_off16_inb i)) (fun _ => rfl)).squeeze S16
    squeezes_S1x16_S16

def scOut (a : Acc F) : ScP F i PUnit := do
  let _old : Vec F S16 .f32 ← Prog.lift (.load a5 (Rect.unit (s := S16) ![0] S16.size inb_S16_S16_0).toLoadRect
    (View.loadsAt_vmem h_S16))
  Prog.lift (.store a5 (Rect.unit (s := S16) ![0] S16.size inb_S16_S16_0) (accPay a) Finset.univ
    (View.stores_vmem_bits_univ h_S16 rfl) (.inl rfl))
  Prog.lift (.enqueueDma a5 (.here (outWin i a3)) (.dma qo.sem) h5.wordExact ((View.wordExact_bits rfl).reshape _ _)
    ⟨Or.inl rfl, trivial⟩)
  Prog.lift (.waitDma2 qo.sem a5 (outWin i a3) h5.wordExact ((View.wordExact_bits rfl).reshape _ _))

/-- Wait for a chunk and run over its rows. -/
def chunk (q : DmaSems sig S_) (s : ℕ) (hs : s < 3) (r : Fin 4) (k : BitVec 32) (a : Acc F) : ScP F i (Acc F) := do
  scSettle i a2 a4 q s hs r
  rows i a4 s hs k a

/-- The accumulators as the printed program passes them on. -/
abbrev Pack (F : FTy → Type) : Type :=
  Σ' (_ : FVec F S16 .f32) (_ : FVec F S16 .f32) (_ : F .f32) (_ : F .f32) (_ : F .f32), F .f32

def chunkP (q : DmaSems sig S_) (s : ℕ) (hs : s < 3) (r : Fin 4) (k : BitVec 32) (a : Acc F) : ScP F i (Pack F) := do
  scSettle i a2 a4 q s hs r
  let (b0, b1, b2, b3, b4, b5) ← rows i a4 s hs k a
  pure ⟨b0, b1, b2, b3, b4, b5⟩

def chunkQ (q : DmaSems sig S_) (s : ℕ) (hs : s < 3) (r : Fin 4) (k : BitVec 32) (a : Acc F) :
    ScP F i (Σ' (_ : FVec F S16 .f32) (_ : FVec F S16 .f32) (_ : F .f32) (_ : F .f32) (_ : IVec S16 32),
      FVec F S16 .f32) := do
  scSettle i a2 a4 q s hs r
  let (b0, b1, b2, b3, b4, b5) ← rows i a4 s hs k a
  pure ⟨b0, b1, b4, b5, iota .scVector S16 32 [0] iota_S16_d0_w32_scVector, k1_pay63 k1_pay1 b2 b3⟩

def scProg : ScP F i PUnit := do
  scIssue i a2 a4 q0 0 (by decide) 0
  scIssue i a2 a4 q1 1 (by decide) 1
  let b ← chunk i a2 a4 q0 0 (by decide) 0 0#32 acc0
  scIssue i a2 a4 q2 2 (by decide) 2
  let c ← chunk i a2 a4 q1 1 (by decide) 1 16#32 b
  scIssue i a2 a4 q0 0 (by decide) 3
  let d ← chunk i a2 a4 q2 2 (by decide) 2 32#32 c
  let e ← chunk i a2 a4 q0 0 (by decide) 3 48#32 d
  scOut i a3 a5 h5 qo e

theorem chunkP_eq (q : DmaSems sig S_) (s : ℕ) (hs : s < 3) (r : Fin 4) (k : BitVec 32) (a : Acc F) :
    chunkP i a2 a4 q s hs r k a
      = chunk i a2 a4 q s hs r k a >>= fun b => pure ⟨b.1, b.2.1, b.2.2.1, b.2.2.2.1, b.2.2.2.2.1, b.2.2.2.2.2⟩ := by
  simp only [chunkP, chunk, bind_assoc]

theorem chunkQ_eq (q : DmaSems sig S_) (s : ℕ) (hs : s < 3) (r : Fin 4) (k : BitVec 32) (a : Acc F) :
    chunkQ i a2 a4 q s hs r k a
      = chunk i a2 a4 q s hs r k a >>= fun b => pure ⟨b.1, b.2.1, b.2.2.2.2.1, b.2.2.2.2.2,
          iota .scVector S16 32 [0] iota_S16_d0_w32_scVector, k1_pay63 k1_pay1 b.2.2.1 b.2.2.2.1⟩ := by
  simp only [chunkQ, chunk, bind_assoc]

end

variable (i : grid1.Coords) (a2 : Memref sig .scVector .hbm S16x3x512x512 .f32) (h2 : a2.IsWhole)
    (a3 : Memref sig .scVector .hbm S32x16 .f32) (h3 : a3.IsWhole)
    (a4 : Memref sig .scVector .vmem S3x3x16x512 .f32) (h4 : a4.IsWhole)
    (a5 : Memref sig .scVector .vmem S16 .f32) (h5 : a5.IsWhole) (q0 q1 q2 qo : DmaSems sig S_)

theorem part4_eq : k1_part4 (F := F) i a2 h2 a3 h3 a4 h4 a5 h5 q0 q1 q2 qo (row0 i) k1_pay1 k1_pay2
    = chunkP i a2 a4 q0 0 (by decide) 0 0#32 acc0 := rfl

theorem part6_eq (b0 b1 : FVec F S16 .f32) (b2 b3 b4 b5 : F .f32) :
    k1_part6 (F := F) i a2 h2 a3 h3 a4 h4 a5 h5 q0 q1 q2 qo (row0 i) k1_pay2 b0 b1 b2 b3 b4 b5
    = chunkP i a2 a4 q1 1 (by decide) 1 16#32 (b0, b1, b2, b3, b4, b5) := rfl

theorem part8_eq (b0 b1 : FVec F S16 .f32) (b2 b3 b4 b5 : F .f32) :
    k1_part8 (F := F) i a2 h2 a3 h3 a4 h4 a5 h5 q0 q1 q2 qo (row0 i) k1_pay2 b0 b1 b2 b3 b4 b5
    = chunkP i a2 a4 q2 2 (by decide) 2 32#32 (b0, b1, b2, b3, b4, b5) := rfl

theorem part9_eq (b0 b1 : FVec F S16 .f32) (b2 b3 b4 b5 : F .f32) :
    k1_part9 (F := F) i a2 h2 a3 h3 a4 h4 a5 h5 q0 q1 q2 qo (row0 i) k1_pay1 k1_pay2 b0 b1 b2 b3 b4 b5
    = chunkQ i a2 a4 q0 0 (by decide) 3 48#32 (b0, b1, b2, b3, b4, b5) := rfl

theorem part1_eq : k1_part1 (F := F) i a2 h2 a3 h3 a4 h4 a5 h5 q0 q1 q2 qo = pure ⟨row0 i, k1_pay1, k1_pay2⟩ := rfl
theorem part2_eq : k1_part2 (F := F) i a2 h2 a3 h3 a4 h4 a5 h5 q0 q1 q2 qo (row0 i)
    = scIssue i a2 a4 q0 0 (by decide) 0 := rfl
theorem part3_eq : k1_part3 (F := F) i a2 h2 a3 h3 a4 h4 a5 h5 q0 q1 q2 qo
    = scIssue i a2 a4 q1 1 (by decide) 1 := rfl
theorem part5_eq : k1_part5 (F := F) i a2 h2 a3 h3 a4 h4 a5 h5 q0 q1 q2 qo
    = scIssue i a2 a4 q2 2 (by decide) 2 := rfl
theorem part7_eq : k1_part7 (F := F) i a2 h2 a3 h3 a4 h4 a5 h5 q0 q1 q2 qo
    = scIssue i a2 a4 q0 0 (by decide) 3 := rfl

/-- The printed SparseCore kernel is `scProg`. -/
theorem scProg_eq :
    cc1_sc_kernel (F := F) i a2 h2 a3 h3 a4 h4 a5 h5 q0 q1 q2 qo = scProg i a2 a3 a4 a5 h5 q0 q1 q2 qo := by
  unfold cc1_sc_kernel
  simp only [part1_eq, pure_bind, part2_eq, part3_eq, part4_eq, part5_eq, part6_eq, part7_eq, part8_eq, part9_eq,
    chunkP_eq, chunkQ_eq, bind_assoc, scProg]
  rfl

end Cert.Proof.Mask

end
-- ==== Proof.Copies.lean ====
/-
  The set-up both runs share: the program as the launch theorem sees it, the resources, the windows of the copies in
  coordinates, and the rules for three copies issued on one semaphore and waited for together.
-/
module

public import proofs.«01_k».proof.Proof.ScProg
public import Idealize.ShloMosaic.Lib.Batch
public import Idealize.ShloMosaic.Lib.Ring

@[expose] public section

noncomputable section

namespace Cert.Proof.Mask

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
abbrev EC : UEmb Counters (MT nD τ sig (HIx 1) (Elt F) ℕ UU ℕ) := countersEmb

/-- What a thread owes, some waits at the kernels' own index recorded beside those in `W`. -/
def owesN (c : Thread nD τ) (O : CellTallies nD τ sig (HIx 1)) (W : Waits sig (HIx 1)) : sProp 𝕄 :=
  iprop(∃ W', ⌜∀ p ∈ W', p ∈ W ∨ p.2 = none⌝ ∗ owes c O W')

theorem owesN_intro (c : Thread nD τ) (O : CellTallies nD τ sig (HIx 1)) (W : Waits sig (HIx 1)) :
    (owes c O W : sProp 𝕄) ⊢ owesN c O W := by
  unfold owesN
  iintro H; iexists W; isplitr
  · ipureintro; exact fun p hp => .inl hp
  · iexact H

/-! ## Three copies on one semaphore -/

section Three

variable {Λ : Labels} {defs : Defs nD τ sig (Elt F) Λ} (𝒲 : Variants) (c : Thread nD τ) (bd : Option 𝒲.V)
variable {sp sp' : Space} {s : Shape} {e : EltTy}

/-- One copy of a batch started. -/
theorem wp_issue1 {src : Memref sig c.2.kind sp s e} {dst : Memref sig c.2.kind sp' s e}
    {sem : DmaSem sig} {hs : src.view.WordExact} {hd : dst.view.WordExact}
    {ht : DmaTarget.Typed (nD := nD) sp (.dma sem) (.here dst)}
    (N : ℕ) (hN : dst.view.amount (.dma sem) = N) {q : PosShare TreeShare}
    {fs : Buf (Elt F) (src.view.loc c)} {Sd : Finset (Idx (dst.view.loc c))}
    {fd : Buf (Elt F) (dst.view.loc c)} (hSd : dst.view.set ⊆ Sd)
    (G : Fin 3 → sProp 𝕄) (j : ℕ) (hj : j < 3)
    (hG : iprop(dst.view.loc c ↦[Sd]{fullShare}
      dst.view.write (Elt F) fd (src.view.read (Elt F) fs) Finset.univ) ⊢ G ⟨j, hj⟩)
    {k : PUnit → Prog (TpuEff nD τ sig (Elt F) Λ c.2) PUnit} {Q : PUnit → sProp 𝕄} :
    iprop((src.view.loc c ↦[src.view.set]{q} fs) ∗ (dst.view.loc c ↦[Sd]{fullShare} fd)
        ∗ Transfers.Batch EC c (.dma sem) (none : HIx 1) N G j 0)
      ⊢ iprop((Transfers.Batch EC c (.dma sem) (none : HIx 1) N G (j + 1) 0 -∗ wp frame (wpE defs 𝒲 c bd) Set.univ (k ⟨⟩) Q)
        -∗ wp frame (wpE defs 𝒲 c bd) Set.univ (.op (.enqueueDma src (.here dst) (.dma sem) hs hd ht) k) Q) :=
  Transfers.wp_dmaBatch EC 𝒲 c bd (none : HIx 1) N hN hSd hj (Nat.zero_le _) (BI.BIBase.Entails.trans sep_elim_left hG)

/-- Three copies started on one semaphore that counts zero. What they leave is fixed beforehand, and held by the batch. -/
theorem wp_issue3 (src : Fin 3 → Memref sig c.2.kind sp s e) (dst : Fin 3 → Memref sig c.2.kind sp' s e)
    (sem : DmaSem sig) (hs : ∀ t, (src t).view.WordExact) (hd : ∀ t, (dst t).view.WordExact)
    (ht : ∀ t, DmaTarget.Typed (nD := nD) sp (.dma sem) (.here (dst t)))
    (N : ℕ) (hN : ∀ t, (dst t).view.amount (.dma sem) = N) (q : Fin 3 → PosShare TreeShare)
    (fs : ∀ t, Buf (Elt F) ((src t).view.loc c)) (Sd : ∀ t, Finset (Idx ((dst t).view.loc c)))
    (fd : ∀ t, Buf (Elt F) ((dst t).view.loc c)) (hSd : ∀ t, (dst t).view.set ⊆ Sd t)
    (G : Fin 3 → sProp 𝕄) [∀ t, BI.Storable (upEmb : UEmb _ 𝕄) (G t)]
    (hG : ∀ t, iprop((dst t).view.loc c ↦[Sd t]{fullShare}
      (dst t).view.write (Elt F) (fd t) ((src t).view.read (Elt F) (fs t)) Finset.univ) ⊢ G t)
    {Q : PUnit → sProp 𝕄} :
    iprop(((src 0).view.loc c ↦[(src 0).view.set]{q 0} fs 0) ∗ ((src 1).view.loc c ↦[(src 1).view.set]{q 1} fs 1)
        ∗ ((src 2).view.loc c ↦[(src 2).view.set]{q 2} fs 2)
        ∗ ((dst 0).view.loc c ↦[Sd 0]{fullShare} fd 0) ∗ ((dst 1).view.loc c ↦[Sd 1]{fullShare} fd 1)
        ∗ ((dst 2).view.loc c ↦[Sd 2]{fullShare} fd 2) ∗ semVal (c, .dma sem) 0
        ∗ (Transfers.Batch EC c (.dma sem) (none : HIx 1) N G 3 0 -∗ Q ⟨⟩))
      ⊢ wp frame (wpE defs 𝒲 c bd) Set.univ (do
          Prog.lift (.enqueueDma (src 0) (.here (dst 0)) (.dma sem) (hs 0) (hd 0) (ht 0))
          Prog.lift (.enqueueDma (src 1) (.here (dst 1)) (.dma sem) (hs 1) (hd 1) (ht 1))
          Prog.lift (.enqueueDma (src 2) (.here (dst 2)) (.dma sem) (hs 2) (hd 2) (ht 2))) Q := by
  iintro ⟨H0, H1, H2, K0, K1, K2, Hsem, Hk⟩
  imod (Transfers.batch_alloc' EC c (none : HIx 1) N G) $$ Hsem with HB
  iapply (wp_issue1 𝒲 c bd N (hN 0) (hSd 0) G 0 (by decide) (hG 0)) $$ [H0 K0 HB]
  · isplitl [H0]; · iexact H0
    isplitl [K0] <;> iassumption
  iintro HB
  iapply (wp_issue1 𝒲 c bd N (hN 1) (hSd 1) G 1 (by decide) (hG 1)) $$ [H1 K1 HB]
  · isplitl [H1]; · iexact H1
    isplitl [K1] <;> iassumption
  iintro HB
  iapply (wp_issue1 𝒲 c bd N (hN 2) (hSd 2) G 2 (by decide) (hG 2)) $$ [H2 K2 HB]
  · isplitl [H2]; · iexact H2
    isplitl [K2] <;> iassumption
  iintro HB
  rw [wp_ret]; imodintro
  iapply Hk; iexact HB

/-- The three waits: at the last, all that the copies leave, and the semaphore at zero. -/
theorem wp_settle3 {ss : Shape} {es : EltTy} (src : Fin 3 → Memref sig c.2.kind sp ss es)
    (dst : Fin 3 → Memref sig c.2.kind sp' s e)
    (sem : DmaSem sig) (hs : ∀ t, (src t).view.WordExact) (hd : ∀ t, (dst t).view.WordExact)
    (N : ℕ) (hN : ∀ t, (dst t).view.dmaCredit = N) (hN0 : 0 < N) (G : Fin 3 → sProp 𝕄)
    {O : CellTallies nD τ sig (HIx 1)} {W : Waits sig (HIx 1)} {Q : PUnit → sProp 𝕄} :
    iprop(Transfers.Batch EC c (.dma sem) (none : HIx 1) N G 3 0 ∗ owesN c O W ∗ Transfers.MayWaits c (none : HIx 1) O
        ∗ (iprop(G 0 ∗ G 1 ∗ G 2 ∗ semVal (c, .dma sem) 0 ∗ owesN c O W) -∗ Q ⟨⟩))
      ⊢ wp frame (wpE defs 𝒲 c bd) Set.univ (do
          Prog.lift (.waitDma2 sem (src 0) (dst 0) (hs 0) (hd 0))
          Prog.lift (.waitDma2 sem (src 1) (dst 1) (hs 1) (hd 1))
          Prog.lift (.waitDma2 sem (src 2) (dst 2) (hs 2) (hd 2))) Q := by
  unfold owesN
  iintro ⟨HB, ⟨%W', %hW', HO⟩, #Hmw, Hk⟩
  iapply (Transfers.wp_waitBatchO EC 𝒲 c bd (none : HIx 1) (hN 0) (D := G) (u := 0) (by omega)) $$ [HB HO]
  · isplitl [HB]; · iexact HB
    isplitl [HO]; · iexact HO
    iapply (Transfers.MayWaits.elim (SemLoc.dma sem)) $$ Hmw
  iintro ⟨HB, HO⟩
  iapply (Transfers.wp_waitBatchO EC 𝒲 c bd (none : HIx 1) (hN 1) (D := G) (u := 0 + N) (by omega)) $$ [HB HO]
  · isplitl [HB]; · iexact HB
    isplitl [HO]; · iexact HO
    iapply (Transfers.MayWaits.elim (SemLoc.dma sem)) $$ Hmw
  iintro ⟨HB, HO⟩
  iapply (Transfers.wp_waitBatchLastO EC 𝒲 c bd (none : HIx 1) (hN 2) hN0 (D := G) (u := 0 + N + N) (by omega)) $$ [HB HO]
  · isplitl [HB]; · iexact HB
    isplitl [HO]; · iexact HO
    iapply (Transfers.MayWaits.elim (SemLoc.dma sem)) $$ Hmw
  iintro ⟨HG, Hsem, HO⟩
  rw [wp_ret]; imodintro
  iapply Hk
  ihave HG' := (Entails.of_eq (Ring.bigSep_fin3 G)) $$ HG
  icases HG' with ⟨HG0, HG1, HG2⟩
  isplitl [HG0]; · iexact HG0
  isplitl [HG1]; · iexact HG1
  isplitl [HG2]; · iexact HG2
  isplitl [Hsem]; · iexact Hsem
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Three

/-! ## Windows of rows and columns, in coordinates -/

/-- The index of a four-axis array with the given coordinates. -/
def ix4 {A B C D : ℕ} (a : Fin A) (b : Fin B) (y : Fin C) (z : Fin D) : (⟨4, ![A, B, C, D]⟩ : Shape).Idx :=
  fun | 0 => a | 1 => b | 2 => y | 3 => z

theorem ix4_eta {A B C D : ℕ} (i : (⟨4, ![A, B, C, D]⟩ : Shape).Idx) : i = ix4 (i 0) (i 1) (i 2) (i 3) := by
  funext a; fin_cases a <;> rfl

theorem reshape_plane {n m : ℕ} (h : (⟨2, ![n, m]⟩ : Shape).numel = (⟨4, ![1, 1, n, m]⟩ : Shape).numel)
    (y : (⟨2, ![n, m]⟩ : Shape).Idx) : Shape.reshapeEquiv h y = ix4 0 0 (y 0) (y 1) := by
  have h1 : (⟨2, ![n, m]⟩ : Shape).numel = (⟨3, ![1, n, m]⟩ : Shape).numel := by simp [Shape.numel, Fin.prod_univ_succ]
  have h2 : (⟨3, ![1, n, m]⟩ : Shape).numel = (⟨4, ![1, 1, n, m]⟩ : Shape).numel := by simp [Shape.numel, Fin.prod_univ_succ]
  rw [← Shape.reshapeEquiv_reshapeEquiv h2 h1, Shape.reshapeEquiv_cons_one, Shape.reshapeEquiv_cons_one]
  funext a; fin_cases a <;> rfl

section Window

variable {A B C D n m : ℕ} (off : Fin 4 → ℕ)
  (inb : ∀ a, off a + (![1, 1, n, m] : Fin 4 → ℕ) a ≤ (![A, B, C, D] : Fin 4 → ℕ) a)

/-- Where the window's element `y` lies in the array. -/
def winIx (y : (⟨2, ![n, m]⟩ : Shape).Idx) : (⟨4, ![A, B, C, D]⟩ : Shape).Idx :=
  ix4 ⟨off 0, by have := inb 0; simp at this; omega⟩ ⟨off 1, by have := inb 1; simp at this; omega⟩
    ⟨off 2 + (y 0).val, by have := inb 2; have h := (y 0).isLt; simp at this h; omega⟩
    ⟨off 3 + (y 1).val, by have := inb 3; have h := (y 1).isLt; simp at this h; omega⟩

variable {κ : Kind} {sp : Space} {e : EltTy}

theorem emb_win (M : Memref sig κ sp ⟨4, ![A, B, C, D]⟩ e)
    (hq : (Rect.unit (s := ⟨4, ![A, B, C, D]⟩) off ![1, 1, n, m] inb).shape.Squeezes ⟨2, ![n, m]⟩) (y : (⟨2, ![n, m]⟩ : Shape).Idx) :
    (((M.slice (Rect.unit (s := ⟨4, ![A, B, C, D]⟩) off ![1, 1, n, m] inb) (fun _ => rfl)).squeeze ⟨2, ![n, m]⟩ hq).view.emb y)
      = M.view.emb (winIx off inb y) := by
  show M.view.emb ((Rect.unit (s := ⟨4, ![A, B, C, D]⟩) off ![1, 1, n, m] inb).emb (Shape.reshapeEquiv hq.numel_eq y)) = _
  congr 1
  rw [show Shape.reshapeEquiv hq.numel_eq y = ix4 0 0 (y 0) (y 1) from reshape_plane _ y]
  funext a
  apply Fin.ext
  fin_cases a
  · show off 0 + 1 * 0 = off 0; omega
  · show off 1 + 1 * 0 = off 1; omega
  · show off 2 + 1 * (y 0).val = off 2 + (y 0).val; omega
  · show off 3 + 1 * (y 1).val = off 3 + (y 1).val; omega

end Window

/-! ## Three windows of one array copied into three windows of another -/

/-- A window of rows and columns of an array with two more axes in front. -/
abbrev win {κ : Kind} {sp : Space} {e : EltTy} {A B C D n m : ℕ} (M : Memref sig κ sp ⟨4, ![A, B, C, D]⟩ e) (off : Fin 4 → ℕ)
    (inb : ∀ a, off a + (![1, 1, n, m] : Fin 4 → ℕ) a ≤ (![A, B, C, D] : Fin 4 → ℕ) a)
    (hq : (Rect.unit (s := ⟨4, ![A, B, C, D]⟩) off ![1, 1, n, m] inb).shape.Squeezes ⟨2, ![n, m]⟩) :
    Memref sig κ sp ⟨2, ![n, m]⟩ e :=
  (M.slice (Rect.unit (s := ⟨4, ![A, B, C, D]⟩) off ![1, 1, n, m] inb) (fun _ => rfl)).squeeze ⟨2, ![n, m]⟩ hq

theorem read_win {κ : Kind} {sp : Space} {e : EltTy} {A B C D n m : ℕ} (M : Memref sig κ sp ⟨4, ![A, B, C, D]⟩ e) (off : Fin 4 → ℕ)
    (inb : ∀ a, off a + (![1, 1, n, m] : Fin 4 → ℕ) a ≤ (![A, B, C, D] : Fin 4 → ℕ) a)
    (hq : (Rect.unit (s := ⟨4, ![A, B, C, D]⟩) off ![1, 1, n, m] inb).shape.Squeezes ⟨2, ![n, m]⟩)
    (f : M.view.ty.Contents (Elt F)) (y : (⟨2, ![n, m]⟩ : Shape).Idx) :
    (win M off inb hq).view.read (Elt F) f y = M.view.read (Elt F) f (winIx off inb y) := by
  rw [View.read_apply, View.read_apply]
  have := emb_win off inb M hq y
  exact congrArg (fun i => cast _ (f i)) this

section Grab

variable {Λ : Labels} {defs : Defs nD τ sig (Elt F) Λ} (𝒲 : Variants) (c : Thread nD τ) (bd : Option 𝒲.V)
variable {sp sp' : Space} {e : EltTy} {A B C D A' B' C' D' n m : ℕ}

/-- An array held at some share. -/
def someShare {κ : Kind} {sp : Space} {s : Shape} {e : EltTy} (c : Thread nD τ) (X : Memref sig c.2.kind sp s e)
    (f : Buf (Elt F) (X.view.loc c)) : sProp 𝕄 :=
  iprop(∃ q : PosShare TreeShare, X.view.loc c ↦{q} f)

theorem someShare_lend {sp : Space} {s s' : Shape} {e : EltTy} (X : Memref sig c.2.kind sp s e) (I : Finset (Idx (X.view.loc c)))
    (f : Buf (Elt F) (X.view.loc c)) :
    (iprop(∃ q : PosShare TreeShare, X.view.loc c ↦{q} f) : sProp 𝕄)
      ⊢ iprop((∃ q : PosShare TreeShare, X.view.loc c ↦{q} f) ∗ ∃ q : PosShare TreeShare, X.view.loc c ↦[I]{q} f) := by
  iintro ⟨%q, H⟩
  ihave H' := (pointsTo_share (PosShare.mem_left_op_right q)).1 $$ H
  icases H' with ⟨H1, H2⟩
  isplitl [H1]
  · iexists _; iexact H1
  · ihave H3 := (pointsTo_split_subset (Finset.subset_univ I)).1 $$ H2
    icases H3 with ⟨H3, -⟩
    iexists _; iexact H3

variable (X : Memref sig c.2.kind sp ⟨4, ![A, B, C, D]⟩ e) (Y : Memref sig c.2.kind sp' ⟨4, ![A', B', C', D']⟩ e)

theorem wp_grab3 (off off' : Fin 3 → Fin 4 → ℕ)
    (inb : ∀ t a, off t a + (![1, 1, n, m] : Fin 4 → ℕ) a ≤ (![A, B, C, D] : Fin 4 → ℕ) a)
    (inb' : ∀ t a, off' t a + (![1, 1, n, m] : Fin 4 → ℕ) a ≤ (![A', B', C', D'] : Fin 4 → ℕ) a)
    (hq : ∀ t, (Rect.unit (s := ⟨4, ![A, B, C, D]⟩) (off t) ![1, 1, n, m] (inb t)).shape.Squeezes ⟨2, ![n, m]⟩)
    (hq' : ∀ t, (Rect.unit (s := ⟨4, ![A', B', C', D']⟩) (off' t) ![1, 1, n, m] (inb' t)).shape.Squeezes ⟨2, ![n, m]⟩)
    (sem : DmaSem sig) (hs : ∀ t, (win X (off t) (inb t) (hq t)).view.WordExact)
    (hd : ∀ t, (win Y (off' t) (inb' t) (hq' t)).view.WordExact)
    (ht : ∀ t, DmaTarget.Typed (nD := nD) sp (.dma sem) (.here (win Y (off' t) (inb' t) (hq' t))))
    (N : ℕ) (hN : ∀ t, (win Y (off' t) (inb' t) (hq' t)).view.amount (.dma sem) = N)
    (f : Buf (Elt F) (X.view.loc c)) (V : Buf (Elt F) (Y.view.loc c))
    (hV : ∀ t y, Y.view.read (Elt F) V (winIx (off' t) (inb' t) y) = X.view.read (Elt F) f (winIx (off t) (inb t) y))
    (ch : Fin 3 → Finset (Idx (Y.view.loc c))) (hch : ∀ t, (win Y (off' t) (inb' t) (hq' t)).view.set = ch t)
    {Q : PUnit → sProp 𝕄} :
    iprop((∃ q : PosShare TreeShare, X.view.loc c ↦{q} f)
        ∗ (∃ g, Y.view.loc c ↦[ch 0]{fullShare} g) ∗ (∃ g, Y.view.loc c ↦[ch 1]{fullShare} g)
        ∗ (∃ g, Y.view.loc c ↦[ch 2]{fullShare} g) ∗ semVal (c, .dma sem) 0
        ∗ (iprop(Transfers.Batch EC c (.dma sem) (none : HIx 1) N (fun t => (Y.view.loc c ↦[ch t]{fullShare} V : sProp 𝕄)) 3 0
            ∗ ∃ q : PosShare TreeShare, X.view.loc c ↦{q} f) -∗ Q ⟨⟩))
      ⊢ wp frame (wpE defs 𝒲 c bd) Set.univ (do
          Prog.lift (.enqueueDma (win X (off 0) (inb 0) (hq 0)) (.here (win Y (off' 0) (inb' 0) (hq' 0))) (.dma sem) (hs 0) (hd 0) (ht 0))
          Prog.lift (.enqueueDma (win X (off 1) (inb 1) (hq 1)) (.here (win Y (off' 1) (inb' 1) (hq' 1))) (.dma sem) (hs 1) (hd 1) (ht 1))
          Prog.lift (.enqueueDma (win X (off 2) (inb 2) (hq 2)) (.here (win Y (off' 2) (inb' 2) (hq' 2))) (.dma sem) (hs 2) (hd 2) (ht 2))) Q := by
  have hrd : ∀ t, (win X (off t) (inb t) (hq t)).view.read (Elt F) f = (win Y (off' t) (inb' t) (hq' t)).view.read (Elt F) V := by
    intro t; funext y
    rw [read_win, read_win, hV]
  iintro ⟨Hx, ⟨%g0, K0⟩, ⟨%g1, K1⟩, ⟨%g2, K2⟩, Hsem, Hk⟩
  ihave Hx' := (someShare_lend c (s' := ⟨2, ![n, m]⟩) X (win X (off 0) (inb 0) (hq 0)).view.set f) $$ Hx
  icases Hx' with ⟨Hx, ⟨%q0, H0⟩⟩
  ihave Hx' := (someShare_lend c (s' := ⟨2, ![n, m]⟩) X (win X (off 1) (inb 1) (hq 1)).view.set f) $$ Hx
  icases Hx' with ⟨Hx, ⟨%q1, H1⟩⟩
  ihave Hx' := (someShare_lend c (s' := ⟨2, ![n, m]⟩) X (win X (off 2) (inb 2) (hq 2)).view.set f) $$ Hx
  icases Hx' with ⟨Hx, ⟨%q2, H2⟩⟩
  iapply (wp_issue3 𝒲 c bd (fun t => win X (off t) (inb t) (hq t)) (fun t => win Y (off' t) (inb' t) (hq' t)) sem hs hd ht N hN
    (fun | 0 => q0 | 1 => q1 | 2 => q2) (fun _ => f) ch (fun | 0 => g0 | 1 => g1 | 2 => g2) (fun t => (hch t).subset)
    (fun t => (Y.view.loc c ↦[ch t]{fullShare} V : sProp 𝕄)) (fun t => by
      rw [hrd t]
      refine Entails.of_eq (pointsTo_congr fun i hi => ?_)
      rw [← hch t] at hi
      rw [View.write_read_eq_piecewise]
      exact Finset.piecewise_eq_of_mem _ _ _ hi))
  isplitl [H0]; · iexact H0
  isplitl [H1]; · iexact H1
  isplitl [H2]; · iexact H2
  isplitl [K0]; · iexact K0
  isplitl [K1]; · iexact K1
  isplitl [K2]; · iexact K2
  isplitl [Hsem]; · iexact Hsem
  iintro HB
  iapply Hk
  isplitl [HB] <;> iassumption

end Grab

end Cert.Proof.Mask

end
-- ==== Proof.TcBody.lean ====
/-
  The run of the TensorCore kernel at one core: from the images at some share, the ring, its six semaphores at zero and
  the output's staging buffer, it ends with the six numbers of every image in that image's row of the staging buffer.
-/
module

public import proofs.«01_k».proof.Proof.Copies

@[expose] public section

noncomputable section

namespace Cert.Proof.Mask

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The channels of the ring -/

/-- The elements of slot `s`, channel `k`, of a ring of `B` channels of `n × m` elements. -/
def chanSet {A B n m : ℕ} (s k : ℕ) : Finset (⟨4, ![A, B, n, m]⟩ : Shape).Idx :=
  Finset.univ.filter fun i => (i 0).val = s ∧ (i 1).val = k

theorem winIx_range {A B n m : ℕ} (s k : ℕ)
    (inb : ∀ a, (![s, k, 0, 0] : Fin 4 → ℕ) a + (![1, 1, n, m] : Fin 4 → ℕ) a ≤ (![A, B, n, m] : Fin 4 → ℕ) a)
    (i : (⟨4, ![A, B, n, m]⟩ : Shape).Idx) :
    (∃ y, winIx ![s, k, 0, 0] inb y = i) ↔ i ∈ chanSet (A := A) (B := B) (n := n) (m := m) s k := by
  unfold chanSet
  rw [Finset.mem_filter]
  constructor
  · rintro ⟨y, rfl⟩
    exact ⟨Finset.mem_univ _, rfl, rfl⟩
  · rintro ⟨-, h0, h1⟩
    refine ⟨fun | 0 => i 2 | 1 => i 3, ?_⟩
    rw [ix4_eta i]
    unfold winIx
    congr 1
    · exact Fin.ext h0.symm
    · exact Fin.ext h1.symm
    · exact Fin.ext (Nat.zero_add _)
    · exact Fin.ext (Nat.zero_add _)

theorem slotWin_set (s k : ℕ) (hs : s < 6) (hk : k < 3) :
    (slotWin (Memref.whole cc0_scratch0) s k hs hk).view.set = chanSet (A := 6) (B := 3) (n := 512) (m := 512) s k := by
  ext i
  refine Iff.trans ?_ (winIx_range s k (slotInb hs hk) i)
  constructor
  · intro h
    obtain ⟨y, -, rfl⟩ := Finset.mem_map.mp h
    exact ⟨y, (emb_win ![s, k, 0, 0] (slotInb hs hk) (Memref.whole cc0_scratch0) squeezes_S1x1x512x512_S512x512 y).symm⟩
  · rintro ⟨y, rfl⟩
    exact Finset.mem_map.mpr ⟨y, Finset.mem_univ _,
      emb_win ![s, k, 0, 0] (slotInb hs hk) (Memref.whole cc0_scratch0) squeezes_S1x1x512x512_S512x512 y⟩

/-! ## Values -/

/-- Image `b` in every slot of a ring. -/
def ringOf (x : Vec F S16x3x512x512 .f32) (b : Fin 16) : Vec F S6x3x512x512 .f32 := fun i => x (ix4 b (i 1) (i 2) (i 3))

/-- Image `b` alone. -/
def imgOf (x : Vec F S16x3x512x512 .f32) (b : Fin 16) : Vec F S1x3x512x512 .f32 := fun i => x (ix4 b (i 1) (i 2) (i 3))

/-- The index of a three-axis array with the given coordinates. -/
def ix3 {A B C : ℕ} (a : Fin A) (b : Fin B) (y : Fin C) : (⟨3, ![A, B, C]⟩ : Shape).Idx :=
  fun | 0 => a | 1 => b | 2 => y

theorem ix3_eta {A B C : ℕ} (i : (⟨3, ![A, B, C]⟩ : Shape).Idx) : i = ix3 (i 0) (i 1) (i 2) := by
  funext a; fin_cases a <;> rfl

/-- What the TensorCore kernel computes: row `b` holds the six numbers of image `b`. -/
def tcOut [FloatOps F] (x : Vec F S16x3x512x512 .f32) : FVec F S12x1x128 .f32 := fun i =>
  imgPay (F := F) (imgOf x ⟨(i 0).val, by have h : (i 0).val < 12 := (i 0).isLt; omega⟩) (ix3 (A := 1) (B := 1) (C := 128) 0 0 (i 2))

/-! ## The pieces of the run -/

section Run

variable [FloatOps F] (d : Dev nD) (a1 : Memref sig .tc .vmem S12x1x128 .f32)

abbrev ringM : Memref sig .tc .vmem S6x3x512x512 .f32 := Memref.whole cc0_scratch0
abbrev ringN : ℕ := (slotWin ringM 0 0 (by decide) (by decide)).view.dmaCredit
abbrev imgM : Memref sig .tc .hbm S16x3x512x512 .f32 := Memref.whole main_arg0

/-- The images, at some share. -/
def imgs (x : Vec F S16x3x512x512 .f32) : sProp 𝕄 :=
  iprop(∃ q : PosShare TreeShare, (imgM.view.loc (d.tc : Thread nD τ)) ↦{q} x)

def chanAny (s k : ℕ) : sProp 𝕄 :=
  iprop(∃ g : Buf (Elt F) (ringM.view.loc (d.tc : Thread nD τ)), (ringM.view.loc (d.tc : Thread nD τ)) ↦[chanSet (A := 6) (B := 3) (n := 512) (m := 512) s k]{fullShare} g)

/-- A slot that no copy touches. -/
def slotFree (s : ℕ) (hs : s < 6) : sProp 𝕄 :=
  iprop(chanAny (F := F) d s 0 ∗ chanAny (F := F) d s 1 ∗ chanAny (F := F) d s 2 ∗ semVal ((d.tc : Thread nD τ), .dma (slotSem cc0_scratch1 s hs).sem) 0)

/-- A slot under the copies of image `b`. -/
def slotBusy (x : Vec F S16x3x512x512 .f32) (s : ℕ) (hs : s < 6) (b : ℕ) (hb : b < 16) : sProp 𝕄 :=
  Transfers.Batch EC (d.tc : Thread nD τ) (.dma (slotSem cc0_scratch1 s hs).sem) (none : HIx 1) ringN
    (fun t : Fin 3 => ((ringM.view.loc (d.tc : Thread nD τ)) ↦[chanSet (A := 6) (B := 3) (n := 512) (m := 512) s t.val]{fullShare} (ringOf x ⟨b, hb⟩) : sProp 𝕄)) 3 0

/-- The output's staging buffer, its first `n` rows written. -/
def outUpTo (x : Vec F S16x3x512x512 .f32) (n : ℕ) : sProp 𝕄 :=
  iprop(∃ g : Buf (Elt F) (a1.view.loc (d.tc : Thread nD τ)),
    ⌜∀ i : S12x1x128.Idx, (i 0).val < n → a1.view.read (Elt F) g i = tcOut x i⌝
      ∗ (a1.view.loc (d.tc : Thread nD τ)) ↦[a1.view.set]{fullShare} g)

theorem wp_issue (x : Vec F S16x3x512x512 .f32) (b s : ℕ) (hb : b < 16) (hs : s < 6) {Q : PUnit → sProp 𝕄} :
    iprop(imgs d x ∗ slotFree (F := F) d s hs ∗ (iprop(slotBusy d x s hs b hb ∗ imgs d x) -∗ Q ⟨⟩))
      ⊢ wp frame (wpE defs₀ 𝒱₀ (d.tc : Thread nD τ) none) Set.univ (issue imgM ringM cc0_scratch1 b s hb hs) Q := by
  unfold imgs slotFree slotBusy chanAny
  iintro ⟨Hx, ⟨H0, H1, H2, Hs⟩, Hk⟩
  iapply (wp_grab3 (n := 512) (m := 512) 𝒱₀ (d.tc : Thread nD τ) none imgM ringM (fun t : Fin 3 => ![b, t.val, 0, 0]) (fun t : Fin 3 => ![s, t.val, 0, 0])
    (fun t => xInb hb t.isLt) (fun t => slotInb hs t.isLt) (fun _ => squeezes_S1x1x512x512_S512x512)
    (fun _ => squeezes_S1x1x512x512_S512x512) (slotSem cc0_scratch1 s hs).sem (fun _ => (View.wordExact_bits rfl).reshape _ _)
    (fun _ => (View.wordExact_bits rfl).reshape _ _) (fun _ => ⟨Or.inl rfl, trivial⟩) ringN (fun _ => rfl) x (ringOf x ⟨b, hb⟩)
    (fun t y => rfl) (fun t => chanSet (A := 6) (B := 3) (n := 512) (m := 512) s t.val) (fun t => slotWin_set s t.val hs t.isLt))
  isplitl [Hx]; · iexact Hx
  isplitl [H0]; · iexact H0
  isplitl [H1]; · iexact H1
  isplitl [H2]; · iexact H2
  isplitl [Hs]; · iexact Hs
  iexact Hk

theorem wp_settle (x : Vec F S16x3x512x512 .f32) (b s : ℕ) (hb : b < 16) (hs : s < 6) {O : CellTallies nD τ sig (HIx 1)}
    {W : Waits sig (HIx 1)} {Q : PUnit → sProp 𝕄} :
    iprop(slotBusy d x s hs b hb ∗ owesN (d.tc : Thread nD τ) O W ∗ Transfers.MayWaits (d.tc : Thread nD τ) (none : HIx 1) O
        ∗ (iprop(((ringM.view.loc (d.tc : Thread nD τ)) ↦[chanSet (A := 6) (B := 3) (n := 512) (m := 512) s 0]{fullShare} (ringOf x ⟨b, hb⟩))
          ∗ ((ringM.view.loc (d.tc : Thread nD τ)) ↦[chanSet (A := 6) (B := 3) (n := 512) (m := 512) s 1]{fullShare} (ringOf x ⟨b, hb⟩))
          ∗ ((ringM.view.loc (d.tc : Thread nD τ)) ↦[chanSet (A := 6) (B := 3) (n := 512) (m := 512) s 2]{fullShare} (ringOf x ⟨b, hb⟩))
          ∗ semVal ((d.tc : Thread nD τ), .dma (slotSem cc0_scratch1 s hs).sem) 0 ∗ owesN (d.tc : Thread nD τ) O W) -∗ Q ⟨⟩))
      ⊢ wp frame (wpE defs₀ 𝒱₀ (d.tc : Thread nD τ) none) Set.univ (settle imgM ringM cc0_scratch1 b s hb hs) Q :=
  wp_settle3 𝒱₀ (d.tc : Thread nD τ) none (fun t : Fin 3 => xWin imgM b t.val hb t.isLt) (fun t : Fin 3 => slotWin ringM s t.val hs t.isLt)
    (slotSem cc0_scratch1 s hs).sem (fun _ => (View.wordExact_bits rfl).reshape _ _)
    (fun _ => (View.wordExact_bits rfl).reshape _ _) ringN (fun _ => rfl) (View.dmaCredit_pos _ (by decide))
    (fun t : Fin 3 => ((ringM.view.loc (d.tc : Thread nD τ)) ↦[chanSet (A := 6) (B := 3) (n := 512) (m := 512) s t.val]{fullShare} (ringOf x ⟨b, hb⟩) : sProp 𝕄))

theorem chan_disjoint {A B n m : ℕ} (s : ℕ) {k k' : ℕ} (h : k ≠ k') :
    Disjoint (chanSet (A := A) (B := B) (n := n) (m := m) s k) (chanSet s k') := by
  rw [Finset.disjoint_left]
  intro i hi hi'
  exact h ((Finset.mem_filter.mp hi).2.2.symm.trans (Finset.mem_filter.mp hi').2.2)

theorem slot_sub (s : ℕ) (hs : s < 6) :
    (ringM.access (Rect.unit (s := S6x3x512x512) ![s, 0, 0, 0] S1x3x512x512.size (ringInb hs))).set
      ⊆ chanSet (A := 6) (B := 3) (n := 512) (m := 512) s 0 ∪ (chanSet s 1 ∪ chanSet s 2) := by
  intro i hi
  obtain ⟨y, -, rfl⟩ := Finset.mem_map.mp hi
  have key : ∀ j : S6x3x512x512.Idx, (j 0).val = s →
      j ∈ chanSet (A := 6) (B := 3) (n := 512) (m := 512) s 0 ∪ (chanSet s 1 ∪ chanSet s 2) := by
    intro j hj
    have h1 : (j 1).val < 3 := (j 1).isLt
    simp only [chanSet, Finset.mem_union, Finset.mem_filter, Finset.mem_univ, true_and]
    omega
  refine key _ ?_
  have h : (y 0).val < 1 := (y 0).isLt
  show s + 1 * (y 0).val = s
  omega

theorem slot_read (x : Vec F S16x3x512x512 .f32) (b : Fin 16) (s : ℕ) (hs : s < 6) :
    (ringM.access (Rect.unit (s := S6x3x512x512) ![s, 0, 0, 0] S1x3x512x512.size (ringInb hs))).read (Elt F) (ringOf x b) = imgOf x b := by
  funext y
  show x (ix4 b _ _ _) = x (ix4 b _ _ _)
  congr 1
  unfold ix4
  funext a
  fin_cases a
  · rfl
  · exact Fin.ext (show 0 + 1 * (y 1).val = (y 1).val by omega)
  · exact Fin.ext (show 0 + 1 * (y 2).val = (y 2).val by omega)
  · exact Fin.ext (show 0 + 1 * (y 3).val = (y 3).val by omega)

theorem out_sub (b : ℕ) (hb : b < 12) (M : Finset S1x1x128.Idx) :
    (a1.access (Rect.unit (s := S12x1x128) ![b, 0, 0] S1x1x128.size (outInb hb))).setOn M ⊆ a1.view.set := by
  intro i hi
  obtain ⟨y, -, rfl⟩ := Finset.mem_map.mp hi
  exact Finset.mem_map.mpr ⟨_, Finset.mem_univ _, rfl⟩

theorem wp_image (x : Vec F S16x3x512x512 .f32) (b s : ℕ) (hb : b < 12) (hs : s < 6) {Q : PUnit → sProp 𝕄} :
    iprop(((ringM.view.loc (d.tc : Thread nD τ)) ↦[chanSet (A := 6) (B := 3) (n := 512) (m := 512) s 0]{fullShare} (ringOf x ⟨b, by omega⟩))
          ∗ ((ringM.view.loc (d.tc : Thread nD τ)) ↦[chanSet (A := 6) (B := 3) (n := 512) (m := 512) s 1]{fullShare} (ringOf x ⟨b, by omega⟩))
          ∗ ((ringM.view.loc (d.tc : Thread nD τ)) ↦[chanSet (A := 6) (B := 3) (n := 512) (m := 512) s 2]{fullShare} (ringOf x ⟨b, by omega⟩))
          ∗ outUpTo d a1 x b
          ∗ (iprop(chanAny (F := F) d s 0 ∗ chanAny (F := F) d s 1 ∗ chanAny (F := F) d s 2 ∗ outUpTo d a1 x (b + 1)) -∗ Q ⟨⟩))
      ⊢ wp frame (wpE defs₀ 𝒱₀ (d.tc : Thread nD τ) none) Set.univ (image a1 ringM b s hb hs) Q := by
  unfold outUpTo chanAny image
  iintro ⟨H0, H1, H2, ⟨%g, %hg, Ho⟩, Hk⟩
  ihave H12 := (pointsTo_union (ℓ := ringM.view.loc (d.tc : Thread nD τ)) (chan_disjoint (k := 1) (k' := 2) s (by decide))).2 $$ [H1 H2]
  · isplitl [H1] <;> iassumption
  ihave H := (pointsTo_union (ℓ := ringM.view.loc (d.tc : Thread nD τ)) (Finset.disjoint_union_right.mpr ⟨chan_disjoint (k := 0) (k' := 1) s (by decide), chan_disjoint (k := 0) (k' := 2) s (by decide)⟩)).2 $$ [H0 H12]
  · isplitl [H0] <;> iassumption
  iapply (wp_load_rect 𝒱₀ (d.tc : Thread nD τ) none Set.univ (slot_sub s hs)) $$ H
  iintro H
  ihave H' := (pointsTo_union (ℓ := ringM.view.loc (d.tc : Thread nD τ)) (Finset.disjoint_union_right.mpr ⟨chan_disjoint (k := 0) (k' := 1) s (by decide), chan_disjoint (k := 0) (k' := 2) s (by decide)⟩)).1 $$ H
  icases H' with ⟨H0, H12⟩
  ihave H' := (pointsTo_union (ℓ := ringM.view.loc (d.tc : Thread nD τ)) (chan_disjoint (k := 1) (k' := 2) s (by decide))).1 $$ H12
  icases H' with ⟨H1, H2⟩
  iapply (wp_load_rect 𝒱₀ (d.tc : Thread nD τ) none Set.univ (out_sub a1 b hb Finset.univ)) $$ Ho
  iintro Ho
  iapply (wp_store 𝒱₀ (d.tc : Thread nD τ) none Set.univ (out_sub a1 b hb Finset.univ)) $$ Ho
  iintro Ho
  rw [wp_ret]; imodintro
  iapply Hk
  isplitl [H0]; · iexists _; iexact H0
  isplitl [H1]; · iexists _; iexact H1
  isplitl [H2]; · iexists _; iexact H2
  iexists _
  isplitr
  swap; · iexact Ho
  ipureintro
  intro i hi
  rw [slot_read x ⟨b, by omega⟩ s hs]
  by_cases hib : (i 0).val = b
  · have e : i = (Rect.unit (s := S12x1x128) ![b, 0, 0] S1x1x128.size (outInb hb)).emb (ix3 (A := 1) (B := 1) (C := 128) 0 0 (i 2)) := by
      funext a
      fin_cases a
      · exact Fin.ext (show (i 0).val = b + 1 * 0 by omega)
      · have h : (i 1).val < 1 := (i 1).isLt
        exact Fin.ext (show (i 1).val = 0 + 1 * 0 by omega)
      · exact Fin.ext (show (i 2).val = 0 + 1 * (i 2).val by omega)
    have ev : tcOut x i = imgPay (F := F) (imgOf x ⟨b, by omega⟩) (ix3 (A := 1) (B := 1) (C := 128) 0 0 (i 2)) := by
      unfold tcOut
      subst hib
      rfl
    rw [ev]
    conv_lhs => rw [e]
    exact View.read_slice_write_emb _ _ _ (Finset.mem_univ _)
  · rw [View.read_slice_write_of_not_mem]
    · exact hg i (by omega)
    · intro hm
      obtain ⟨y, -, rfl⟩ := Finset.mem_map.mp hm
      have h : (y 0).val < 1 := (y 0).isLt
      exact hib (show b + 1 * (y 0).val = b by omega)

theorem wp_early (x : Vec F S16x3x512x512 .f32) (b : ℕ) (hb : b < 6) {O : CellTallies nD τ sig (HIx 1)}
    {W : Waits sig (HIx 1)} {Q : PUnit → sProp 𝕄} :
    iprop(imgs d x ∗ slotBusy d x b hb b (by omega) ∗ outUpTo d a1 x b ∗ owesN (d.tc : Thread nD τ) O W
        ∗ Transfers.MayWaits (d.tc : Thread nD τ) (none : HIx 1) O
        ∗ (iprop(imgs d x ∗ slotBusy d x b hb (b + 6) (by omega) ∗ outUpTo d a1 x (b + 1) ∗ owesN (d.tc : Thread nD τ) O W) -∗ Q ⟨⟩))
      ⊢ wp frame (wpE defs₀ 𝒱₀ (d.tc : Thread nD τ) none) Set.univ (early imgM a1 ringM cc0_scratch1 b hb) Q := by
  unfold early
  rw [wp_bind]
  iintro ⟨Hx, HB, Ho, HO, Hmw, Hk⟩
  iapply (wp_settle d x b b _ hb)
  isplitl [HB]; · iexact HB
  isplitl [HO]; · iexact HO
  isplitl [Hmw]; · iexact Hmw
  iintro ⟨H0, H1, H2, Hs, HO⟩
  iapply (Entails.of_eq (wp_bind _ _ _ _ _ _).symm)
  iapply (wp_image d a1 x b b _ hb)
  isplitl [H0]; · iexact H0
  isplitl [H1]; · iexact H1
  isplitl [H2]; · iexact H2
  isplitl [Ho]; · iexact Ho
  iintro ⟨H0, H1, H2, Ho⟩
  iapply (wp_issue d x (b + 6) b _ hb)
  isplitl [Hx]; · iexact Hx
  isplitl [H0 H1 H2 Hs]
  · unfold slotFree
    isplitl [H0]; · iexact H0
    isplitl [H1]; · iexact H1
    isplitl [H2]; · iexact H2
    iexact Hs
  iintro ⟨HB, Hx⟩
  iapply Hk
  isplitl [Hx]; · iexact Hx
  isplitl [HB]; · iexact HB
  isplitl [Ho] <;> iassumption

theorem wp_late (x : Vec F S16x3x512x512 .f32) (b : ℕ) (hb : b < 6) {O : CellTallies nD τ sig (HIx 1)}
    {W : Waits sig (HIx 1)} {Q : PUnit → sProp 𝕄} :
    iprop(slotBusy d x b hb (b + 6) (by omega) ∗ outUpTo d a1 x (b + 6) ∗ owesN (d.tc : Thread nD τ) O W
        ∗ Transfers.MayWaits (d.tc : Thread nD τ) (none : HIx 1) O
        ∗ (iprop(slotFree (F := F) d b hb ∗ outUpTo d a1 x (b + 7) ∗ owesN (d.tc : Thread nD τ) O W) -∗ Q ⟨⟩))
      ⊢ wp frame (wpE defs₀ 𝒱₀ (d.tc : Thread nD τ) none) Set.univ (late imgM a1 ringM cc0_scratch1 b hb) Q := by
  unfold late
  rw [wp_bind]
  iintro ⟨HB, Ho, HO, Hmw, Hk⟩
  iapply (wp_settle d x (b + 6) b _ hb)
  isplitl [HB]; · iexact HB
  isplitl [HO]; · iexact HO
  isplitl [Hmw]; · iexact Hmw
  iintro ⟨H0, H1, H2, Hs, HO⟩
  iapply (wp_image d a1 x (b + 6) b _ hb)
  isplitl [H0]; · iexact H0
  isplitl [H1]; · iexact H1
  isplitl [H2]; · iexact H2
  isplitl [Ho]; · iexact Ho
  iintro ⟨H0, H1, H2, Ho⟩
  iapply Hk
  isplitl [H0 H1 H2 Hs]
  · unfold slotFree
    isplitl [H0]; · iexact H0
    isplitl [H1]; · iexact H1
    isplitl [H2]; · iexact H2
    iexact Hs
  isplitl [Ho] <;> iassumption

/-- The ring with no copy under way. -/
def ringFree : sProp 𝕄 :=
  iprop(slotFree (F := F) d 0 (by decide) ∗ slotFree (F := F) d 1 (by decide) ∗ slotFree (F := F) d 2 (by decide)
    ∗ slotFree (F := F) d 3 (by decide) ∗ slotFree (F := F) d 4 (by decide) ∗ slotFree (F := F) d 5 (by decide))

/-- The TensorCore kernel's run. -/
theorem wp_tcProg (x : Vec F S16x3x512x512 .f32) {O : CellTallies nD τ sig (HIx 1)} {W : Waits sig (HIx 1)} :
    iprop(imgs d x ∗ ringFree (F := F) d ∗ outUpTo d a1 x 0 ∗ owesN (d.tc : Thread nD τ) O W
        ∗ Transfers.MayWaits (d.tc : Thread nD τ) (none : HIx 1) O)
      ⊢ wp frame (wpE defs₀ 𝒱₀ (d.tc : Thread nD τ) none) Set.univ (tcProg imgM a1 ringM cc0_scratch1) fun _ =>
          iprop(imgs d x ∗ ringFree (F := F) d ∗ outUpTo d a1 x 12 ∗ owesN (d.tc : Thread nD τ) O W) := by
  unfold tcProg ringFree
  iintro ⟨Hx, ⟨S0, S1, S2, S3, S4, S5⟩, Ho, HO, #Hmw⟩
  iapply (Entails.of_eq (wp_bind _ _ _ _ _ _).symm); iapply (wp_issue d x 0 0 _ _)
  isplitl [Hx]; · iexact Hx
  isplitl [S0]; · iexact S0
  iintro ⟨S0, Hx⟩
  iapply (Entails.of_eq (wp_bind _ _ _ _ _ _).symm); iapply (wp_issue d x 1 1 _ _)
  isplitl [Hx]; · iexact Hx
  isplitl [S1]; · iexact S1
  iintro ⟨S1, Hx⟩
  iapply (Entails.of_eq (wp_bind _ _ _ _ _ _).symm); iapply (wp_issue d x 2 2 _ _)
  isplitl [Hx]; · iexact Hx
  isplitl [S2]; · iexact S2
  iintro ⟨S2, Hx⟩
  iapply (Entails.of_eq (wp_bind _ _ _ _ _ _).symm); iapply (wp_issue d x 3 3 _ _)
  isplitl [Hx]; · iexact Hx
  isplitl [S3]; · iexact S3
  iintro ⟨S3, Hx⟩
  iapply (Entails.of_eq (wp_bind _ _ _ _ _ _).symm); iapply (wp_issue d x 4 4 _ _)
  isplitl [Hx]; · iexact Hx
  isplitl [S4]; · iexact S4
  iintro ⟨S4, Hx⟩
  iapply (Entails.of_eq (wp_bind _ _ _ _ _ _).symm); iapply (wp_issue d x 5 5 _ _)
  isplitl [Hx]; · iexact Hx
  isplitl [S5]; · iexact S5
  iintro ⟨S5, Hx⟩
  iapply (Entails.of_eq (wp_bind _ _ _ _ _ _).symm); iapply (wp_early d a1 x 0 _)
  isplitl [Hx]; · iexact Hx
  isplitl [S0]; · iexact S0
  isplitl [Ho]; · iexact Ho
  isplitl [HO]; · iexact HO
  isplitr; · iexact Hmw
  iintro ⟨Hx, S0, Ho, HO⟩
  iapply (Entails.of_eq (wp_bind _ _ _ _ _ _).symm); iapply (wp_early d a1 x 1 _)
  isplitl [Hx]; · iexact Hx
  isplitl [S1]; · iexact S1
  isplitl [Ho]; · iexact Ho
  isplitl [HO]; · iexact HO
  isplitr; · iexact Hmw
  iintro ⟨Hx, S1, Ho, HO⟩
  iapply (Entails.of_eq (wp_bind _ _ _ _ _ _).symm); iapply (wp_early d a1 x 2 _)
  isplitl [Hx]; · iexact Hx
  isplitl [S2]; · iexact S2
  isplitl [Ho]; · iexact Ho
  isplitl [HO]; · iexact HO
  isplitr; · iexact Hmw
  iintro ⟨Hx, S2, Ho, HO⟩
  iapply (Entails.of_eq (wp_bind _ _ _ _ _ _).symm); iapply (wp_early d a1 x 3 _)
  isplitl [Hx]; · iexact Hx
  isplitl [S3]; · iexact S3
  isplitl [Ho]; · iexact Ho
  isplitl [HO]; · iexact HO
  isplitr; · iexact Hmw
  iintro ⟨Hx, S3, Ho, HO⟩
  iapply (Entails.of_eq (wp_bind _ _ _ _ _ _).symm); iapply (wp_early d a1 x 4 _)
  isplitl [Hx]; · iexact Hx
  isplitl [S4]; · iexact S4
  isplitl [Ho]; · iexact Ho
  isplitl [HO]; · iexact HO
  isplitr; · iexact Hmw
  iintro ⟨Hx, S4, Ho, HO⟩
  iapply (Entails.of_eq (wp_bind _ _ _ _ _ _).symm); iapply (wp_early d a1 x 5 _)
  isplitl [Hx]; · iexact Hx
  isplitl [S5]; · iexact S5
  isplitl [Ho]; · iexact Ho
  isplitl [HO]; · iexact HO
  isplitr; · iexact Hmw
  iintro ⟨Hx, S5, Ho, HO⟩
  iapply (Entails.of_eq (wp_bind _ _ _ _ _ _).symm); iapply (wp_late d a1 x 0 _)
  isplitl [S0]; · iexact S0
  isplitl [Ho]; · iexact Ho
  isplitl [HO]; · iexact HO
  isplitr; · iexact Hmw
  iintro ⟨S0, Ho, HO⟩
  iapply (Entails.of_eq (wp_bind _ _ _ _ _ _).symm); iapply (wp_late d a1 x 1 _)
  isplitl [S1]; · iexact S1
  isplitl [Ho]; · iexact Ho
  isplitl [HO]; · iexact HO
  isplitr; · iexact Hmw
  iintro ⟨S1, Ho, HO⟩
  iapply (Entails.of_eq (wp_bind _ _ _ _ _ _).symm); iapply (wp_late d a1 x 2 _)
  isplitl [S2]; · iexact S2
  isplitl [Ho]; · iexact Ho
  isplitl [HO]; · iexact HO
  isplitr; · iexact Hmw
  iintro ⟨S2, Ho, HO⟩
  iapply (Entails.of_eq (wp_bind _ _ _ _ _ _).symm); iapply (wp_late d a1 x 3 _)
  isplitl [S3]; · iexact S3
  isplitl [Ho]; · iexact Ho
  isplitl [HO]; · iexact HO
  isplitr; · iexact Hmw
  iintro ⟨S3, Ho, HO⟩
  iapply (Entails.of_eq (wp_bind _ _ _ _ _ _).symm); iapply (wp_late d a1 x 4 _)
  isplitl [S4]; · iexact S4
  isplitl [Ho]; · iexact Ho
  isplitl [HO]; · iexact HO
  isplitr; · iexact Hmw
  iintro ⟨S4, Ho, HO⟩
  iapply (wp_late d a1 x 5 _)
  isplitl [S5]; · iexact S5
  isplitl [Ho]; · iexact Ho
  isplitl [HO]; · iexact HO
  isplitr; · iexact Hmw
  iintro ⟨S5, Ho, HO⟩
  isplitl [Hx]; · iexact Hx
  isplitl [S0 S1 S2 S3 S4 S5]
  · isplitl [S0]; · iexact S0
    isplitl [S1]; · iexact S1
    isplitl [S2]; · iexact S2
    isplitl [S3]; · iexact S3
    isplitl [S4] <;> iassumption
  isplitl [Ho] <;> iassumption

end Run

end Cert.Proof.Mask

end
-- ==== Proof.ScBody.lean ====
/-
  The run of the SparseCore kernel at one tile: from the images at some share, the tile's scratch, its semaphores at
  zero and its row of the output, it ends with the tile's numbers in that row. The numbers are given as folds over the
  rows and the groups of sixteen lanes that the tile goes through.
-/
module

public import proofs.«01_k».proof.Proof.TcBody

@[expose] public section

noncomputable section

namespace Cert.Proof.Mask

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Where a tile's rows lie -/

/-- The tile's number, its image, and its first row there. -/
def tNum (i : grid1.Coords) : ℕ := 16 * (i 0).val + (i 1).val
def tImg (i : grid1.Coords) : ℕ := 12 + tNum i / 8
def tRow (i : grid1.Coords) : ℕ := 64 * (tNum i % 8)

theorem tNum_lt (i : grid1.Coords) : tNum i < 32 := by
  have h0 : (i 0).val < 2 := (i 0).isLt
  have h1 : (i 1).val < 16 := (i 1).isLt
  unfold tNum; omega
theorem tImg_lt (i : grid1.Coords) : tImg i < 16 := by have := tNum_lt i; unfold tImg; omega
theorem tRow_lt (i : grid1.Coords) : tRow i + 64 ≤ 512 := by unfold tRow; omega

/-- The grid's point of a pair of numbers. -/
def mkCoords (a : Fin 2) (b : Fin 16) : grid1.Coords := fun | 0 => a | 1 => b
theorem mkCoords_eta (i : grid1.Coords) : i = mkCoords (i 0) (i 1) := by funext a; fin_cases a <;> rfl

theorem off1_eq (i : grid1.Coords) (r : Fin 4) :
    k1_off1 i (BitVec.ofNat 32 (16 * r.val)) = ![tImg i, 0, tRow i + 16 * r.val, 0] := by
  rw [mkCoords_eta i]; generalize i 0 = a; generalize i 1 = b
  revert a b r; decide +kernel
theorem off2_eq (i : grid1.Coords) (r : Fin 4) :
    k1_off2 i (BitVec.ofNat 32 (16 * r.val)) = ![tImg i, 1, tRow i + 16 * r.val, 0] := by
  rw [mkCoords_eta i]; generalize i 0 = a; generalize i 1 = b
  revert a b r; decide +kernel
theorem off3_eq (i : grid1.Coords) (r : Fin 4) :
    k1_off3 i (BitVec.ofNat 32 (16 * r.val)) = ![tImg i, 2, tRow i + 16 * r.val, 0] := by
  rw [mkCoords_eta i]; generalize i 0 = a; generalize i 1 = b
  revert a b r; decide +kernel
theorem off16_eq (i : grid1.Coords) : k1_off16 i = ![tNum i, 0] := by
  rw [mkCoords_eta i]; generalize i 0 = a; generalize i 1 = b
  revert a b; decide +kernel
theorem row0_eq (i : grid1.Coords) : row0 i = BitVec.ofNat 32 (tRow i) := by
  rw [mkCoords_eta i]; generalize i 0 = a; generalize i 1 = b
  revert a b; decide +kernel

/-! ## What a tile computes -/

section Values

variable [FloatOps F] (x : Vec F S16x3x512x512 .f32)

/-- Lanes `16 n` to `16 n + 15` of a row of a channel of an image. -/
def lanes (b : Fin 16) (k : Fin 3) (row : Fin 512) (n : ℕ) : Vec F S1x1x1x16 .f32 :=
  fun j => x (ix4 b k row ⟨(16 * n + (j 3).val) % 512, Nat.mod_lt _ (by decide)⟩)

/-- The first `n` groups of a row. -/
def grpRun (b : Fin 16) (row : Fin 512) (g : Grp F) : ℕ → Grp F
  | 0 => g
  | n + 1 => grpStep (grpRun b row g n) (lanes x b 0 row n) (lanes x b 1 row n) (lanes x b 2 row n)

/-- Row `n` of chunk `r` of the tile. -/
def tileRow (i : grid1.Coords) (r : Fin 4) (n : ℕ) : Fin 512 := ⟨(tRow i + 16 * r.val + n) % 512, Nat.mod_lt _ (by decide)⟩

def tripOf (n : ℕ) : Fin k1_t1_loop.trips := ⟨n % 16, by rw [trips_rows]; exact Nat.mod_lt _ (by decide)⟩

/-- The first `n` rows of chunk `r`. -/
def rowRun (i : grid1.Coords) (r : Fin 4) (a : Acc F) : ℕ → Acc F
  | 0 => a
  | n + 1 => rowStep (row0 i) (BitVec.ofNat 32 (16 * r.val)) (tripOf n) (rowRun i r a n)
      (grpRun x ⟨tImg i, tImg_lt i⟩ (tileRow i r n) ((rowRun i r a n).1, (rowRun i r a n).2.1, k1_pay2, k1_pay2) 32)

/-- The tile's accumulators at the end. -/
def tileRun (i : grid1.Coords) : Acc F := rowRun x i 3 (rowRun x i 2 (rowRun x i 1 (rowRun x i 0 acc0 16) 16) 16) 16

/-- What the SparseCore kernel computes: row `w` holds the numbers of tile `w`. -/
def scOutV : FVec F S32x16 .f32 := fun w =>
  accPay (F := F) (tileRun x (mkCoords ⟨(w 0).val / 16, by have h : (w 0).val < 32 := (w 0).isLt; omega⟩
    ⟨(w 0).val % 16, Nat.mod_lt _ (by decide)⟩)) (fun | 0 => w 1)

/-- Chunk `r` of the tile in every slot of the scratch. -/
def bufOf (i : grid1.Coords) (r : Fin 4) : Vec F S3x3x16x512 .f32 := fun j =>
  x (ix4 ⟨tImg i, tImg_lt i⟩ (j 1) ⟨tRow i + 16 * r.val + (j 2).val, by
    have h : (j 2).val < 16 := (j 2).isLt
    have := tRow_lt i
    have := r.isLt
    omega⟩ (j 3))

end Values

theorem bufWin_set (s k : ℕ) (hs : s < 3) (hk : k < 3) :
    (bufWin (Memref.whole cc1_scratch0) s k hs hk).view.set = chanSet (A := 3) (B := 3) (n := 16) (m := 512) s k := by
  ext i
  refine Iff.trans ?_ (winIx_range s k (bufInb hs hk) i)
  constructor
  · intro h
    obtain ⟨y, -, rfl⟩ := Finset.mem_map.mp h
    exact ⟨y, (emb_win ![s, k, 0, 0] (bufInb hs hk) (Memref.whole cc1_scratch0) squeezes_S1x1x16x512_S16x512 y).symm⟩
  · rintro ⟨y, rfl⟩
    exact Finset.mem_map.mpr ⟨y, Finset.mem_univ _,
      emb_win ![s, k, 0, 0] (bufInb hs hk) (Memref.whole cc1_scratch0) squeezes_S1x1x16x512_S16x512 y⟩

/-! ## The pieces of the run -/

section Run

variable [FloatOps F] (d : Dev nD) (i : grid1.Coords)

abbrev tileT : Thread nD τ := V d ((i 0).castLE hcore1) ((i 1).castLE hsub1)
abbrev bufM : Memref sig .scVector .vmem S3x3x16x512 .f32 := Memref.whole cc1_scratch0
abbrev bufN : ℕ := (bufWin bufM 0 0 (by decide) (by decide)).view.dmaCredit
abbrev xM : Memref sig .scVector .hbm S16x3x512x512 .f32 := Memref.whole main_arg0_scv
abbrev rowM : Memref sig .scVector .vmem S16 .f32 := Memref.whole cc1_scratch1
abbrev outM : Memref sig .scVector .hbm S32x16 .f32 := Memref.whole main_v2_scv

def imgsT (x : Vec F S16x3x512x512 .f32) : sProp 𝕄 :=
  iprop(∃ q : PosShare TreeShare, (xM.view.loc (tileT d i)) ↦{q} x)

def bufAny (s k : ℕ) : sProp 𝕄 :=
  iprop(∃ g : Buf (Elt F) (bufM.view.loc (tileT d i)), (bufM.view.loc (tileT d i)) ↦[chanSet (A := 3) (B := 3) (n := 16) (m := 512) s k]{fullShare} g)

/-- A slot that no copy touches. -/
def bufFree (s : ℕ) : sProp 𝕄 := iprop(bufAny (F := F) d i s 0 ∗ bufAny (F := F) d i s 1 ∗ bufAny (F := F) d i s 2)

/-- A slot that holds chunk `r`. -/
def bufHas (x : Vec F S16x3x512x512 .f32) (s : ℕ) (r : Fin 4) : sProp 𝕄 :=
  iprop(((bufM.view.loc (tileT d i)) ↦[chanSet (A := 3) (B := 3) (n := 16) (m := 512) s 0]{fullShare} (bufOf x i r))
    ∗ ((bufM.view.loc (tileT d i)) ↦[chanSet (A := 3) (B := 3) (n := 16) (m := 512) s 1]{fullShare} (bufOf x i r))
    ∗ ((bufM.view.loc (tileT d i)) ↦[chanSet (A := 3) (B := 3) (n := 16) (m := 512) s 2]{fullShare} (bufOf x i r)))

theorem bufHas_free (x : Vec F S16x3x512x512 .f32) (s : ℕ) (r : Fin 4) : bufHas d i x s r ⊢ bufFree (F := F) d i s := by
  unfold bufHas bufFree bufAny
  iintro ⟨H0, H1, H2⟩
  isplitl [H0]; · iexists _; iexact H0
  isplitl [H1]; · iexists _; iexact H1
  iexists _; iexact H2

/-- A slot under the copies of chunk `r`, on semaphore `q`. -/
def bufBusy (x : Vec F S16x3x512x512 .f32) (q : DmaSems sig S_) (s : ℕ) (r : Fin 4) : sProp 𝕄 :=
  Transfers.Batch EC (tileT d i) (.dma q.sem) (none : HIx 1) bufN
    (fun t : Fin 3 => ((bufM.view.loc (tileT d i)) ↦[chanSet (A := 3) (B := 3) (n := 16) (m := 512) s t.val]{fullShare} (bufOf x i r) : sProp 𝕄)) 3 0

/-- Where the three channels of chunk `r` start in the images. -/
def srcOff (r : Fin 4) : Fin 3 → Fin 4 → ℕ
  | 0 => k1_off1 i (BitVec.ofNat 32 (16 * r.val))
  | 1 => k1_off2 i (BitVec.ofNat 32 (16 * r.val))
  | 2 => k1_off3 i (BitVec.ofNat 32 (16 * r.val))

theorem srcOff_eq (r : Fin 4) (t : Fin 3) : srcOff i r t = ![tImg i, t.val, tRow i + 16 * r.val, 0] := by
  fin_cases t
  · exact off1_eq i r
  · exact off2_eq i r
  · exact off3_eq i r

theorem srcInb (r : Fin 4) (t : Fin 3) : ∀ a, srcOff i r t a + S1x1x16x512.size a ≤ S16x3x512x512.size a := by
  fin_cases t
  · exact k1_off1_inb i r
  · exact k1_off2_inb i r
  · exact k1_off3_inb i r

theorem bufOf_win (x : Vec F S16x3x512x512 .f32) (r : Fin 4) (s : ℕ) (hs : s < 3) (t : Fin 3) (y : S16x512.Idx) :
    bufOf x i r (winIx ![s, t.val, 0, 0] (bufInb hs t.isLt) y)
      = x (winIx (srcOff i r t) (srcInb i r t) y) := by
  unfold bufOf
  congr 1
  unfold winIx ix4
  have e := srcOff_eq i r t
  funext a
  fin_cases a
  · exact Fin.ext (show tImg i = srcOff i r t 0 by rw [e]; rfl)
  · exact Fin.ext (show t.val = srcOff i r t 1 by rw [e]; rfl)
  · refine Fin.ext (show tRow i + 16 * r.val + (0 + (y 0).val) = srcOff i r t 2 + (y 0).val from ?_)
    rw [e]; show tRow i + 16 * r.val + (0 + (y 0).val) = tRow i + 16 * r.val + (y 0).val; omega
  · refine Fin.ext (show 0 + (y 1).val = srcOff i r t 3 + (y 1).val from ?_)
    rw [e]; rfl

theorem wp_scIssue (x : Vec F S16x3x512x512 .f32) (q : DmaSems sig S_) (s : ℕ) (hs : s < 3) (r : Fin 4) {Q : PUnit → sProp 𝕄} :
    iprop(imgsT d i x ∗ bufFree (F := F) d i s ∗ semVal (tileT d i, .dma q.sem) 0 ∗ (iprop(bufBusy d i x q s r ∗ imgsT d i x) -∗ Q ⟨⟩))
      ⊢ wp frame (wpE defs₀ 𝒱₀ (tileT d i) none) Set.univ (scIssue i xM bufM q s hs r) Q := by
  unfold imgsT bufFree bufBusy bufAny
  iintro ⟨Hx, ⟨H0, H1, H2⟩, Hs, Hk⟩
  iapply (wp_grab3 (n := 16) (m := 512) 𝒱₀ (tileT d i) none xM bufM (srcOff i r) (fun t : Fin 3 => ![s, t.val, 0, 0])
    (srcInb i r) (fun t => bufInb hs t.isLt) (fun _ => squeezes_S1x1x16x512_S16x512)
    (fun _ => squeezes_S1x1x16x512_S16x512) q.sem (fun _ => (View.wordExact_bits rfl).reshape _ _)
    (fun _ => (View.wordExact_bits rfl).reshape _ _) (fun _ => ⟨Or.inl rfl, trivial⟩) bufN (fun _ => rfl) x (bufOf x i r)
    (fun t y => bufOf_win i x r s hs t y) (fun t => chanSet (A := 3) (B := 3) (n := 16) (m := 512) s t.val) (fun t => bufWin_set s t.val hs t.isLt))
  isplitl [Hx]; · iexact Hx
  isplitl [H0]; · iexact H0
  isplitl [H1]; · iexact H1
  isplitl [H2]; · iexact H2
  isplitl [Hs]; · iexact Hs
  iexact Hk

def srcWin (r : Fin 4) : Fin 3 → Memref sig .scVector .hbm S16x512 .f32
  | 0 => srcWin0 i xM r
  | 1 => srcWin1 i xM r
  | 2 => srcWin2 i xM r

theorem srcWin_exact (r : Fin 4) (t : Fin 3) : (srcWin i r t).view.WordExact := by
  fin_cases t
  · exact (View.wordExact_bits rfl).reshape _ _
  · exact (View.wordExact_bits rfl).reshape _ _
  · exact (View.wordExact_bits rfl).reshape _ _

theorem wp_scSettle (x : Vec F S16x3x512x512 .f32) (q : DmaSems sig S_) (s : ℕ) (hs : s < 3) (r : Fin 4)
    {O : CellTallies nD τ sig (HIx 1)} {W : Waits sig (HIx 1)} {Q : PUnit → sProp 𝕄} :
    iprop(bufBusy d i x q s r ∗ owesN (tileT d i) O W ∗ Transfers.MayWaits (tileT d i) (none : HIx 1) O
        ∗ (iprop(bufHas d i x s r ∗ semVal (tileT d i, .dma q.sem) 0 ∗ owesN (tileT d i) O W) -∗ Q ⟨⟩))
      ⊢ wp frame (wpE defs₀ 𝒱₀ (tileT d i) none) Set.univ (scSettle i xM bufM q s hs r) Q := by
  unfold bufBusy bufHas
  iintro ⟨HB, HO, Hmw, Hk⟩
  iapply (wp_settle3 𝒱₀ (tileT d i) none (srcWin i r) (fun t : Fin 3 => bufWin bufM s t.val hs t.isLt)
    q.sem (srcWin_exact i r)
    (fun _ => (View.wordExact_bits rfl).reshape _ _) bufN (fun _ => rfl) (View.dmaCredit_pos _ (by decide))
    (fun t : Fin 3 => ((bufM.view.loc (tileT d i)) ↦[chanSet (A := 3) (B := 3) (n := 16) (m := 512) s t.val]{fullShare} (bufOf x i r) : sProp 𝕄)))
  isplitl [HB]; · iexact HB
  isplitl [HO]; · iexact HO
  isplitl [Hmw]; · iexact Hmw
  iintro ⟨H0, H1, H2, Hs, HO⟩
  iapply Hk
  isplitl [H0 H1 H2]
  · isplitl [H0]; · iexact H0
    isplitl [H1]; · iexact H1
    iexact H2
  isplitl [Hs] <;> iassumption

/-! ### The loops -/

theorem grp_sub (s k : ℕ) (hs : s < 3) (hk : k < 3) (t : Fin k1_t1_loop.trips) (u : Fin k1_t2_loop.trips) :
    (bufM.access (Rect.unit (s := S3x3x16x512) (grpOff s k t u) S1x1x1x16.size (grpInb hs hk t u))).set
      ⊆ chanSet (A := 3) (B := 3) (n := 16) (m := 512) s k := by
  intro j hj
  obtain ⟨y, -, rfl⟩ := Finset.mem_map.mp hj
  have h0 : (y 0).val < 1 := (y 0).isLt
  have h1 : (y 1).val < 1 := (y 1).isLt
  have e := grpOff_eq s k t u
  refine Finset.mem_filter.mpr ⟨Finset.mem_univ _, ?_, ?_⟩
  · show grpOff s k t u 0 + 1 * (y 0).val = s
    have e' : grpOff s k t u 0 = s := congrFun e 0
    omega
  · show grpOff s k t u 1 + 1 * (y 1).val = k
    have e' : grpOff s k t u 1 = k := congrFun e 1
    omega

theorem grp_sub' (s k : ℕ) (hs : s < 3) (hk : k < 3) (t : Fin k1_t1_loop.trips) (u : Fin k1_t2_loop.trips) :
    bufM.view.setOn (Rect.unit (s := S3x3x16x512) (grpOff s k t u) S1x1x1x16.size (grpInb hs hk t u)).toLoadRect.set
      ⊆ chanSet (A := 3) (B := 3) (n := 16) (m := 512) s k := by
  have h := grp_sub s k hs hk t u
  rw [View.set_slice] at h
  exact h

theorem grp_read (x : Vec F S16x3x512x512 .f32) (r : Fin 4) (s : ℕ) (k : Fin 3) (hs : s < 3) (t : Fin k1_t1_loop.trips) (u : Fin k1_t2_loop.trips) :
    (bufM.access (Rect.unit (s := S3x3x16x512) (grpOff s k.val t u) S1x1x1x16.size (grpInb hs k.isLt t u))).read (Elt F) (bufOf x i r)
      = lanes x ⟨tImg i, tImg_lt i⟩ k (tileRow i r t.val) u.val := by
  have ht : t.val < 16 := lt_of_lt_of_eq t.isLt trips_rows
  have hu : u.val < 32 := lt_of_lt_of_eq u.isLt trips_grps
  have hr := tRow_lt i
  have hr' := r.isLt
  have e := grpOff_eq s k t u
  funext y
  have h1 : (y 1).val < 1 := (y 1).isLt
  have h2 : (y 2).val < 1 := (y 2).isLt
  have h3 : (y 3).val < 16 := (y 3).isLt
  unfold lanes
  show x (ix4 _ _ _ _) = x (ix4 _ _ _ _)
  congr 1
  unfold ix4
  funext a
  fin_cases a
  · rfl
  · refine Fin.ext (show grpOff s k.val t u 1 + 1 * (y 1).val = k.val from ?_)
    have e' : grpOff s k.val t u 1 = k.val := congrFun e 1
    omega
  · refine Fin.ext (show tRow i + 16 * r.val + (grpOff s k.val t u 2 + 1 * (y 2).val) = (tRow i + 16 * r.val + t.val) % 512 from ?_)
    have e' : grpOff s k.val t u 2 = t.val := congrFun e 2
    omega
  · refine Fin.ext (show grpOff s k.val t u 3 + 1 * (y 3).val = (16 * u.val + (y 3).val) % 512 from ?_)
    have e' : grpOff s k.val t u 3 = 16 * u.val := congrFun e 3
    omega

theorem wp_grps (x : Vec F S16x3x512x512 .f32) (s : ℕ) (hs : s < 3) (r : Fin 4) (t : Fin k1_t1_loop.trips) (g : Grp F)
    {Q : Grp F → sProp 𝕄} :
    iprop(bufHas d i x s r ∗ (bufHas d i x s r -∗ Q (grpRun x ⟨tImg i, tImg_lt i⟩ (tileRow i r t.val) g 32)))
      ⊢ wp frame (wpE defs₀ 𝒱₀ (tileT d i) none) Set.univ (Scf.Loop.for k1_t2_loop k1_t2_ok g (grpBody i bufM s hs t)) Q := by
  iintro ⟨HB, Hk⟩
  iapply (Scf.wp_for frame (wpE defs₀ 𝒱₀ (tileT d i) none) Set.univ _ _ _ k1_t2_ok g (grpBody i bufM s hs t)
    (fun n g' => iprop(bufHas d i x s r ∗ ⌜g' = grpRun x ⟨tImg i, tImg_lt i⟩ (tileRow i r t.val) g n⌝)) ?_)
  · rintro u ⟨g0, g1, g2, g3⟩
    unfold grpBody bufHas
    iintro ⟨⟨H0, H1, H2⟩, %hg⟩
    iapply (wp_load 𝒱₀ (tileT d i) none Set.univ (grp_sub' s 0 hs (by decide) t u)) $$ H0
    iintro H0
    iapply (wp_load 𝒱₀ (tileT d i) none Set.univ (grp_sub' s 1 hs (by decide) t u)) $$ H1
    iintro H1
    iapply (wp_load 𝒱₀ (tileT d i) none Set.univ (grp_sub' s 2 hs (by decide) t u)) $$ H2
    iintro H2
    iapply (Entails.of_eq (wp_ret _ _ _ _ _).symm); imodintro
    isplitl [H0 H1 H2]
    · isplitl [H0]; · iexact H0
      isplitl [H1] <;> iassumption
    ipureintro
    have e0 := grp_read i x r s 0 hs t u
    have e1 := grp_read i x r s 1 hs t u
    have e2 := grp_read i x r s 2 hs t u
    rw [grpRun, ← hg, ← e0, ← e1, ← e2]
    rfl
  isplitl [HB]
  · isplitl [HB]; · iexact HB
    ipureintro; rfl
  iintro %acc ⟨HB, %hacc⟩
  have hacc' := hacc.trans (congrArg (grpRun x ⟨tImg i, tImg_lt i⟩ (tileRow i r t.val) g) trips_grps)
  subst hacc'
  iapply Hk; iexact HB

theorem wp_rows (x : Vec F S16x3x512x512 .f32) (s : ℕ) (hs : s < 3) (r : Fin 4) (a : Acc F) {Q : Acc F → sProp 𝕄} :
    iprop(bufHas d i x s r ∗ (bufHas d i x s r -∗ Q (rowRun x i r a 16)))
      ⊢ wp frame (wpE defs₀ 𝒱₀ (tileT d i) none) Set.univ (rows i bufM s hs (BitVec.ofNat 32 (16 * r.val)) a) Q := by
  unfold rows
  iintro ⟨HB, Hk⟩
  iapply (Scf.wp_for frame (wpE defs₀ 𝒱₀ (tileT d i) none) Set.univ _ _ _ k1_t1_ok a
    (rowBody i bufM s hs (BitVec.ofNat 32 (16 * r.val)))
    (fun n a' => iprop(bufHas d i x s r ∗ ⌜a' = rowRun x i r a n⌝)) ?_)
  · rintro t ⟨b0, b1, b2, b3, b4, b5⟩
    have ht : t.val < 16 := lt_of_lt_of_eq t.isLt trips_rows
    unfold rowBody
    iintro ⟨HB, %ha⟩
    iapply (Entails.of_eq (wp_bind _ _ _ _ _ _).symm)
    iapply (wp_grps d i x s hs r t (b0, b1, k1_pay2, k1_pay2))
    isplitl [HB]; · iexact HB
    iintro HB
    rw [wp_pure]; imodintro
    isplitl [HB]; · iexact HB
    ipureintro
    have et : tripOf t.val = t := Fin.ext (Nat.mod_eq_of_lt ht)
    rw [rowRun, ← ha, et]
  isplitl [HB]
  · isplitl [HB]; · iexact HB
    ipureintro; rfl
  iintro %acc ⟨HB, %hacc⟩
  have hacc' := hacc.trans (congrArg (rowRun x i r a) trips_rows)
  subst hacc'
  iapply Hk; iexact HB

theorem wp_chunk (x : Vec F S16x3x512x512 .f32) (q : DmaSems sig S_) (s : ℕ) (hs : s < 3) (r : Fin 4) (a : Acc F)
    {O : CellTallies nD τ sig (HIx 1)} {W : Waits sig (HIx 1)} {Q : Acc F → sProp 𝕄} :
    iprop(bufBusy d i x q s r ∗ owesN (tileT d i) O W ∗ Transfers.MayWaits (tileT d i) (none : HIx 1) O
        ∗ (iprop(bufFree (F := F) d i s ∗ semVal (tileT d i, .dma q.sem) 0 ∗ owesN (tileT d i) O W) -∗ Q (rowRun x i r a 16)))
      ⊢ wp frame (wpE defs₀ 𝒱₀ (tileT d i) none) Set.univ (chunk i xM bufM q s hs r (BitVec.ofNat 32 (16 * r.val)) a) Q := by
  unfold chunk
  rw [wp_bind]
  iintro ⟨HB, HO, Hmw, Hk⟩
  iapply (wp_scSettle d i x q s hs r)
  isplitl [HB]; · iexact HB
  isplitl [HO]; · iexact HO
  isplitl [Hmw]; · iexact Hmw
  iintro ⟨HB, Hs, HO⟩
  iapply (wp_rows d i x s hs r a)
  isplitl [HB]; · iexact HB
  iintro HB
  iapply Hk
  isplitl [HB]; · iapply (bufHas_free d i x s r); iexact HB
  isplitl [Hs] <;> iassumption

/-! ### The tile's row of the output, and the whole run -/

/-- Lane `c` of the tile's row. -/
def rowIx (c : Fin 16) : S32x16.Idx := fun | 0 => ⟨tNum i, tNum_lt i⟩ | 1 => c

theorem out_emb (y : S16.Idx) :
    (outWin i outM).view.emb y = (rowIx i (y 0)) := by
  show (Rect.unit (s := S32x16) (k1_off16 i) S1x16.size (k1_off16_inb i)).emb (Shape.reshapeEquiv _ y) = _
  rw [Shape.reshapeEquiv_cons_one]
  have e := off16_eq i
  funext a
  apply Fin.ext
  fin_cases a
  · show k1_off16 i 0 + 1 * 0 = tNum i
    have e' : k1_off16 i 0 = tNum i := congrFun e 0
    omega
  · show k1_off16 i 1 + 1 * (y 0).val = (y 0).val
    have e' : k1_off16 i 1 = 0 := congrFun e 1
    omega

/-- The elements of row `tNum i` of the output. -/
def rowSet (i : grid1.Coords) : Finset S32x16.Idx := Finset.univ.filter fun w => (w 0).val = tNum i

theorem row_ix (w : S32x16.Idx) (h : (w 0).val = tNum i) : rowIx i (w 1) = w := by
  funext a
  fin_cases a
  · exact Fin.ext h.symm
  · rfl

theorem out_set : (outWin i outM).view.set = rowSet i := by
  refine Finset.ext fun w : S32x16.Idx => ?_
  constructor
  · intro h
    obtain ⟨y, -, rfl⟩ := Finset.mem_map.mp h
    rw [out_emb]
    exact Finset.mem_filter.mpr ⟨Finset.mem_univ _, rfl⟩
  · intro h
    refine Finset.mem_map.mpr ⟨(fun | 0 => w 1 : S16.Idx), Finset.mem_univ _, ?_⟩
    exact (out_emb i _).trans (row_ix i w (Finset.mem_filter.mp h).2)

theorem scOutV_row (x : Vec F S16x3x512x512 .f32) (y : S16.Idx) :
    scOutV x (rowIx i (y 0)) = accPay (F := F) (tileRun x i) y := by
  have h1 : (i 1).val < 16 := (i 1).isLt
  have e : (mkCoords ⟨tNum i / 16, by have := tNum_lt i; omega⟩ ⟨tNum i % 16, Nat.mod_lt _ (by decide)⟩) = i := by
    rw [mkCoords_eta i]
    have a0 : (⟨tNum i / 16, by have := tNum_lt i; omega⟩ : Fin 2) = i 0 := by
      refine Fin.ext (show tNum i / 16 = (i 0).val from ?_); unfold tNum; omega
    have a1 : (⟨tNum i % 16, Nat.mod_lt _ (by decide)⟩ : Fin 16) = i 1 := by
      refine Fin.ext (show tNum i % 16 = (i 1).val from ?_); unfold tNum; omega
    rw [← mkCoords_eta i, a0, a1, ← mkCoords_eta i]
  unfold scOutV
  show accPay (F := F) (tileRun x (mkCoords ⟨tNum i / 16, _⟩ ⟨tNum i % 16, _⟩)) _ = _
  rw [e]
  congr 1
  funext a
  fin_cases a
  rfl

/-- The tile's scratch row, and its row of the output, at any contents. -/
def scrRow : sProp 𝕄 := iprop(∃ g : Buf (Elt F) (rowM.view.loc (tileT d i)), (rowM.view.loc (tileT d i)) ↦{fullShare} g)
def outRow (V : Buf (Elt F) (outM.view.loc (tileT d i))) : sProp 𝕄 :=
  iprop((outM.view.loc (tileT d i)) ↦[rowSet i]{fullShare} V)

theorem row_whole (g : Buf (Elt F) (rowM.view.loc (tileT d i))) :
    ((rowM.view.loc (tileT d i)) ↦{fullShare} g : sProp 𝕄) ⊣⊢ ((rowM.view.loc (tileT d i)) ↦[rowM.view.set]{fullShare} g) := by
  rw [show rowM.view.set = Finset.univ from (Memref.isWhole_whole cc1_scratch1).set_eq_univ]

theorem out_written (a : Acc F) (V W0 : Vec F S32x16 .f32) (g : Buf (Elt F) (rowM.view.loc (tileT d i)))
    (hV : ∀ y : S16.Idx, V (rowIx i (y 0)) = accPay (F := F) a y) :
    (((outWin i outM).view.loc (tileT d i)) ↦[rowSet i]{fullShare} ((outWin i outM).view.write (Elt F) W0 (rowM.view.read (Elt F)
      ((rowM.access (Rect.unit (s := S16) ![0] S16.size inb_S16_S16_0)).write (Elt F) g (accPay a) Finset.univ)) Finset.univ) : sProp 𝕄)
      ⊢ (outM.view.loc (tileT d i)) ↦[rowSet i]{fullShare} V := by
  have e : rowM.view.read (Elt F)
      ((rowM.access (Rect.unit (s := S16) ![0] S16.size inb_S16_S16_0)).write (Elt F) g (accPay a) Finset.univ)
      = (outWin i outM).view.read (Elt F) V := by
    funext y
    have ey : (Rect.unit (s := S16) ![0] S16.size inb_S16_S16_0).emb y = y := by
      funext b; apply Fin.ext; fin_cases b; show 0 + 1 * (y 0).val = (y 0).val; omega
    have h1 := View.read_slice_write_emb (Val := Elt F) (v := rowM.view) (Rect.unit (s := S16) ![0] S16.size inb_S16_S16_0) g (accPay a) (Finset.mem_univ y)
    rw [ey] at h1
    refine h1.trans ?_
    refine (hV y).symm.trans ?_
    exact (congrArg V (out_emb i y)).symm
  rw [e]
  refine Entails.of_eq (pointsTo_congr fun w hw => ?_)
  have hw' : w ∈ (outWin i outM).view.set := (out_set i).symm ▸ hw
  exact (congrFun (View.write_read_eq_piecewise (v := (outWin i outM).view) (Val := Elt F) W0 V Finset.univ) w).trans
    (Finset.piecewise_eq_of_mem _ _ _ hw')

theorem wp_scOut (a : Acc F) (V W0 : Vec F S32x16 .f32)
    (hV : ∀ y : S16.Idx, V (rowIx i (y 0)) = accPay (F := F) a y)
    {O : CellTallies nD τ sig (HIx 1)} {W : Waits sig (HIx 1)} {Q : PUnit → sProp 𝕄} :
    iprop(scrRow (F := F) d i ∗ outRow d i W0 ∗ semVal (tileT d i, .dma cc1_scoped0.sem) 0
        ∗ owesN (tileT d i) O W ∗ Transfers.MayWaits (tileT d i) (none : HIx 1) O
        ∗ (iprop(scrRow (F := F) d i ∗ outRow d i V ∗ semVal (tileT d i, .dma cc1_scoped0.sem) 0 ∗ owesN (tileT d i) O W) -∗ Q ⟨⟩))
      ⊢ wp frame (wpE defs₀ 𝒱₀ (tileT d i) none) Set.univ (scOut i outM rowM (Memref.isWhole_whole _) cc1_scoped0 a) Q := by
  unfold scrRow outRow owesN
  iintro ⟨⟨%g, Hg⟩, Hout, Hs, ⟨%W', %hW', HO⟩, #Hmw, Hk⟩
  iapply (wp_load 𝒱₀ (tileT d i) none Set.univ (Finset.subset_univ _)) $$ Hg
  iintro Hg
  iapply (wp_store 𝒱₀ (tileT d i) none Set.univ (m := rowM) (r := Rect.unit (s := S16) ![0] S16.size inb_S16_S16_0) (f := g)
    (Finset.subset_univ _)) $$ Hg
  iintro Hg
  iapply (Transfers.wp_dmaLocal EC 𝒱₀ (tileT d i) none (none : HIx 1) _ rfl (View.dmaCredit_pos _ (by decide))
    (out_set i).subset) $$ [Hg Hout Hs]
  · isplitl [Hg]
    · iapply (row_whole d i _).1 $$ Hg
    isplitl [Hout]; · iexact Hout
    iexact Hs
  iintro HF
  iapply (Transfers.wp_waitLocalO EC 𝒱₀ (tileT d i) none (none : HIx 1) rfl) $$ [HF HO]
  · isplitl [HF]; · iexact HF
    isplitl [HO]; · iexact HO
    iapply (Transfers.MayWaits.elim (SemLoc.dma cc1_scoped0.sem)) $$ Hmw
  iintro ⟨⟨Hout, Hg⟩, Hs, HO⟩
  rw [wp_ret]; imodintro
  iapply Hk
  isplitl [Hg]; · iexists _; iapply (row_whole d i _).2 $$ Hg
  isplitl [Hout]
  · iapply (out_written d i a V W0 g hV); iexact Hout
  isplitl [Hs]; · iexact Hs
  iexists _; isplitr
  swap; · iexact HO
  ipureintro; intro p hp
  rcases Finset.mem_insert.mp hp with hp | hp; · exact .inr (hp ▸ rfl)
  exact hW' p hp

theorem wp_scProg (x : Vec F S16x3x512x512 .f32) (W0 : Vec F S32x16 .f32)
    {O : CellTallies nD τ sig (HIx 1)} {W : Waits sig (HIx 1)} :
    iprop(imgsT d i x ∗ bufFree (F := F) d i 0 ∗ bufFree (F := F) d i 1 ∗ bufFree (F := F) d i 2 ∗ scrRow (F := F) d i ∗ outRow d i W0
        ∗ semVal (tileT d i, .dma cc1_scratch2.sem) 0 ∗ semVal (tileT d i, .dma cc1_scratch3.sem) 0
        ∗ semVal (tileT d i, .dma cc1_scratch4.sem) 0 ∗ semVal (tileT d i, .dma cc1_scoped0.sem) 0
        ∗ owesN (tileT d i) O W ∗ Transfers.MayWaits (tileT d i) (none : HIx 1) O)
      ⊢ wp frame (wpE defs₀ 𝒱₀ (tileT d i) none) Set.univ
          (scProg i xM outM bufM rowM (Memref.isWhole_whole _) cc1_scratch2 cc1_scratch3 cc1_scratch4 cc1_scoped0) fun _ =>
          iprop(imgsT d i x ∗ bufFree (F := F) d i 0 ∗ bufFree (F := F) d i 1 ∗ bufFree (F := F) d i 2 ∗ scrRow (F := F) d i
            ∗ outRow d i (scOutV x)
            ∗ semVal (tileT d i, .dma cc1_scratch2.sem) 0 ∗ semVal (tileT d i, .dma cc1_scratch3.sem) 0
            ∗ semVal (tileT d i, .dma cc1_scratch4.sem) 0 ∗ semVal (tileT d i, .dma cc1_scoped0.sem) 0
            ∗ owesN (tileT d i) O W) := by
  unfold scProg
  iintro ⟨Hx, B0, B1, B2, Hr, Ho, S0, S1, S2, So, HO, #Hmw⟩
  iapply (Entails.of_eq (wp_bind _ _ _ _ _ _).symm)
  iapply (wp_scIssue d i x cc1_scratch2 0 _ 0)
  isplitl [Hx]; · iexact Hx
  isplitl [B0]; · iexact B0
  isplitl [S0]; · iexact S0
  iintro ⟨B0, Hx⟩
  iapply (Entails.of_eq (wp_bind _ _ _ _ _ _).symm)
  iapply (wp_scIssue d i x cc1_scratch3 1 _ 1)
  isplitl [Hx]; · iexact Hx
  isplitl [B1]; · iexact B1
  isplitl [S1]; · iexact S1
  iintro ⟨B1, Hx⟩
  iapply (Entails.of_eq (wp_bind _ _ _ _ _ _).symm)
  iapply (wp_chunk d i x cc1_scratch2 0 _ 0 acc0 (O := O) (W := W))
  isplitl [B0]; · iexact B0
  isplitl [HO]; · iexact HO
  isplitr; · iexact Hmw
  iintro ⟨B0, S0, HO⟩
  iapply (Entails.of_eq (wp_bind _ _ _ _ _ _).symm)
  iapply (wp_scIssue d i x cc1_scratch4 2 _ 2)
  isplitl [Hx]; · iexact Hx
  isplitl [B2]; · iexact B2
  isplitl [S2]; · iexact S2
  iintro ⟨B2, Hx⟩
  iapply (Entails.of_eq (wp_bind _ _ _ _ _ _).symm)
  iapply (wp_chunk d i x cc1_scratch3 1 _ 1 (rowRun x i 0 acc0 16) (O := O) (W := W))
  isplitl [B1]; · iexact B1
  isplitl [HO]; · iexact HO
  isplitr; · iexact Hmw
  iintro ⟨B1, S1, HO⟩
  iapply (Entails.of_eq (wp_bind _ _ _ _ _ _).symm)
  iapply (wp_scIssue d i x cc1_scratch2 0 _ 3)
  isplitl [Hx]; · iexact Hx
  isplitl [B0]; · iexact B0
  isplitl [S0]; · iexact S0
  iintro ⟨B0, Hx⟩
  iapply (Entails.of_eq (wp_bind _ _ _ _ _ _).symm)
  iapply (wp_chunk d i x cc1_scratch4 2 _ 2 (rowRun x i 1 (rowRun x i 0 acc0 16) 16) (O := O) (W := W))
  isplitl [B2]; · iexact B2
  isplitl [HO]; · iexact HO
  isplitr; · iexact Hmw
  iintro ⟨B2, S2, HO⟩
  iapply (Entails.of_eq (wp_bind _ _ _ _ _ _).symm)
  iapply (wp_chunk d i x cc1_scratch2 0 _ 3 (rowRun x i 2 (rowRun x i 1 (rowRun x i 0 acc0 16) 16) 16) (O := O) (W := W))
  isplitl [B0]; · iexact B0
  isplitl [HO]; · iexact HO
  isplitr; · iexact Hmw
  iintro ⟨B0, S0, HO⟩
  iapply (wp_scOut d i (tileRun x i) (scOutV x) W0 (scOutV_row i x) (O := O) (W := W))
  isplitl [Hr]; · iexact Hr
  isplitl [Ho]; · iexact Ho
  isplitl [So]; · iexact So
  isplitl [HO]; · iexact HO
  isplitr; · iexact Hmw
  iintro ⟨Hr, Ho, So, HO⟩
  isplitl [Hx]; · iexact Hx
  isplitl [B0]; · iexact B0
  isplitl [B1]; · iexact B1
  isplitl [B2]; · iexact B2
  isplitl [Hr]; · iexact Hr
  isplitl [Ho]; · iexact Ho
  isplitl [S0]; · iexact S0
  isplitl [S1]; · iexact S1
  isplitl [S2]; · iexact S2
  isplitl [So]; · iexact So
  iexact HO

end Run

end Cert.Proof.Mask

end
-- ==== Proof.Tile.lean ====
/-
  The SparseCore call as the launch theorem sees it: what its handshakes carry, each tile's obligation from the run of
  `ScBody`, and the split of the output into the tiles' rows.
-/
module

public import proofs.«01_k».proof.Proof.ScBody
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

noncomputable section

namespace Cert.Proof.Mask

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A buffer and its pieces -/

section Pieces

variable {ℓ : Loc nD τ sig} {J : Type} [Fintype J] [DecidableEq J] (C : J → Finset (Idx ℓ))

theorem whole_pieces (hd : ∀ t t', t ≠ t' → Disjoint (C t) (C t')) (hc : Finset.univ.biUnion C = Finset.univ) (f : Buf (Elt F) ℓ) :
    (ℓ ↦{fullShare} f : sProp 𝕄) = bigSep Finset.univ fun t => ℓ ↦[C t]{fullShare} f := by
  rw [← pointsTo_biUnion Finset.univ (ℓ := ℓ) C fun t _ t' _ h => hd t t' h, hc]

theorem whole_apart (hd : ∀ t t', t ≠ t' → Disjoint (C t) (C t')) (hc : Finset.univ.biUnion C = Finset.univ) :
    (iprop(∃ f : Buf (Elt F) ℓ, ℓ ↦{fullShare} f) : sProp 𝕄)
      ⊢ bigSep Finset.univ fun t => iprop(∃ g : Buf (Elt F) ℓ, ℓ ↦[C t]{fullShare} g) := by
  have h : ∀ f : Buf (Elt F) ℓ, (ℓ ↦{fullShare} f : sProp 𝕄)
      ⊢ bigSep Finset.univ fun t => iprop(∃ g : Buf (Elt F) ℓ, ℓ ↦[C t]{fullShare} g) := by
    intro f
    rw [whole_pieces C hd hc f]
    refine bigSep_mono fun t _ => ?_
    show (ℓ ↦[C t]{fullShare} f : sProp 𝕄) ⊢ iprop(∃ g : Buf (Elt F) ℓ, ℓ ↦[C t]{fullShare} g)
    iintro H; iexists _; iexact H
  iintro ⟨%f, H⟩
  iapply (h f); iexact H

theorem whole_join [Nonempty J] [∀ e, Nonempty (Elt F e)] (hd : ∀ t t', t ≠ t' → Disjoint (C t) (C t')) (hc : Finset.univ.biUnion C = Finset.univ) :
    (bigSep Finset.univ fun t => iprop(∃ g : Buf (Elt F) ℓ, ℓ ↦[C t]{fullShare} g))
      ⊢ (iprop(∃ f : Buf (Elt F) ℓ, ℓ ↦{fullShare} f) : sProp 𝕄) := by
  have : Nonempty (Buf (Elt F) ℓ) := ⟨fun _ => Classical.arbitrary _⟩
  refine (bigSep_exists_pi Finset.univ (fun t (f : Buf (Elt F) ℓ) => (ℓ ↦[C t]{fullShare} f : sProp 𝕄))).trans ?_
  iintro ⟨%fs, H⟩
  ihave H' := (pointsTo_biUnion_join (ℓ := ℓ) (q := fullShare) (Val := Elt F) Finset.univ C fs (fs (Classical.arbitrary J))
    fun t _ t' _ h => hd t t' h) $$ H
  icases H' with ⟨%g, -, Hg⟩
  rw [hc]
  iexists g; iexact Hg

/-- A share of a buffer, whatever its size, is as many as one likes. -/
theorem share_many (s : Finset J) (f : Buf (Elt F) ℓ) :
    (iprop(∃ q : PosShare TreeShare, ℓ ↦{q} f) : sProp 𝕄)
      ⊢ iprop((bigSep s fun _ => iprop(∃ q : PosShare TreeShare, ℓ ↦{q} f)) ∗ ∃ q : PosShare TreeShare, ℓ ↦{q} f) := by
  induction s using Finset.induction_on with
  | empty =>
    rw [bigSep_empty]
    iintro H; isplitr
    · iempintro
    · iexact H
  | insert a s ha ih =>
    rw [SparseCore.bigSep_insert' ha]
    iintro H
    ihave H' := ih $$ H
    icases H' with ⟨Hs, ⟨%q, H⟩⟩
    ihave H' := (pointsTo_share (PosShare.mem_left_op_right q)).1 $$ H
    icases H' with ⟨H1, H2⟩
    isplitr [H2]
    · isplitl [H1]
      · iexists _; iexact H1
      · iexact Hs
    · iexists _; iexact H2

end Pieces

section Chans

variable {A B n m : ℕ}

/-- The channels of the slots of a four-axis scratch. -/
abbrev chans (t : Fin A × Fin B) : Finset (⟨4, ![A, B, n, m]⟩ : Shape).Idx := chanSet t.1.val t.2.val

theorem chans_disjoint (t t' : Fin A × Fin B) (h : t ≠ t') :
    Disjoint (chans (n := n) (m := m) t) (chans (n := n) (m := m) t') := by
  refine Finset.disjoint_left.mpr fun i hi hi' => h ?_
  have h1 := (Finset.mem_filter.mp hi).2
  have h2 := (Finset.mem_filter.mp hi').2
  exact Prod.ext (Fin.ext (h1.1.symm.trans h2.1)) (Fin.ext (h1.2.symm.trans h2.2))

theorem chans_cover : Finset.univ.biUnion (chans (A := A) (B := B) (n := n) (m := m)) = Finset.univ := by
  refine Finset.eq_univ_of_forall fun i => Finset.mem_biUnion.mpr ⟨(i 0, i 1), Finset.mem_univ _, ?_⟩
  exact Finset.mem_filter.mpr ⟨Finset.mem_univ _, rfl, rfl⟩

end Chans

/-! ## The launch's facts -/

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F] (m : (ℓ : Loc nD τ sig) → Buf (Elt F) ℓ)

abbrev xLoc (d : Dev nD) : Loc nD τ sig := (SparseCore.T d).loc main_arg0
abbrev oLoc (d : Dev nD) : Loc nD τ sig := (SparseCore.T d).loc main_v2

/-- The images at launch. -/
abbrev imgsAt (d : Dev nD) : Vec F S16x3x512x512 .f32 := m (xLoc d)

/-- The grid's point of core `c`, subcore `s`. -/
def pointOf (c : Fin (grid1.bound 0)) (s : Fin (grid1.bound 1)) : grid1.Coords :=
  fun | 0 => c | 1 => s | ⟨_ + 2, h⟩ => absurd h (Nat.not_lt.2 (Nat.le_add_left _ _))

abbrev tileIx (c : Fin ((K (F := F)).nCore 0)) (i : Fin ((K (F := F)).nSub 0)) : grid1.Coords :=
  pointOf ⟨c.val, c.isLt⟩ ⟨i.val, i.isLt⟩

def xSome (d : Dev nD) : sProp 𝕄 := iprop(∃ q : PosShare TreeShare, xLoc d ↦{q} m (xLoc d))
def oRow (d : Dev nD) (i : grid1.Coords) (f : Buf (Elt F) (oLoc d)) : sProp 𝕄 := oLoc d ↦[rowSet i]{fullShare} f

instance xSome_storable (d : Dev nD) : BI.Storable (upEmb : UEmb _ 𝕄) (xSome m d) := by unfold xSome; infer_instance
instance oRow_storable (d : Dev nD) (i : grid1.Coords) (f : Buf (Elt F) (oLoc d)) : BI.Storable (upEmb : UEmb _ 𝕄) (oRow d i f) := by
  unfold oRow; infer_instance

/-- What the handshakes carry: shares of the images, and the tiles' rows of the output. -/
def P : (K (F := F)).Pay (nD := nD) (Val := Elt F) (Name := ℕ) (U := UU) where
  st := fun q d c => match q with
    | 0 => iprop(xSome m d ∗ bigSep Finset.univ fun i : Fin ((K (F := F)).nSub 0) => oRow d (tileIx (F := F) c i) (m (oLoc d)))
  dn := fun q d c => match q with
    | 0 => iprop(xSome m d ∗ bigSep Finset.univ fun i : Fin ((K (F := F)).nSub 0) => oRow d (tileIx (F := F) c i) (scOutV (imgsAt m d)))
  go := fun q d c i => match q with
    | 0 => iprop(xSome m d ∗ oRow d (tileIx (F := F) c i) (m (oLoc d)))
  td := fun q d c i => match q with
    | 0 => oRow d (tileIx (F := F) c i) (scOutV (imgsAt m d))
  x := fun _ _ => iprop(emp)

instance P_storable : (P (F := F) m).IsStorable where
  st q d c := match q with
    | 0 => (inferInstance : BI.Storable (upEmb : UEmb _ 𝕄)
      iprop(xSome m d ∗ bigSep Finset.univ fun i : Fin ((K (F := F)).nSub 0) => oRow d (tileIx (F := F) c i) (m (oLoc d))))
  dn q d c := match q with
    | 0 => (inferInstance : BI.Storable (upEmb : UEmb _ 𝕄)
      iprop(xSome m d ∗ bigSep Finset.univ fun i : Fin ((K (F := F)).nSub 0) => oRow d (tileIx (F := F) c i) (scOutV (imgsAt m d))))
  go q d c i := match q with
    | 0 => (inferInstance : BI.Storable (upEmb : UEmb _ 𝕄) iprop(xSome m d ∗ oRow d (tileIx (F := F) c i) (m (oLoc d))))
  td q d c i := match q with
    | 0 => (inferInstance : BI.Storable (upEmb : UEmb _ 𝕄) (oRow d (tileIx (F := F) c i) (scOutV (imgsAt m d))))

/-! ## The task -/

section Task

variable (d : Dev nD) (i : grid1.Coords)

theorem bufs_apart : (iprop(∃ f, (tileT d i).loc cc1_scratch0 ↦{fullShare} f) : sProp 𝕄)
    ⊢ iprop(bufFree (F := F) d i 0 ∗ bufFree (F := F) d i 1 ∗ bufFree (F := F) d i 2) := by
  refine (whole_apart (ℓ := (tileT d i).loc cc1_scratch0) (chans (A := 3) (B := 3) (n := 16) (m := 512)) chans_disjoint chans_cover).trans ?_
  rw [bigSep_univ_prod, Ring.bigSep_fin3, Ring.bigSep_fin3, Ring.bigSep_fin3, Ring.bigSep_fin3]
  exact Entails.rfl

theorem bufs_join [∀ e, Nonempty (Elt F e)] : iprop(bufFree (F := F) d i 0 ∗ bufFree (F := F) d i 1 ∗ bufFree (F := F) d i 2)
    ⊢ (iprop(∃ f, (tileT d i).loc cc1_scratch0 ↦{fullShare} f) : sProp 𝕄) := by
  refine BI.BIBase.Entails.trans ?_ (whole_join (ℓ := (tileT d i).loc cc1_scratch0) (chans (A := 3) (B := 3) (n := 16) (m := 512)) chans_disjoint chans_cover)
  rw [bigSep_univ_prod, Ring.bigSep_fin3, Ring.bigSep_fin3, Ring.bigSep_fin3, Ring.bigSep_fin3]
  exact BI.BIBase.Entails.rfl

abbrev cell0 : GSem nD τ sig := (tileT d i, .dma cc1_scratch2.sem)
abbrev cell1 : GSem nD τ sig := (tileT d i, .dma cc1_scratch3.sem)
abbrev cell2 : GSem nD τ sig := (tileT d i, .dma cc1_scratch4.sem)
abbrev cellO : GSem nD τ sig := (tileT d i, .dma cc1_scoped0.sem)

theorem cell_own (q : DmaSem sig) (h : (SemLoc.dma q : SemLoc sig).isScoped .scVector = true) :
    ((tileT d i, .dma q) : GSem nD τ sig) ∈ ownCells (tileT d i) := mem_ownCells.mpr ⟨rfl, h⟩

theorem cell_ne {q q' : DmaSem sig} (h : q ≠ q') : ((tileT d i, .dma q) : GSem nD τ sig) ≠ (tileT d i, .dma q') :=
  fun e => h (SemLoc.dma.inj (Prod.mk.inj e).2)

theorem ownSems0_V : ∃ R : sProp 𝕄, (ownSems0 (tileT d i) : sProp 𝕄)
    = iprop(semVal (cell0 d i) 0 ∗ semVal (cell1 d i) 0 ∗ semVal (cell2 d i) 0 ∗ semVal (cellO d i) 0 ∗ R) := by
  unfold SparseCore.Cfg.ownSems0
  rw [SparseCore.bigSep_erase' (cell_own d i cc1_scratch2.sem (by decide)),
    SparseCore.bigSep_erase' (Finset.mem_erase.mpr ⟨cell_ne d i (by decide), cell_own d i cc1_scratch3.sem (by decide)⟩),
    SparseCore.bigSep_erase' (Finset.mem_erase.mpr ⟨cell_ne d i (by decide), Finset.mem_erase.mpr ⟨cell_ne d i (by decide),
      cell_own d i cc1_scratch4.sem (by decide)⟩⟩),
    SparseCore.bigSep_erase' (Finset.mem_erase.mpr ⟨cell_ne d i (by decide), Finset.mem_erase.mpr ⟨cell_ne d i (by decide),
      Finset.mem_erase.mpr ⟨cell_ne d i (by decide), cell_own d i cc1_scoped0.sem (by decide)⟩⟩⟩)]
  exact ⟨_, rfl⟩

theorem ownBufs_V : ∃ R : sProp 𝕄, (ownBufs (tileT d i) : sProp 𝕄)
    = iprop((∃ f, (tileT d i).loc cc1_scratch0 ↦{fullShare} f) ∗ (∃ f, (tileT d i).loc cc1_scratch1 ↦{fullShare} f) ∗ R) := by
  unfold SparseCore.Cfg.ownBufs
  rw [SparseCore.bigSep_erase' (SparseCore.Cfg.mem_ownRefs_of_owner (p := (tileT d i).2)
      (b := (tileT d i).2.devRef cc1_scratch0) rfl),
    SparseCore.bigSep_erase' (Finset.mem_erase.mpr ⟨fun e => absurd (Proc.devRef_injective _ e) (show (cc1_scratch1 : Ref sig .scVector) ≠ cc1_scratch0 by decide),
    SparseCore.Cfg.mem_ownRefs_of_owner (p := (tileT d i).2) (b := (tileT d i).2.devRef cc1_scratch1) rfl⟩)]
  exact ⟨_, rfl⟩

theorem tile_body [∀ e, Nonempty (Elt F e)] (hF : (K (F := F)).Facts) (O : CellTallies nD τ sig (HIx 1)) (W : Waits sig (HIx 1)) (hO : ∀ g, O g none = 0) :
    iprop(levAts (K (F := F)).L (K (F := F)).lev ∗ emp
        ∗ (xSome m d ∗ oRow d i (m (oLoc d)))
        ∗ scopedBufs (tileT d i) ∗ scopedSems0 (tileT d i) ∗ owes (tileT d i) O W)
      ⊢ wp frame (wpE (defs₀ (F := F)) 𝒱₀ (tileT d i) none) Set.univ
          (cc1_sc_kernel i xM (Memref.isWhole_whole _) outM (Memref.isWhole_whole _)
            bufM (Memref.isWhole_whole _) rowM (Memref.isWhole_whole _) cc1_scratch2 cc1_scratch3 cc1_scratch4 cc1_scoped0)
          fun _ => iprop(oRow d i (scOutV (imgsAt m d))
            ∗ scopedBufs (tileT d i) ∗ scopedSems0 (tileT d i)
            ∗ ∃ W', ⌜∀ p ∈ W', p ∈ W ∨ p.2 = none⌝ ∗ owes (tileT d i) O W') := by
  obtain ⟨RS, eS⟩ := ownSems0_V (F := F) d i
  obtain ⟨RB, eB⟩ := ownBufs_V (F := F) d i
  have hrun := wp_scProg d i (imgsAt m d) (m (oLoc d)) (O := O) (W := W)
  unfold imgsT scrRow outRow owesN at hrun
  unfold xSome oRow
  rw [scProg_eq, (K (F := F)).scopedBufs_V hF d _ _, SparseCore.Cfg.scopedSems0_V (Val := Elt F) d _ _, eS, eB]
  iintro ⟨#Hlv, -, ⟨Hx, Ho⟩, ⟨Hs, Hr, HB⟩, ⟨S0, S1, S2, So, HS⟩, HO⟩
  ihave Hmw := (show levAts (K (F := F)).L (K (F := F)).lev ⊢ Transfers.MayWaits (tileT d i) (none : HIx 1) O from
    (K (F := F)).mayWaits_none (thr := tileT d i) hO) $$ Hlv
  ihave Hs' := (bufs_apart (F := F) d i) $$ Hs
  icases Hs' with ⟨B0, B1, B2⟩
  ihave HO' := (owesN_intro (F := F) (tileT d i) O W) $$ HO
  unfold owesN
  iapply (wp_wand frame (wpE (defs₀ (F := F)) 𝒱₀ (tileT d i) none) Set.univ) $$ [Hx Ho B0 B1 B2 Hr S0 S1 S2 So HO' Hmw]
  · iapply hrun
    isplitl [Hx]; · iexact Hx
    isplitl [B0]; · iexact B0
    isplitl [B1]; · iexact B1
    isplitl [B2]; · iexact B2
    isplitl [Hr]; · iexact Hr
    isplitl [Ho]; · iexact Ho
    isplitl [S0]; · iexact S0
    isplitl [S1]; · iexact S1
    isplitl [S2]; · iexact S2
    isplitl [So]; · iexact So
    isplitl [HO'] <;> iassumption
  iintro %_ ⟨-, B0, B1, B2, Hr, Ho, S0, S1, S2, So, HO⟩
  isplitl [Ho]; · iexact Ho
  isplitl [B0 B1 B2 Hr HB]
  · isplitl [B0 B1 B2]
    · iapply (bufs_join (F := F) d i)
      isplitl [B0]; · iexact B0
      isplitl [B1] <;> iassumption
    isplitl [Hr]; · iexact Hr
    iexact HB
  isplitl [S0 S1 S2 So HS]
  · isplitl [S0]; · iexact S0
    isplitl [S1]; · iexact S1
    isplitl [S2]; · iexact S2
    isplitl [So] <;> iassumption
  iexact HO

theorem defs₀_vector (c : Fin τ.nSC) (s : Fin τ.nSub) :
    defs₀ (F := F) (.scVector c s) 1 ()
      = SparseCore.onTile hcore1 hsub1 (fun c s => cc1_sc_kernel (pointOf c s) xM (Memref.isWhole_whole _) outM (Memref.isWhole_whole _)
            bufM (Memref.isWhole_whole _) rowM (Memref.isWhole_whole _) cc1_scratch2 cc1_scratch3 cc1_scratch4 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [∀ e, Nonempty (Elt F e)] (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (tileIx (F := F) c i) hF O W hO).trans (wp_mono frame _ _ fun _ => obl_post)

end Task

/-! ## The split among the tiles -/

theorem vecSplit : (K (F := F)).VecSplit' (P m) 0 := by
  intro d c
  show iprop(xSome m d ∗ bigSep Finset.univ fun i : Fin ((K (F := F)).nSub 0) => oRow d (tileIx (F := F) c i) (m (oLoc d))) ⊢ |={Set.univ}=> iprop(
      (bigSep Finset.univ fun i : Fin ((K (F := F)).nSub 0) => iprop(xSome m d ∗ oRow d (tileIx (F := F) c i) (m (oLoc d))))
      ∗ ((bigSep Finset.univ fun i : Fin ((K (F := F)).nSub 0) => oRow d (tileIx (F := F) c i) (scOutV (imgsAt m d)))
          -∗ iprop(xSome m d ∗ bigSep Finset.univ fun i : Fin ((K (F := F)).nSub 0) => oRow d (tileIx (F := F) c i) (scOutV (imgsAt m d)))))
  rw [bigSep_sep']
  unfold xSome
  iintro ⟨Hx, Ho⟩; imodintro
  ihave Hx' := (share_many (ℓ := xLoc d) (Finset.univ : Finset (Fin ((K (F := F)).nSub 0))) (m (xLoc d))) $$ Hx
  icases Hx' with ⟨Hxs, Hx⟩
  isplitl [Hxs Ho]
  · isplitl [Hxs] <;> iassumption
  iintro Ho
  isplitl [Hx] <;> iassumption

/-! ## The output and its rows -/

abbrev tileSet (t : Fin ((K (F := F)).nCore 0) × Fin ((K (F := F)).nSub 0)) : Finset S32x16.Idx := rowSet (tileIx (F := F) t.1 t.2)

theorem tileSet_disjoint (t t' : Fin ((K (F := F)).nCore 0) × Fin ((K (F := F)).nSub 0)) (h : t ≠ t') :
    Disjoint (tileSet (F := F) t) (tileSet (F := F) t') := by
  refine Finset.disjoint_left.mpr fun w hw hw' => h ?_
  have h1 : (w 0).val = 16 * t.1.val + t.2.val := (Finset.mem_filter.mp hw).2
  have h2 : (w 0).val = 16 * t'.1.val + t'.2.val := (Finset.mem_filter.mp hw').2
  have b1 : t.2.val < 16 := t.2.isLt
  have b2 : t'.2.val < 16 := t'.2.isLt
  exact Prod.ext (Fin.ext (by omega)) (Fin.ext (by omega))

theorem tileSet_cover : Finset.univ.biUnion (tileSet (F := F)) = Finset.univ := by
  refine Finset.eq_univ_of_forall fun w => ?_
  have hw : (w 0).val < 32 := (w 0).isLt
  refine Finset.mem_biUnion.mpr ⟨(⟨(w 0).val / 16, show (w 0).val / 16 < 2 by omega⟩, ⟨(w 0).val % 16, Nat.mod_lt _ (by decide)⟩), Finset.mem_univ _, ?_⟩
  refine Finset.mem_filter.mpr ⟨Finset.mem_univ _, show (w 0).val = 16 * ((w 0).val / 16) + (w 0).val % 16 from ?_⟩
  omega

theorem out_rows (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) => oRow d (tileIx (F := F) c i) f := by
  rw [whole_pieces (ℓ := oLoc d) (tileSet (F := F)) tileSet_disjoint tileSet_cover f, bigSep_univ_prod]
  rfl

/-- What the call takes: some share of the images, and the output whole. -/
theorem st_intro (d : Dev nD) : iprop(xSome m d ∗ (oLoc d ↦{fullShare} m (oLoc d)))
    ⊢ iprop((bigSep Finset.univ fun c : Fin ((K (F := F)).nCore 0) => (P m).st 0 d c) ∗ xSome m d) := by
  show _ ⊢ iprop((bigSep Finset.univ fun c : Fin ((K (F := F)).nCore 0) => iprop(xSome m d
    ∗ bigSep Finset.univ fun i : Fin ((K (F := F)).nSub 0) => oRow d (tileIx (F := F) c i) (m (oLoc d)))) ∗ xSome m d)
  rw [bigSep_sep', ← out_rows]
  unfold xSome
  iintro ⟨Hx, Ho⟩
  ihave Hx' := (share_many (ℓ := xLoc d) (Finset.univ : Finset (Fin ((K (F := F)).nCore 0))) (m (xLoc d))) $$ Hx
  icases Hx' with ⟨Hxs, Hx⟩
  isplitl [Hxs Ho]
  · isplitl [Hxs] <;> iassumption
  iexact Hx

/-- What it gives back: the output whole, at the tiles' numbers. -/
theorem dn_elim (d : Dev nD) : (bigSep Finset.univ fun c : Fin ((K (F := F)).nCore 0) => (P m).dn 0 d c)
    ⊢ (oLoc d ↦{fullShare} (scOutV (imgsAt m d)) : sProp 𝕄) := by
  show (bigSep Finset.univ fun c : Fin ((K (F := F)).nCore 0) => iprop(xSome m d
    ∗ bigSep Finset.univ fun i : Fin ((K (F := F)).nSub 0) => oRow d (tileIx (F := F) c i) (scOutV (imgsAt m d)))) ⊢ _
  rw [bigSep_sep', ← out_rows]
  iintro ⟨-, Ho⟩
  iexact Ho

end Cert.Proof.Mask

end
-- ==== Proof.Region.lean ====
/-
  The TensorCore kernel's region: the run of `TcBody` as the pipeline of one point that calls it, and what the region
  takes from and leaves to the surrounding program.
-/
module

public import proofs.«01_k».proof.Proof.Tile
public import Idealize.ShloMosaic.Lib.Pipeline.Regions
public import Idealize.ShloMosaic.Lib.Pipeline.Value

@[expose] public section

noncomputable section

namespace Cert.Proof.Mask

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (b : ℕ)

abbrev vLoc (d : Dev nD) : Loc nD τ sig := (SparseCore.T d).loc main_v0

/-! ## What the core owes -/

theorem tcOwes_none (d : Dev nD) (g : GSem nD τ sig) : (K (F := F)).Otc (N := 1) d 0 g none = 0 := by
  by_contra h
  have h' := SparseCore.Cfg.lev_of_Otc_pos (K := K (F := F)) (Nat.pos_of_ne_zero h)
  rw [SparseCore.Cfg.lev_none] at h'
  omega

/-- The waits the core may have recorded: those at a level of at most `b`. -/
def seen (d : Dev nD) : Set (SemLoc sig × HIx 1) := {p | (K (F := F)).lev (SparseCore.T d, p.1) p.2 ≤ b}

/-- What the core owes beside the region. -/
def tcOwes (d : Dev nD) : sProp 𝕄 :=
  iprop(∃ W, ⌜(K (F := F)).WBelow (SparseCore.T d) W b⌝ ∗ owes (SparseCore.T d) ((K (F := F)).Otc d 0) W)

/-! ## The ring -/

abbrev ringSem : Fin 6 → SemLoc sig := fun k => .dma (slotSem cc0_scratch1 k.val k.isLt).sem

theorem ring_facts : Pipeline.OwnSemFacts spec0 ringSem := by decide

omit [FloatOps F] in
theorem bigSep_six (Φ : Fin 6 → sProp 𝕄) :
    bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

theorem ringFree_eq (d : Dev nD) : (ringFree (F := F) d : sProp 𝕄)
    = bigSep Finset.univ fun k : Fin 6 => slotFree (F := F) d k.val k.isLt := by
  rw [bigSep_six]; rfl

theorem ring_split (d : Dev nD) : (ringFree (F := F) d : sProp 𝕄)
    = iprop((bigSep Finset.univ fun t : Fin 6 × Fin 3 => chanAny (F := F) d t.1.val t.2.val) ∗ Pipeline.ownSems0 ringSem d) := by
  rw [ringFree_eq, bigSep_univ_prod]
  unfold Pipeline.ownSems0
  rw [← bigSep_sep']
  refine bigSep_congr fun k _ => ?_
  rw [Ring.bigSep_fin3]
  unfold slotFree
  show _ = iprop((chanAny d k.val 0 ∗ chanAny d k.val 1 ∗ chanAny d k.val 2) ∗ semVal ((d.tc : Thread nD τ), ringSem k) 0)
  refine equiv_iff.mp ⟨?_, ?_⟩
  · show iprop(chanAny (F := F) d k.val 0 ∗ chanAny (F := F) d k.val 1 ∗ chanAny (F := F) d k.val 2 ∗ semVal ((d.tc : Thread nD τ), ringSem k) 0) ⊢ iprop((chanAny (F := F) d k.val 0 ∗ chanAny (F := F) d k.val 1 ∗ chanAny (F := F) d k.val 2) ∗ semVal ((d.tc : Thread nD τ), ringSem k) 0)
    iintro ⟨H0, H1, H2, Hs⟩
    isplitr [Hs]
    · isplitl [H0]; · iexact H0
      isplitl [H1]; · iexact H1
      iexact H2
    iexact Hs
  · show iprop((chanAny (F := F) d k.val 0 ∗ chanAny (F := F) d k.val 1 ∗ chanAny (F := F) d k.val 2) ∗ semVal ((d.tc : Thread nD τ), ringSem k) 0) ⊢ iprop(chanAny (F := F) d k.val 0 ∗ chanAny (F := F) d k.val 1 ∗ chanAny (F := F) d k.val 2 ∗ semVal ((d.tc : Thread nD τ), ringSem k) 0)
    iintro ⟨⟨H0, H1, H2⟩, Hs⟩
    isplitl [H0]; · iexact H0
    isplitl [H1]; · iexact H1
    isplitl [H2]; · iexact H2
    iexact Hs

theorem ring_intro (d : Dev nD) :
    iprop((∃ f, (d.tc : Thread nD τ).loc cc0_scratch0 ↦{fullShare} f) ∗ Pipeline.ownSems0 ringSem d) ⊢ (ringFree (F := F) d : sProp 𝕄) := by
  rw [ring_split]
  exact sep_mono (whole_apart (ℓ := (d.tc : Thread nD τ).loc cc0_scratch0) (chans (A := 6) (B := 3) (n := 512) (m := 512)) chans_disjoint chans_cover) .rfl

theorem ring_elim [∀ e, Nonempty (Elt F e)] (d : Dev nD) : (ringFree (F := F) d : sProp 𝕄)
    ⊢ iprop((∃ f, (d.tc : Thread nD τ).loc cc0_scratch0 ↦{fullShare} f) ∗ Pipeline.ownSems0 ringSem d) := by
  rw [ring_split]
  exact sep_mono (whole_join (ℓ := (d.tc : Thread nD τ).loc cc0_scratch0) (chans (A := 6) (B := 3) (n := 512) (m := 512)) chans_disjoint chans_cover) .rfl

/-! ## The pipeline's data -/

/-- What the body keeps between the region's ends. -/
def tcInv (d : Dev nD) : sProp 𝕄 :=
  iprop(imgs d (imgsAt m d) ∗ ringFree (F := F) d ∗ Transfers.MayWaits (d.tc : Thread nD τ) (none : HIx 1) ((K (F := F)).Otc d 0))

def dat (d : Dev nD) : Pipeline.Dat τ (Elt F) (HIx 1) ℕ UU ℕ cfg0 d where
  A w := match w with
    | 0 => m (vLoc d)
  after w _ := match w with
    | 0 => tcOut (imgsAt m d)
  Φ _ := tcInv m d
  q _ := fullShare
  owed _ := (K (F := F)).Otc d 0
  recorded _ := seen (F := F) b d

abbrev adm : (p : Fin 1) → (pcfgs (F := F) p).Adm := fun p => (cfgs p).toPCfg_adm

def dats : (p : Fin 1) → (c : Dev nD) → Pipeline.Dat τ (Elt F) (HIx 1) ℕ UU ℕ (Pipeline.pin (pcfgs (F := F)) adm p) c
  | 0 => dat m b

theorem owesAt_intro (d : Dev nD) (t : Fin (cfg0.N + 1)) : tcOwes (F := F) b d ⊢ ((dat m b d).owesAt none t : sProp 𝕄) := by
  unfold tcOwes Pipeline.Dat.owesAt Pipeline.owesWithin Pipeline.Dat.bound
  iintro ⟨%W, %hW, HO⟩; iexists W; isplitr
  · ipureintro; exact fun p hp => Or.inl (hW p hp)
  iexact HO

theorem owesAt_elim (d : Dev nD) (t : Fin (cfg0.N + 1)) : ((dat m b d).owesAt none t : sProp 𝕄) ⊢ tcOwes (F := F) b d := by
  unfold tcOwes Pipeline.Dat.owesAt Pipeline.owesWithin Pipeline.Dat.bound
  iintro ⟨%W, %hW, HO⟩; iexists W; isplitr
  · ipureintro
    intro p hp
    rcases hW hp with h | ⟨w, s, h⟩
    · exact h
    · rw [h, SparseCore.Cfg.lev_none]; exact Nat.zero_le _
  iexact HO

theorem owesN_elim (d : Dev nD) (W : Waits sig (HIx 1)) (hW : (K (F := F)).WBelow (SparseCore.T d) W b) :
    owesN (F := F) (d.tc : Thread nD τ) ((K (F := F)).Otc d 0) W ⊢ tcOwes (F := F) b d := by
  unfold owesN tcOwes
  iintro ⟨%W', %hW', HO⟩; iexists W'; isplitr
  · ipureintro
    intro p hp
    rcases hW' p hp with h | h
    · exact hW p h
    · rw [h, SparseCore.Cfg.lev_none]; exact Nat.zero_le _
  iexact HO

theorem out_intro (d : Dev nD) (a1 : Memref sig .tc .vmem S12x1x128 .f32) (x : Vec F S16x3x512x512 .f32) :
    (iprop(∃ X, owns (d.tc : Thread nD τ) a1 fullShare X) : sProp 𝕄) ⊢ outUpTo d a1 x 0 := by
  unfold outUpTo owns
  iintro ⟨%X, %g, -, H⟩
  iexists g; isplitr
  · ipureintro; exact fun i h => absurd h (Nat.not_lt_zero _)
  iexact H

theorem out_elim (d : Dev nD) (a1 : Memref sig .tc .vmem S12x1x128 .f32) (x : Vec F S16x3x512x512 .f32) :
    outUpTo d a1 x 12 ⊢ (owns (d.tc : Thread nD τ) a1 fullShare (tcOut x) : sProp 𝕄) := by
  unfold outUpTo owns
  iintro ⟨%g, %hg, H⟩
  iexists g; isplitr
  · ipureintro; exact funext fun i => hg i (i 0).isLt
  iexact H

/-- The body at the pipeline's point. -/
theorem tc_point (d : Dev nD) (a1 : Memref sig .tc .vmem S12x1x128 .f32) (h1 : a1.IsWhole) :
    iprop(tcInv m d ∗ tcOwes (F := F) b d ∗ ∃ X, owns (d.tc : Thread nD τ) a1 fullShare X)
      ⊢ wp frame (wpE defs₀ 𝒱₀ (d.tc : Thread nD τ) none) Set.univ
          (cc0__tc_kernel imgM (Memref.isWhole_whole _) a1 h1 ringM (Memref.isWhole_whole _) cc0_scratch1) fun _ =>
          iprop(tcInv m d ∗ tcOwes (F := F) b d ∗ owns (d.tc : Thread nD τ) a1 fullShare (tcOut (imgsAt m d))) := by
  rw [tcProg_eq]
  unfold tcInv
  iintro ⟨⟨Hx, Hr, #Hmw⟩, HO, Ho⟩
  ihave Ho' := (out_intro d a1 (imgsAt m d)) $$ Ho
  unfold tcOwes
  icases HO with ⟨%W, %hW, HO⟩
  ihave HO' := (owesN_intro (F := F) (d.tc : Thread nD τ) _ W) $$ HO
  iapply (wp_wand frame (wpE (defs₀ (F := F)) 𝒱₀ (d.tc : Thread nD τ) none) Set.univ) $$ [Hx Hr Ho' HO']
  · iapply (wp_tcProg d a1 (imgsAt m d) (W := W))
    isplitl [Hx]; · iexact Hx
    isplitl [Hr]; · iexact Hr
    isplitl [Ho']; · iexact Ho'
    isplitl [HO']; · iexact HO'
    iexact Hmw
  iintro %_ ⟨Hx, Hr, Ho, HO⟩
  isplitl [Hx Hr]
  · isplitl [Hx]; · iexact Hx
    isplitl [Hr]; · iexact Hr
    iexact Hmw
  isplitl [HO]
  · ihave H := (owesN_elim (F := F) b d W hW) $$ HO
    unfold tcOwes; iexact H
  iapply (out_elim d a1 (imgsAt m d)); iexact Ho

set_option maxRecDepth 16384 in
theorem tc_body (d : Dev nD) : Pipeline.BodyObligation (dat m b d) defs₀ 𝒱₀ (none : HIx 1) Set.univ := fun t => by
  obtain rfl := fin_N0 t
  rw [bigSep_W0, bigSep_W0]
  refine BI.BIBase.Entails.trans (Q := iprop(tcInv m d ∗ tcOwes (F := F) b d
      ∗ ∃ X, owns (d.tc : Thread nD τ) (win0_0.stage (cfg0.slots t0_0 0)) fullShare X)) ?_
    ((tc_point m b d (win0_0.stage (cfg0.slots t0_0 0)) (hstage0_0 0)).trans (wp_mono frame _ _ fun _ => ?_))
  · show iprop(tcInv m d ∗ (dat m b d).owesAt none t0_0.castSucc
      ∗ ∃ X, owns (d.tc : Thread nD τ) (win0_0.stage (cfg0.slots t0_0 0)) fullShare ((dat m b d).before 0 t0_0 X)) ⊢ _
    iintro ⟨HI, HO, %X, H⟩
    isplitl [HI]; · iexact HI
    isplitl [HO]; · iapply (owesAt_elim m b d _); iexact HO
    iexists _; iexact H
  · show _ ⊢ iprop(tcInv m d ∗ (dat m b d).owesAt none t0_0.succ
      ∗ owns (d.tc : Thread nD τ) (win0_0.stage (cfg0.slots t0_0 0)) fullShare (tcOut (imgsAt m d)))
    iintro ⟨HI, HO, H⟩
    isplitl [HI]; · iexact HI
    isplitl [HO]; · iapply (owesAt_intro m b d _); iexact HO
    iexact H

/-! ## The region -/

theorem read_out (d : Dev nD) (f : Buf (Elt F) (vLoc d)) : (win0_0.blk t0_0).view.read (Elt F) f = f :=
  Memref.read_access_unit_zero (Elt F) main_v0
    (show (fun a => (win0_0.index t0_0) a * main_v0.ty.shape.size a) = fun _ => 0 from funext fun a => Nat.zero_mul _) _ f

theorem tc_arrAt (d : Dev nD) : (dat m b d).arrAt 0 cfg0.N = tcOut (imgsAt m d) := by
  have hw : ((cfg0.win 0).blk t0_0).view.read (Elt F) ((dat m b d).arrAt 0 cfg0.N) = (dat m b d).flushed 0 t0_0 := by
    rw [show cfg0.N = t0_0.val + 1 from rfl, (dat m b d).arrAt_succ (0 : Fin 1) t0_0, flush0_0, if_pos rfl]
    exact View.read_write_univ _ _
  exact (read_out d _).symm.trans (hw.trans rfl)

theorem arrays_eq (d : Dev nD) (f : (w : Fin cfg0.W) → Buf (Elt F) ((cfg0.win w).arr.view.loc (d.tc : Thread nD τ))) :
    ((dat m b d).arrays f : sProp 𝕄) = (vLoc d ↦{fullShare} f 0) := by
  unfold Pipeline.Dat.arrays
  rw [bigSep_W0]
  show (vLoc d ↦[(Memref.whole main_v0).view.set]{fullShare} f 0 : sProp 𝕄) = _
  rw [show (Memref.whole main_v0).view.set = Finset.univ from View.set_whole main_v0]

theorem prefHeld_eq (d : Dev nD) (q) (pf) :
    (Pipeline.prefHeld (Ix := HIx 1) (Name := ℕ) (U := UU) (Lvl := ℕ) (Val := Elt F) (pcfgs (F := F) 0).pre d q pf : sProp 𝕄) = iprop(emp) :=
  bigSep_univ_eq_bigSepL [] (by rfl) (by simp) _

def region [∀ e, Nonempty (Elt F e)] : Pipeline.RegionSeg (pcfgs (F := F)) adm (dats m b) (none : HIx 1) defs₀ 𝒱₀ (K (F := F)).L (K (F := F)).lev 0 where
  win := winFacts0.to₀
  block_pos := block_pos0
  stage_whole := stage_whole0
  K := Fin 6
  osem := ringSem
  ho := ring_facts
  hbody c := (tc_body m b c).loose
  hwaits c := Pipeline.cellsWaits_intro _ _ _ 0 c fun w s t => (K (F := F)).mayWait_none _ (tcOwes_none c)
  pre d := iprop(xSome m d ∗ (vLoc d ↦{fullShare} m (vLoc d)) ∗ tcOwes (F := F) b d)
  post d := iprop(xSome m d ∗ (vLoc d ↦{fullShare} tcOut (imgsAt m d)) ∗ tcOwes (F := F) b d)
  X d := iprop(xSome m d ∗ Pipeline.ownSems0 ringSem d ∗ Transfers.MayWaits (d.tc : Thread nD τ) (none : HIx 1) ((K (F := F)).Otc d 0))
  Y d := xSome m d
  Z _ := iprop(emp)
  hentry c := by
    show iprop((xSome m c ∗ (vLoc c ↦{fullShare} m (vLoc c)) ∗ tcOwes (F := F) b c) ∗ Pipeline.ownSems0 ringSem c
      ∗ levAts (K (F := F)).L (K (F := F)).lev) ⊢ |={Set.univ}=> iprop((dat m b c).arrays ((dat m b c).arrAt · 0)
        ∗ Pipeline.prefHeld (pcfgs (F := F) 0).pre c (fun _ => fullShare) (adm 0).1 ∗ (dat m b c).owesAt none 0
        ∗ (xSome m c ∗ Pipeline.ownSems0 ringSem c ∗ Transfers.MayWaits (c.tc : Thread nD τ) (none : HIx 1) ((K (F := F)).Otc c 0)) ∗ emp)
    rw [arrays_eq, prefHeld_eq]
    iintro ⟨⟨Hx, Hv, HO⟩, Hs, #Hl⟩
    imodintro
    isplitl [Hv]; · iexact Hv
    isplitr; · iempintro
    isplitl [HO]; · iapply (owesAt_intro m b c 0); iexact HO
    isplitl [Hx Hs]
    · isplitl [Hx]; · iexact Hx
      isplitl [Hs]; · iexact Hs
      iapply ((K (F := F)).mayWaits_none (tcOwes_none c)); iexact Hl
    iempintro
  hin c := by
    show iprop((xSome m c ∗ Pipeline.ownSems0 ringSem c ∗ Transfers.MayWaits (c.tc : Thread nD τ) (none : HIx 1) ((K (F := F)).Otc c 0))
      ∗ Pipeline.prefHeld (pcfgs (F := F) 0).pre c (fun _ => fullShare) (adm 0).1 ∗ Pipeline.scopedRest spec0 c) ⊢ tcInv m c
    rw [scopedRest0_eq]
    unfold tcInv imgs xSome
    iintro ⟨⟨Hx, Hs, Hm⟩, -, Hr⟩
    isplitl [Hx]; · iexact Hx
    isplitl [Hs Hr]
    · iapply (ring_intro c)
      isplitl [Hr] <;> iassumption
    iexact Hm
  hout c := by
    show tcInv m c ⊢ iprop(xSome m c ∗ Pipeline.ownSems0 ringSem c ∗ Pipeline.scopedRest spec0 c)
    rw [scopedRest0_eq]
    unfold tcInv imgs xSome
    iintro ⟨Hx, Hr, -⟩
    isplitl [Hx]; · iexact Hx
    ihave H := (ring_elim c) $$ Hr
    icases H with ⟨Hr, Hs⟩
    isplitl [Hs] <;> iassumption
  hexit c := by
    show iprop((dat m b c).arrays ((dat m b c).arrAt · cfg0.N) ∗ (dat m b c).owesAt none (Fin.last cfg0.N) ∗ xSome m c ∗ emp)
      ⊢ |={Set.univ}=> iprop(xSome m c ∗ (vLoc c ↦{fullShare} tcOut (imgsAt m c)) ∗ tcOwes (F := F) b c)
    rw [arrays_eq, tc_arrAt]
    iintro ⟨Hv, HO, Hx, -⟩
    imodintro
    isplitl [Hx]; · iexact Hx
    isplitl [Hv]; · iexact Hv
    iapply (owesAt_elim m b c _); iexact HO

end Cert.Proof.Mask

end
-- ==== Proof.HostOps.lean ====
/-
  The host operations of @main after the two kernels, as a list, and @main as the two calls around them.
-/
module

public import proofs.«01_k».proof.Proof.Region
public import Idealize.ShloMosaic.Lib.StableHlo.RunHlo

@[expose] public section

noncomputable section

namespace Cert.Proof.Mask

open Cert.KernelIdeal Cert.KernelIdeal.Gen
open Idealize.ShloMosaic
open Idealize.ShloMosaic.StableHlo (IsSeq)
open Idealize.SL.Sem

variable {F : FTy → Type}
variable [FloatOps F]

/-- The TensorCore result without its middle axis. -/
abbrev opFirst : HloOp τ sig (Elt F) := StableHlo.reshape main_v0 main_v1 (rfl : (.f32 : EltTy) = .f32) shapeCasts_S12x1x128_S12x128

/-- The bounds and the sums of all the images. -/
def hostLow : List (HloOp τ sig (Elt F)) := [
  StableHlo.reshape main_v2 main_v3 (rfl : (.f32 : EltTy) = .f32) shapeCasts_S32x16_S4x8x16,
  StableHlo.unary main_v1 main_v4 ((extractStridedSlice S12x1 ![0, 0] · slices_S12x128_S12x1_0_0) : (⟨S12x128, .f32⟩ : BufTy).Contents (Elt F) → (⟨S12x1, .f32⟩ : BufTy).Contents (Elt F)),
  StableHlo.reshape main_v4 main_v5 (rfl : (.f32 : EltTy) = .f32) shapeCasts_S12x1_S12,
  StableHlo.unary main_v3 main_v6 ((extractStridedSlice S4x8x1 ![0, 0, 0] · slices_S4x8x16_S4x8x1_0_0_0) : (⟨S4x8x16, .f32⟩ : BufTy).Contents (Elt F) → (⟨S4x8x1, .f32⟩ : BufTy).Contents (Elt F)),
  StableHlo.reshape main_v6 main_v7 (rfl : (.f32 : EltTy) = .f32) shapeCasts_S4x8x1_S4x8,
  StableHlo.nullary main_cst (constant S_ .f32 0x7F800000#32),
  StableHlo.binary main_v7 main_cst main_v8 ((fun x v => Host.reduce FloatOps.minimumf x v reducesTo_S4x8_S4_d1 h_S_) : (⟨S4x8, .f32⟩ : BufTy).Contents (Elt F) → (⟨S_, .f32⟩ : BufTy).Contents (Elt F) → (⟨S4, .f32⟩ : BufTy).Contents (Elt F)),
  StableHlo.binary main_v5 main_v8 main_v9 ((fun a b => concatenate S16 0 [⟨S12, a⟩, ⟨S4, b⟩] concatenates_S12_S4_S16_d0) : (⟨S12, .f32⟩ : BufTy).Contents (Elt F) → (⟨S4, .f32⟩ : BufTy).Contents (Elt F) → (⟨S16, .f32⟩ : BufTy).Contents (Elt F)),
  StableHlo.unary main_v1 main_v10 ((extractStridedSlice S12x1 ![0, 1] · slices_S12x128_S12x1_0_1) : (⟨S12x128, .f32⟩ : BufTy).Contents (Elt F) → (⟨S12x1, .f32⟩ : BufTy).Contents (Elt F)),
  StableHlo.reshape main_v10 main_v11 (rfl : (.f32 : EltTy) = .f32) shapeCasts_S12x1_S12,
  StableHlo.unary main_v3 main_v12 ((extractStridedSlice S4x8x1 ![0, 0, 1] · slices_S4x8x16_S4x8x1_0_0_1) : (⟨S4x8x16, .f32⟩ : BufTy).Contents (Elt F) → (⟨S4x8x1, .f32⟩ : BufTy).Contents (Elt F)),
  StableHlo.reshape main_v12 main_v13 (rfl : (.f32 : EltTy) = .f32) shapeCasts_S4x8x1_S4x8,
  StableHlo.nullary main_cst_0 (constant S_ .f32 0xFF800000#32),
  StableHlo.binary main_v13 main_cst_0 main_v14 ((fun x v => Host.reduce FloatOps.maximumf x v reducesTo_S4x8_S4_d1 h_S_) : (⟨S4x8, .f32⟩ : BufTy).Contents (Elt F) → (⟨S_, .f32⟩ : BufTy).Contents (Elt F) → (⟨S4, .f32⟩ : BufTy).Contents (Elt F)),
  StableHlo.binary main_v11 main_v14 main_v15 ((fun a b => concatenate S16 0 [⟨S12, a⟩, ⟨S4, b⟩] concatenates_S12_S4_S16_d0) : (⟨S12, .f32⟩ : BufTy).Contents (Elt F) → (⟨S4, .f32⟩ : BufTy).Contents (Elt F) → (⟨S16, .f32⟩ : BufTy).Contents (Elt F)),
  StableHlo.unary main_v1 main_v16 ((extractStridedSlice S12x1 ![0, 2] · slices_S12x128_S12x1_0_2) : (⟨S12x128, .f32⟩ : BufTy).Contents (Elt F) → (⟨S12x1, .f32⟩ : BufTy).Contents (Elt F)),
  StableHlo.reshape main_v16 main_v17 (rfl : (.f32 : EltTy) = .f32) shapeCasts_S12x1_S12,
  StableHlo.unary main_v3 main_v18 ((extractStridedSlice S4x8x1 ![0, 0, 2] · slices_S4x8x16_S4x8x1_0_0_2) : (⟨S4x8x16, .f32⟩ : BufTy).Contents (Elt F) → (⟨S4x8x1, .f32⟩ : BufTy).Contents (Elt F)),
  StableHlo.reshape main_v18 main_v19 (rfl : (.f32 : EltTy) = .f32) shapeCasts_S4x8x1_S4x8,
  StableHlo.nullary main_cst_1 (constant S_ .f32 0x7F800000#32),
  StableHlo.binary main_v19 main_cst_1 main_v20 ((fun x v => Host.reduce FloatOps.minimumf x v reducesTo_S4x8_S4_d1 h_S_) : (⟨S4x8, .f32⟩ : BufTy).Contents (Elt F) → (⟨S_, .f32⟩ : BufTy).Contents (Elt F) → (⟨S4, .f32⟩ : BufTy).Contents (Elt F)),
  StableHlo.binary main_v17 main_v20 main_v21 ((fun a b => concatenate S16 0 [⟨S12, a⟩, ⟨S4, b⟩] concatenates_S12_S4_S16_d0) : (⟨S12, .f32⟩ : BufTy).Contents (Elt F) → (⟨S4, .f32⟩ : BufTy).Contents (Elt F) → (⟨S16, .f32⟩ : BufTy).Contents (Elt F)),
  StableHlo.unary main_v1 main_v22 ((extractStridedSlice S12x1 ![0, 3] · slices_S12x128_S12x1_0_3) : (⟨S12x128, .f32⟩ : BufTy).Contents (Elt F) → (⟨S12x1, .f32⟩ : BufTy).Contents (Elt F)),
  StableHlo.reshape main_v22 main_v23 (rfl : (.f32 : EltTy) = .f32) shapeCasts_S12x1_S12,
  StableHlo.unary main_v3 main_v24 ((extractStridedSlice S4x8x1 ![0, 0, 3] · slices_S4x8x16_S4x8x1_0_0_3) : (⟨S4x8x16, .f32⟩ : BufTy).Contents (Elt F) → (⟨S4x8x1, .f32⟩ : BufTy).Contents (Elt F)),
  StableHlo.reshape main_v24 main_v25 (rfl : (.f32 : EltTy) = .f32) shapeCasts_S4x8x1_S4x8,
  StableHlo.nullary main_cst_2 (constant S_ .f32 0xFF800000#32),
  StableHlo.binary main_v25 main_cst_2 main_v26 ((fun x v => Host.reduce FloatOps.maximumf x v reducesTo_S4x8_S4_d1 h_S_) : (⟨S4x8, .f32⟩ : BufTy).Contents (Elt F) → (⟨S_, .f32⟩ : BufTy).Contents (Elt F) → (⟨S4, .f32⟩ : BufTy).Contents (Elt F)),
  StableHlo.binary main_v23 main_v26 main_v27 ((fun a b => concatenate S16 0 [⟨S12, a⟩, ⟨S4, b⟩] concatenates_S12_S4_S16_d0) : (⟨S12, .f32⟩ : BufTy).Contents (Elt F) → (⟨S4, .f32⟩ : BufTy).Contents (Elt F) → (⟨S16, .f32⟩ : BufTy).Contents (Elt F)),
  StableHlo.unary main_v1 main_v28 ((extractStridedSlice S12x1 ![0, 4] · slices_S12x128_S12x1_0_4) : (⟨S12x128, .f32⟩ : BufTy).Contents (Elt F) → (⟨S12x1, .f32⟩ : BufTy).Contents (Elt F)),
  StableHlo.reshape main_v28 main_v29 (rfl : (.f32 : EltTy) = .f32) shapeCasts_S12x1_S12,
  StableHlo.unary main_v3 main_v30 ((extractStridedSlice S4x8x1 ![0, 0, 4] · slices_S4x8x16_S4x8x1_0_0_4) : (⟨S4x8x16, .f32⟩ : BufTy).Contents (Elt F) → (⟨S4x8x1, .f32⟩ : BufTy).Contents (Elt F)),
  StableHlo.reshape main_v30 main_v31 (rfl : (.f32 : EltTy) = .f32) shapeCasts_S4x8x1_S4x8,
  StableHlo.nullary main_cst_3 (constant S_ .f32 0x00000000#32),
  StableHlo.binary main_v31 main_cst_3 main_v32 ((fun x v => Host.reduceAdd x v reducesTo_S4x8_S4_d1 h_S_) : (⟨S4x8, .f32⟩ : BufTy).Contents (Elt F) → (⟨S_, .f32⟩ : BufTy).Contents (Elt F) → (⟨S4, .f32⟩ : BufTy).Contents (Elt F)),
  StableHlo.binary main_v29 main_v32 main_v33 ((fun a b => concatenate S16 0 [⟨S12, a⟩, ⟨S4, b⟩] concatenates_S12_S4_S16_d0) : (⟨S12, .f32⟩ : BufTy).Contents (Elt F) → (⟨S4, .f32⟩ : BufTy).Contents (Elt F) → (⟨S16, .f32⟩ : BufTy).Contents (Elt F)),
  StableHlo.unary main_v1 main_v34 ((extractStridedSlice S12x1 ![0, 5] · slices_S12x128_S12x1_0_5) : (⟨S12x128, .f32⟩ : BufTy).Contents (Elt F) → (⟨S12x1, .f32⟩ : BufTy).Contents (Elt F)),
  StableHlo.reshape main_v34 main_v35 (rfl : (.f32 : EltTy) = .f32) shapeCasts_S12x1_S12,
  StableHlo.unary main_v3 main_v36 ((extractStridedSlice S4x8x1 ![0, 0, 5] · slices_S4x8x16_S4x8x1_0_0_5) : (⟨S4x8x16, .f32⟩ : BufTy).Contents (Elt F) → (⟨S4x8x1, .f32⟩ : BufTy).Contents (Elt F)),
  StableHlo.reshape main_v36 main_v37 (rfl : (.f32 : EltTy) = .f32) shapeCasts_S4x8x1_S4x8,
  StableHlo.nullary main_cst_4 (constant S_ .f32 0x00000000#32),
  StableHlo.binary main_v37 main_cst_4 main_v38 ((fun x v => Host.reduceAdd x v reducesTo_S4x8_S4_d1 h_S_) : (⟨S4x8, .f32⟩ : BufTy).Contents (Elt F) → (⟨S_, .f32⟩ : BufTy).Contents (Elt F) → (⟨S4, .f32⟩ : BufTy).Contents (Elt F)),
  StableHlo.binary main_v35 main_v38 main_v39 ((fun a b => concatenate S16 0 [⟨S12, a⟩, ⟨S4, b⟩] concatenates_S12_S4_S16_d0) : (⟨S12, .f32⟩ : BufTy).Contents (Elt F) → (⟨S4, .f32⟩ : BufTy).Contents (Elt F) → (⟨S16, .f32⟩ : BufTy).Contents (Elt F))]

/-- The heights, their ratio, the means and the joined columns. -/
def hostTail : List (HloOp τ sig (Elt F)) := [
  StableHlo.nullary main_cst_5 (constant S_ .f32 0x00000000#32),
  StableHlo.unary main_cst_5 main_v40 (broadcastInDim S16 ![] bcast_S_S16 : (⟨S_, .f32⟩ : BufTy).Contents (Elt F) → (⟨S16, .f32⟩ : BufTy).Contents (Elt F)),
  StableHlo.binary main_v15 main_v40 main_v41 (cmpf .oge : (⟨S16, .f32⟩ : BufTy).Contents (Elt F) → (⟨S16, .f32⟩ : BufTy).Contents (Elt F) → (⟨S16, .i1⟩ : BufTy).Contents (Elt F)),
  StableHlo.binary main_v15 main_v9 main_v42 (subf : (⟨S16, .f32⟩ : BufTy).Contents (Elt F) → (⟨S16, .f32⟩ : BufTy).Contents (Elt F) → (⟨S16, .f32⟩ : BufTy).Contents (Elt F)),
  StableHlo.nullary main_cst_6 (constant S_ .f32 0x00000000#32),
  StableHlo.TRef.unary (.of main_cst_6) main_call0.v0 id,
  StableHlo.TRef.unary main_call0.v0 main_call0.v1 (broadcastInDim S16 ![] bcast_S_S16),
  StableHlo.TRef.ternary (.of main_v41) (.of main_v42) main_call0.v1 main_call0.v2 select,
  StableHlo.nullary main_cst_7 (constant S_ .f32 0x00000000#32),
  StableHlo.unary main_cst_7 main_v44 (broadcastInDim S16 ![] bcast_S_S16 : (⟨S_, .f32⟩ : BufTy).Contents (Elt F) → (⟨S16, .f32⟩ : BufTy).Contents (Elt F)),
  StableHlo.binary main_v27 main_v44 main_v45 (cmpf .oge : (⟨S16, .f32⟩ : BufTy).Contents (Elt F) → (⟨S16, .f32⟩ : BufTy).Contents (Elt F) → (⟨S16, .i1⟩ : BufTy).Contents (Elt F)),
  StableHlo.binary main_v27 main_v21 main_v46 (subf : (⟨S16, .f32⟩ : BufTy).Contents (Elt F) → (⟨S16, .f32⟩ : BufTy).Contents (Elt F) → (⟨S16, .f32⟩ : BufTy).Contents (Elt F)),
  StableHlo.nullary main_cst_8 (constant S_ .f32 0x00000000#32),
  StableHlo.TRef.unary (.of main_cst_8) main_call1.v0 id,
  StableHlo.TRef.unary main_call1.v0 main_call1.v1 (broadcastInDim S16 ![] bcast_S_S16),
  StableHlo.TRef.ternary (.of main_v45) (.of main_v46) main_call1.v1 main_call1.v2 select,
  StableHlo.nullary main_cst_9 (constant S_ .f32 0x358637BD#32),
  StableHlo.unary main_cst_9 main_v48 (broadcastInDim S16 ![] bcast_S_S16 : (⟨S_, .f32⟩ : BufTy).Contents (Elt F) → (⟨S16, .f32⟩ : BufTy).Contents (Elt F)),
  StableHlo.binary main_v47 main_v48 main_v49 (addf : (⟨S16, .f32⟩ : BufTy).Contents (Elt F) → (⟨S16, .f32⟩ : BufTy).Contents (Elt F) → (⟨S16, .f32⟩ : BufTy).Contents (Elt F)),
  StableHlo.binary main_v43 main_v49 main_v50 (Host.divf : (⟨S16, .f32⟩ : BufTy).Contents (Elt F) → (⟨S16, .f32⟩ : BufTy).Contents (Elt F) → (⟨S16, .f32⟩ : BufTy).Contents (Elt F)),
  StableHlo.nullary main_cst_10 (constant S_ .f32 0x36800000#32),
  StableHlo.unary main_cst_10 main_v51 (broadcastInDim S16 ![] bcast_S_S16 : (⟨S_, .f32⟩ : BufTy).Contents (Elt F) → (⟨S16, .f32⟩ : BufTy).Contents (Elt F)),
  StableHlo.binary main_v33 main_v51 main_v52 (mulf : (⟨S16, .f32⟩ : BufTy).Contents (Elt F) → (⟨S16, .f32⟩ : BufTy).Contents (Elt F) → (⟨S16, .f32⟩ : BufTy).Contents (Elt F)),
  StableHlo.nullary main_cst_11 (constant S_ .f32 0x36800000#32),
  StableHlo.unary main_cst_11 main_v53 (broadcastInDim S16 ![] bcast_S_S16 : (⟨S_, .f32⟩ : BufTy).Contents (Elt F) → (⟨S16, .f32⟩ : BufTy).Contents (Elt F)),
  StableHlo.binary main_v39 main_v53 main_v54 (mulf : (⟨S16, .f32⟩ : BufTy).Contents (Elt F) → (⟨S16, .f32⟩ : BufTy).Contents (Elt F) → (⟨S16, .f32⟩ : BufTy).Contents (Elt F)),
  StableHlo.unary main_v50 main_v55 (broadcastInDim S16x1 ![0] bcast_S16_S16x1_0 : (⟨S16, .f32⟩ : BufTy).Contents (Elt F) → (⟨S16x1, .f32⟩ : BufTy).Contents (Elt F)),
  StableHlo.unary main_v54 main_v56 (broadcastInDim S16x1 ![0] bcast_S16_S16x1_0 : (⟨S16, .f32⟩ : BufTy).Contents (Elt F) → (⟨S16x1, .f32⟩ : BufTy).Contents (Elt F)),
  StableHlo.unary main_v52 main_v57 (broadcastInDim S16x1 ![0] bcast_S16_S16x1_0 : (⟨S16, .f32⟩ : BufTy).Contents (Elt F) → (⟨S16x1, .f32⟩ : BufTy).Contents (Elt F)),
  StableHlo.unary main_v54 main_v58 (broadcastInDim S16x1 ![0] bcast_S16_S16x1_0 : (⟨S16, .f32⟩ : BufTy).Contents (Elt F) → (⟨S16x1, .f32⟩ : BufTy).Contents (Elt F)),
  StableHlo.unary main_v52 main_v59 (broadcastInDim S16x1 ![0] bcast_S16_S16x1_0 : (⟨S16, .f32⟩ : BufTy).Contents (Elt F) → (⟨S16x1, .f32⟩ : BufTy).Contents (Elt F)),
  StableHlo.nary ![main_v55, main_v56, main_v57, main_v58, main_v59] main_v60 (fun u => (concatenate S16x5 1 [⟨S16x1, (u 0 : (⟨S16x1, .f32⟩ : BufTy).Contents (Elt F))⟩, ⟨S16x1, (u 1 : (⟨S16x1, .f32⟩ : BufTy).Contents (Elt F))⟩, ⟨S16x1, (u 2 : (⟨S16x1, .f32⟩ : BufTy).Contents (Elt F))⟩, ⟨S16x1, (u 3 : (⟨S16x1, .f32⟩ : BufTy).Contents (Elt F))⟩, ⟨S16x1, (u 4 : (⟨S16x1, .f32⟩ : BufTy).Contents (Elt F))⟩] concatenates_S16x1_S16x1_S16x1_S16x1_S16x1_S16x5_d1 : (⟨S16x5, .f32⟩ : BufTy).Contents (Elt F)))]

/-- What the host runs after the SparseCore kernel. -/
def hostOps : List (HloOp τ sig (Elt F)) := hostLow ++ hostTail

set_option maxRecDepth 100000 in
set_option maxHeartbeats 4000000 in
theorem main_eq (d : Dev nD) : main (F := F) d
    = (Prog.lift (.customCall (SparseCore.inner (Pipeline.entry 0)) ()) >>= fun _ => hlo rfl opFirst (fun _ => .ret (⟨⟩ : PUnit)) >>= fun _ =>
        sc.run d 0 >>= fun _ => StableHlo.seq hostOps) := by
  have h : ∀ p : Prog (TpuEff nD τ sig (Elt F) (SparseCore.Sig (Pipeline.Sig Λ₀ (Fin 1) fun p => (pcfgs (F := F) p).Adm) 1) .tc) PUnit,
      IsSeq p hostOps → ∀ q : Prog (TpuEff nD τ sig (Elt F) (SparseCore.Sig (Pipeline.Sig Λ₀ (Fin 1) fun p => (pcfgs (F := F) p).Adm) 1) .tc) PUnit,
      (q >>= fun _ => p) = (q >>= fun _ => StableHlo.seq hostOps) := fun p hp q => by unfold IsSeq at hp; rw [hp]
  simp only [main, main_part0, main_part1, fn_where.body, bind_assoc, pure_bind]
  refine congrArg _ (funext fun _ => congrArg _ (funext fun _ => h _ ?_ _))
  simp only [hostOps, hostLow, hostTail, List.cons_append, List.nil_append]
  hlo_seq

theorem hostOps_fresh : ∀ op ∈ (hostOps : List (HloOp τ sig (Elt F))), op.fresh = ∅ := by
  simp only [hostOps, hostLow, hostTail, List.cons_append, List.nil_append, List.forall_mem_cons, List.not_mem_nil, false_imp_iff, implies_true, and_true]
  repeat' (first | exact rfl | refine ⟨rfl, ?_⟩)

end Cert.Proof.Mask

end
-- ==== Proof.Main.lean ====
/-
  @main on the TensorCore: the first kernel's region, the reshape, the SparseCore call, the host operations; and the
  whole program's run, from the launch to the value `finalVal` of the result.
-/
module

public import proofs.«01_k».proof.Proof.HostOps
public import Idealize.ShloMosaic.Lib.Pipeline.Frame

@[expose] public section

noncomputable section

namespace Cert.Proof.Mask

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F]

local notation "𝕄" => MT nD τ sig (HIx 1) (Elt F) ℕ UU ℕ

variable (m : (ℓ : Loc nD τ sig) → Buf (Elt F) ℓ) (ρ : Dev nD → PrngReg)

/-! ## Buffers held together -/

section Hold

variable (c : Thread nD τ) {S : Finset (DevRef τ sig)} {b : DevRef τ sig}

theorem held_take (hb : b ∈ S) (W : Valuation τ sig (Elt F)) :
    (StableHlo.held c S W : sProp 𝕄) = iprop(((c.1, b) ↦{fullShare} W b) ∗ StableHlo.held c (S.erase b) W) := by
  unfold StableHlo.held
  exact SparseCore.bigSep_erase' hb

theorem held_put (hb : b ∈ S) (W : Valuation τ sig (Elt F)) (f : b.ty.Contents (Elt F)) :
    (iprop(((c.1, b) ↦{fullShare} f) ∗ StableHlo.held c (S.erase b) W) : sProp 𝕄) = StableHlo.held c S (Function.update W b f) := by
  rw [held_take c hb (Function.update W b f), Function.update_self]
  rw [StableHlo.held_congr c (V := Function.update W b f) (V' := W) fun b' h => Function.update_of_ne (Finset.ne_of_mem_erase h) _ _]

end Hold

abbrev bArg : DevRef τ sig := Proc.devRef .tc main_arg0
abbrev bTc : DevRef τ sig := Proc.devRef .tc main_v0
abbrev bSc : DevRef τ sig := Proc.devRef .tc main_v2
abbrev bRes : DevRef τ sig := Proc.devRef .tc main_v60

/-- The host's buffers, the images apart. -/
abbrev hostRefs : Finset (DevRef τ sig) := (Pipeline.ucRefs τ sig).erase bArg

def V₁ (d : Dev nD) : Valuation τ sig (Elt F) := Function.update (StableHlo.launchContents m d) bTc (tcOut (imgsAt m d))
def V₂ (d : Dev nD) : Valuation τ sig (Elt F) := opFirst.result (V₁ m d)
def V₃ (d : Dev nD) : Valuation τ sig (Elt F) := Function.update (V₂ m d) bSc (scOutV (imgsAt m d))

/-- What the program leaves in its result. -/
def finalVal (d : Dev nD) : bRes.ty.Contents (Elt F) := StableHlo.after hostOps (V₃ m d) bRes

theorem V₂_bSc (d : Dev nD) : V₂ m d bSc = m (oLoc d) := by
  unfold V₂ V₁
  rw [StableHlo.reshape_result_ne' (h := by decide), Function.update_of_ne (by decide)]

theorem sub_host {op : HloOp τ sig (Elt F)} (h : op.bufs ⊆ StableHlo.tcRefs τ sig) (h' : bArg ∉ op.bufs) : op.bufs ⊆ hostRefs :=
  Finset.subset_erase.mpr ⟨Pipeline.sub_ucRefs op h, h'⟩

theorem opFirst_bufs : (opFirst (F := F)).bufs ⊆ hostRefs :=
  sub_host (StableHlo.reshape_bufs_sub ..) (by rw [StableHlo.reshape_bufs]; decide)

/-- An operation of the TensorCore's buffers that leaves the images alone. -/
structure Apart (op : HloOp τ sig (Elt F)) : Prop where
  sub : op.bufs ⊆ StableHlo.tcRefs τ sig
  out : bArg ∉ op.bufs

section Apart

variable {x a b c y : Ref sig .tc}

theorem bArg_ne (h : main_arg0 ≠ x) : bArg ≠ Proc.devRef .tc x := fun e => h (Proc.devRef_injective _ e)

theorem apart_nullary (v : y.ty.Contents (Elt F)) (hy) (h : main_arg0 ≠ y) : Apart (StableHlo.nullary (τ := τ) y v hy) :=
  ⟨StableHlo.nullary_bufs_sub .., by simp [StableHlo.nullary_bufs, bArg_ne h]⟩
theorem apart_unary (f : x.ty.Contents (Elt F) → y.ty.Contents (Elt F)) (hx hy) (h : main_arg0 ≠ x) (h' : main_arg0 ≠ y) :
    Apart (StableHlo.unary (τ := τ) x y f hx hy) :=
  ⟨StableHlo.unary_bufs_sub .., by simp [StableHlo.unary_bufs, bArg_ne h, bArg_ne h']⟩
theorem apart_reshape (he hn hx hy) (h : main_arg0 ≠ x) (h' : main_arg0 ≠ y) :
    Apart (F := F) (StableHlo.reshape (τ := τ) x y he hn hx hy) :=
  ⟨StableHlo.reshape_bufs_sub .., by simp [StableHlo.reshape_bufs, bArg_ne h, bArg_ne h']⟩
theorem apart_binary (f : a.ty.Contents (Elt F) → b.ty.Contents (Elt F) → y.ty.Contents (Elt F)) (ha hb hy)
    (h : main_arg0 ≠ a) (h1 : main_arg0 ≠ b) (h' : main_arg0 ≠ y) : Apart (StableHlo.binary (τ := τ) a b y f ha hb hy) :=
  ⟨StableHlo.binary_bufs_sub .., by simp [StableHlo.binary_bufs, bArg_ne h, bArg_ne h1, bArg_ne h']⟩
theorem apart_ternary (f : c.ty.Contents (Elt F) → a.ty.Contents (Elt F) → b.ty.Contents (Elt F) → y.ty.Contents (Elt F)) (hc ha hb hy)
    (h : main_arg0 ≠ c) (h0 : main_arg0 ≠ a) (h1 : main_arg0 ≠ b) (h' : main_arg0 ≠ y) :
    Apart (StableHlo.ternary (τ := τ) c a b y f hc ha hb hy) :=
  ⟨StableHlo.ternary_bufs_sub .., by simp [StableHlo.ternary_bufs, bArg_ne h, bArg_ne h0, bArg_ne h1, bArg_ne h']⟩
theorem apart_nary {n : ℕ} (xs : Fin n → Ref sig .tc) (f : ((k : Fin n) → (xs k).ty.Contents (Elt F)) → y.ty.Contents (Elt F)) (hxs hy)
    (h : ∀ k, main_arg0 ≠ xs k) (h' : main_arg0 ≠ y) : Apart (StableHlo.nary (τ := τ) xs y f hxs hy) :=
  ⟨StableHlo.nary_bufs_sub .., by
    show bArg ∉ insert (Proc.devRef .tc y) (Finset.univ.image fun k => Proc.devRef .tc (xs k))
    simp only [Finset.mem_insert, Finset.mem_image, Finset.mem_univ, true_and, not_or, not_exists]
    exact ⟨bArg_ne h', fun k e => bArg_ne (h k) e.symm⟩⟩

end Apart

set_option maxRecDepth 100000 in
theorem hostOps_apart : ∀ op ∈ (hostOps : List (HloOp τ sig (Elt F))), Apart op := by
  simp only [hostOps, hostLow, hostTail, List.cons_append, List.nil_append, List.forall_mem_cons, List.not_mem_nil, false_imp_iff, implies_true, and_true]
  repeat' (first
    | refine And.intro ?_ ?_
    | exact apart_unary _ _ _ (by decide) (by decide)
    | exact apart_reshape _ _ _ _ (by decide) (by decide)
    | exact apart_nullary _ _ (by decide)
    | exact apart_binary _ _ _ _ (by decide) (by decide) (by decide)
    | exact apart_ternary _ _ _ _ _ (by decide) (by decide) (by decide) (by decide)
    | exact apart_nary _ _ _ _ (by decide) (by decide))

theorem hostOps_bufs (op : HloOp τ sig (Elt F)) (ho : op ∈ (hostOps : List (HloOp τ sig (Elt F)))) : op.bufs ⊆ hostRefs :=
  have h := hostOps_apart op ho
  sub_host h.sub h.out

end Cert.Proof.Mask

end
-- ==== Proof.Run.lean ====
/-
  The kernel program's run: the launch's ghost state, @main on the TensorCore, and what holds at the end.
-/
module

public import proofs.«01_k».proof.Proof.Main

@[expose] public section

noncomputable section

namespace Cert.Proof.Mask

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F]

local notation "𝕄" => MT nD τ sig (HIx 1) (Elt F) ℕ UU ℕ

variable (m : (ℓ : Loc nD τ sig) → Buf (Elt F) ℓ) (ρ : Dev nD → PrngReg)

/-! ## The launch's ghost state -/

abbrev pins : Fin 1 → Pipeline.Cfg sig Λ₀ := Pipeline.pin (pcfgs (F := F)) adm

theorem pins_inj : Function.Injective (Pipeline.cellOf (nD := nD) (τ := τ) (pins (F := F))) := cellOf_inj

def u₀ : UU := (initOf (K (F := F)).hsCells (K (F := F)).hsToks,
  (initOf (Pipeline.cells (pins (F := F)) pins_inj) (Pipeline.launchToks (pins (F := F)) pins_inj), 1))

/-- What the launch deals a device for its region. -/
def G (d : Dev nD) : sProp 𝕄 := iprop(Pipeline.cellsGhost (pins (F := F)) EP 0 d ∗ Pipeline.toksInit (pins (F := F)) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr)
      = (iprop(emp) : sProp 𝕄) := by
    rw [show (bigSep Finset.univ fun thr : Thread nD τ => bigSep Finset.univ fun q : Fin 1 => (P (F := F) m).x q thr)
      = bigSep Finset.univ fun _ => iprop(emp) from bigSep_congr fun _ _ => bigSep_univ_of_subsingleton (0 : Fin 1)]
    exact bigSep_emp_const _
  have hG : iprop((bigSep Finset.univ fun c : Dev nD => bigSep Finset.univ fun p => Pipeline.cellsGhost (pins (F := F)) EP p c)
      ∗ (bigSep Finset.univ fun c : Dev nD => bigSep Finset.univ fun p => (Pipeline.toksInit (pins (F := F)) EP p c : sProp 𝕄)))
      ⊢ (bigSep Finset.univ fun d : Dev nD => G (F := F) d : sProp 𝕄) := by
    unfold G
    rw [bigSep_sep', show (fun c : Dev nD => bigSep Finset.univ fun p => (Pipeline.cellsGhost (pins (F := F)) EP p c : sProp 𝕄))
        = fun c => Pipeline.cellsGhost (pins (F := F)) EP 0 c from funext fun c => bigSep_univ_of_subsingleton (0 : Fin 1),
      show (fun c : Dev nD => bigSep Finset.univ fun p => (Pipeline.toksInit (pins (F := F)) EP p c : sProp 𝕄))
        = fun c => Pipeline.toksInit (pins (F := F)) EP 0 c from funext fun c => bigSep_univ_of_subsingleton (0 : Fin 1)]
  rw [hx]
  unfold u₀
  iintro Hu
  ihave H := (ownU_pair (initOf (K (F := F)).hsCells (K (F := F)).hsToks)
    ((initOf (Pipeline.cells (pins (F := F)) pins_inj) (Pipeline.launchToks (pins (F := F)) pins_inj), 1) : UP × Counters)) $$ Hu
  icases H with ⟨HH, HR⟩
  ihave H := (own_pair_emb embR (initOf (Pipeline.cells (pins (F := F)) pins_inj) (Pipeline.launchToks (pins (F := F)) pins_inj)) (1 : Counters)) $$ HR
  icases H with ⟨HP, -⟩
  imod (Pipeline.fund_ghost (pins (F := F)) EP pins_inj) $$ HP with HP
  imodintro
  isplitl [HH]; · iexact HH
  isplitl [HP]; · iapply hG; iexact HP
  iempintro

/-! ## The first kernel's call -/

abbrev entry : Prog (TpuEff nD τ sig (Elt F) (ΛP (F := F)) .tc) PUnit :=
  .op (.customCall (Pipeline.entry 0) ()) fun _ => .ret ⟨⟩

theorem wp_first [∀ e, Nonempty (Elt F e)] (b : ℕ) (d : Dev nD) (Φ : PUnit → sProp 𝕄) :
    iprop((iprop(boundary (d.tc : Thread nD τ) ∗ xSome m d ∗ (vLoc d ↦{fullShare} tcOut (imgsAt m d)) ∗ tcOwes (F := F) b d) -∗ Φ ⟨⟩)
        ∗ boundary (d.tc : Thread nD τ) ∗ (xSome m d ∗ (vLoc d ↦{fullShare} m (vLoc d)) ∗ tcOwes (F := F) b d)
        ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Φ := by
  have hl := (K (F := F)).wp_liftProg (D (F := F)) 𝒱 (SparseCore.T d) Set.univ none (entry (F := F)) Φ
  have hw := Pipeline.RegionSeg.wp pcfgs adm (dats m b) (none : HIx 1) pins_inj EP defs₀ 𝒱₀
    (K (F := F)).L (K (F := F)).lev (region m b) d none (fun _ h => nomatch h) (fun _ => .ret ⟨⟩) Φ
  have e : SparseCore.liftProg (Q := 1) (entry (F := F)) = Prog.lift (.customCall (SparseCore.inner (Pipeline.entry 0)) ()) := rfl
  rw [← e]
  refine BI.BIBase.Entails.trans ?_ hl
  refine BI.BIBase.Entails.trans ?_ hw
  unfold G
  iintro ⟨Hk, Hb, Hpre, Hl, Hg, Ht⟩
  isplitl [Hk]
  · iintro H
    iapply (Entails.of_eq (wp_ret _ _ _ _ _).symm)
    imodintro
    iapply Hk; iapply (Entails.of_eq (show iprop(boundary (d.tc : Thread nD τ) ∗ (region m b).post d) = iprop(boundary (d.tc : Thread nD τ) ∗ xSome m d ∗ (vLoc d ↦{fullShare} tcOut (imgsAt m d)) ∗ tcOwes (F := F) b d) from rfl)); iexact H
  isplitl [Hb]; · iexact Hb
  isplitl [Hpre]; · iapply (Entails.of_eq (show iprop(xSome m d ∗ (vLoc d ↦{fullShare} m (vLoc d)) ∗ tcOwes (F := F) b d) = (region m b).pre d from rfl)); iexact Hpre
  isplitl [Hl]; · iexact Hl
  isplitl [Hg] <;> iassumption

/-! ## @main on the TensorCore -/

/-- The bound below which the waits recorded before the SparseCore call lie. -/
abbrev bnd : ℕ := 8 * SparseCore.Cfg.Blocks.fst 1 1 0

theorem owes_out (d : Dev nD) : ((K (F := F)).tcSt EH d 0 : sProp 𝕄)
    ⊢ iprop(tcOwes (F := F) bnd d ∗ (tcOwes (F := F) bnd d -∗ (K (F := F)).tcSt EH d 0)) := by
  unfold SparseCore.Cfg.tcSt tcOwes
  iintro ⟨HO, HR⟩
  isplitl [HO]; · iexact HO
  iintro HO
  isplitl [HO] <;> iassumption

/-- What the run leaves: some share of the images as they were, and the result. -/
abbrev FIN (d : Dev nD) : sProp 𝕄 := iprop(xSome m d ∗ (((d.tc : Thread nD τ).1, bRes) ↦{fullShare} finalVal m d))

/-- The rest of @main: from the boundary and the host's buffers, and the SparseCore call's state before it. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  have hb : (unscopedBufs d (fun b => m ((SparseCore.T d).loc b)) : sProp 𝕄)
      = iprop((xLoc d ↦{fullShare} m (xLoc d)) ∗ (vLoc d ↦{fullShare} m (vLoc d))
        ∗ StableHlo.held (d.tc : Thread nD τ) (hostRefs.erase bTc) (StableHlo.launchContents m d)) := by
    rw [show (unscopedBufs d (fun b => m ((SparseCore.T d).loc b)) : sProp 𝕄) = StableHlo.held (d.tc : Thread nD τ) (Pipeline.ucRefs τ sig) (StableHlo.launchContents m d)
      from Pipeline.unscopedBufs_held d (StableHlo.launchContents m d),
      held_take _ (b := bArg) (by decide), held_take _ (b := bTc) (by decide)]
  have h1 : (iprop((vLoc d ↦{fullShare} tcOut (imgsAt m d)) ∗ StableHlo.held (d.tc : Thread nD τ) (hostRefs.erase bTc) (StableHlo.launchContents m d)) : sProp 𝕄)
      = StableHlo.held (d.tc : Thread nD τ) hostRefs (V₁ m d) := held_put _ (b := bTc) (by decide) _ _
  have h2 : (StableHlo.held (d.tc : Thread nD τ) hostRefs (opFirst.result (V₁ m d)) : sProp 𝕄)
      = iprop((oLoc d ↦{fullShare} m (oLoc d)) ∗ StableHlo.held (d.tc : Thread nD τ) (hostRefs.erase bSc) (V₂ m d)) := by
    show (StableHlo.held (d.tc : Thread nD τ) hostRefs (V₂ m d) : sProp 𝕄) = _
    rw [held_take _ (b := bSc) (by decide), V₂_bSc]
  have h3 : (iprop((oLoc d ↦{fullShare} scOutV (imgsAt m d)) ∗ StableHlo.held (d.tc : Thread nD τ) (hostRefs.erase bSc) (V₂ m d)) : sProp 𝕄)
      = StableHlo.held (d.tc : Thread nD τ) hostRefs (V₃ m d) := held_put _ (b := bSc) (by decide) _ _
  have h4 : (StableHlo.held (d.tc : Thread nD τ) hostRefs (StableHlo.after hostOps (V₃ m d)) : sProp 𝕄)
      ⊢ (((d.tc : Thread nD τ).1, bRes) ↦{fullShare} finalVal m d) := by
    rw [held_take _ (b := bRes) (by decide)]
    exact sep_elim_left
  unfold SparseCore.Cfg.tcRes SparseCore.Cfg.tcEnd
  rw [hb, main_eq]
  simp only [wp_bind]
  iintro ⟨#Hctx, Hst, ⟨Hb, ⟨Hx, Hv, Hh⟩, Hts, -⟩, HG⟩
  ihave H := (owes_out d) $$ Hst
  icases H with ⟨HO, Hst⟩
  iapply (wp_first m bnd d _)
  isplitr [Hb Hx Hv HO HG]
  · iintro ⟨Hb, Hx, Hv, HO⟩
    ihave Hst := Hst $$ HO
    ihave Hh := (Entails.of_eq h1) $$ [Hv Hh]
    · isplitl [Hv] <;> iassumption
    iapply (StableHlo.wp_hlo_within 𝒱 (d.tc : Thread nD τ) none Set.univ opFirst_bufs) $$ [Hb Hh]
    · isplitl [Hb] <;> iassumption
    iintro ⟨Hb, Hh⟩
    iapply (Entails.of_eq (wp_ret _ _ _ _ _).symm)
    imodintro
    ihave Hh := (Entails.of_eq h2) $$ Hh
    icases Hh with ⟨Ho, Hh⟩
    ihave H := (st_intro m d) $$ [Hx Ho]
    · isplitl [Hx] <;> iassumption
    icases H with ⟨Hsts, Hx⟩
    iapply ((K (F := F)).wp_run (D (F := F)) 𝒱 (EH := EH) (P := P m) κ d 0)
    isplitr; · iexact Hctx
    isplitl [Hst]; · iexact Hst
    isplitl [Hsts]; · iexact Hsts
    iintro ⟨Hst, Hdn⟩
    ihave Ho := (dn_elim m d) $$ Hdn
    ihave Hh := (Entails.of_eq h3) $$ [Ho Hh]
    · isplitl [Ho] <;> iassumption
    rw [show (StableHlo.seq (hostOps (F := F)) : Prog (TpuEff nD τ sig (Elt F) (SparseCore.Sig (Pipeline.Sig Λ₀ (Fin 1) fun p => (pcfgs (F := F) p).Adm) 1) .tc) PUnit)
      = (StableHlo.seq hostOps >>= fun u => Pure.pure u) from (bind_pure _).symm]
    iapply (StableHlo.wp_seq 𝒱 none Set.univ d hostRefs (fun u => Pure.pure u) hostOps hostOps_bufs hostOps_fresh (V₃ m d)) $$ [Hb Hh]
    · isplitl [Hb] <;> iassumption
    iintro ⟨Hb, Hh⟩
    iapply (Entails.of_eq (wp_ret _ _ _ _ _).symm)
    imodintro
    isplitl [Hst]; · iexact Hst
    isplitl [Hx Hh]
    · isplitl [Hx]; · iexact Hx
      iapply h4; iexact Hh
    isplitl [Hb] <;> iassumption
  isplitl [Hb]; · iexact Hb
  isplitl [Hx Hv HO]
  · isplitl [Hx]
    · unfold xSome; iexists fullShare; iexact Hx
    isplitl [Hv] <;> iassumption
  isplitr
  · iapply (SparseCore.Cfg.ctx_levAts κ); iexact Hctx
  iexact HG

/-! ## The end -/

def fq (d : Dev nD) (s' : Phys nD τ sig (Elt F)) : Prop :=
  s'.mem.mem ((d.tc : Thread nD τ).loc main_v60) = finalVal m d ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  unfold FIN xSome
  iintro ⟨⟨⟨%q, Hx⟩, Hr⟩, HSI⟩
  ihave H := (persistent_entails_right (SI_pointsTo_agree (st := s') (ℓ := xLoc d) (I := Finset.univ) (q := q) (f := m (xLoc d)))) $$ [HSI Hx]
  · isplitl [HSI] <;> iassumption
  icases H with ⟨%h1, HSI, -⟩
  ihave H := (SI_pointsTo_agree (st := s') (ℓ := (d.tc : Thread nD τ).loc main_v60) (I := Finset.univ) (q := fullShare) (f := finalVal m d)) $$ [HSI Hr]
  · isplitl [HSI] <;> iassumption
  icases H with %h2
  ipureintro; exact ⟨funext fun i => h2 i (Finset.mem_univ i), funext fun i => h1 i (Finset.mem_univ i)⟩

def QC : PUnit × MemSt nD τ sig (Elt F) → Prop := fun r =>
  (∀ c : Dev nD, r.2.mem ((c.tc : Thread nD τ).loc main_v60) = finalVal m c ∧ r.2.mem (xLoc c) = m (xLoc c)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.Mask

end
-- ==== Proof.RefOps.lean ====
/-
  The reference as a list of host operations, and its run.
-/
module

public import proofs.«01_k».proof.Defs
public import proofs.«01_k».proof.Proof.Gen.ReferenceIdeal
public import Idealize.ShloMosaic.Lib.StableHlo.RunHlo

@[expose] public section

noncomputable section

namespace Cert.Proof.Ref

open Cert.ReferenceIdeal Cert.ReferenceIdeal.Gen
open Idealize.ShloMosaic
open Idealize.ShloMosaic.StableHlo (IsSeq)
open Idealize.SL.Sem

variable {F : FTy → Type}
variable [FloatOps F]

/-- The class of each pixel. -/
def opsLab : List (HloOp τ sig (Elt F)) := [
  StableHlo.TRef.nullary main_call0.v0 (iotaInDim S16x3x512x512 32 1),
  StableHlo.TRef.nullary main_call0.cst (constant S_ .f32 0xFF800000#32),
  StableHlo.TRef.nullary main_call0.c (constantI S_ 32 0#32),
  StableHlo.TRef.quaternary (.of main_arg0 : StableHlo.TRef sig ⟨S16x3x512x512, .f32⟩) main_call0.v0 main_call0.cst main_call0.c main_call0.v1_0 (fun x y u v j => (Host.argReduce reducer_argmax_f32_i32 x y u v reducesTo_S16x3x512x512_S16x512x512_d1 h_S_ j).1),
  StableHlo.TRef.quaternary (.of main_arg0 : StableHlo.TRef sig ⟨S16x3x512x512, .f32⟩) main_call0.v0 main_call0.cst main_call0.c main_call0.v1_1 (fun x y u v j => (Host.argReduce reducer_argmax_f32_i32 x y u v reducesTo_S16x3x512x512_S16x512x512_d1 h_S_ j).2)]

/-- The rows that hold class 1. -/
def cupHas : List (HloOp τ sig (Elt F)) := [
  StableHlo.nullary main_c (constantI S_ 32 1#32),
  StableHlo.unary main_c main_v1 (broadcastInDim S16x512x512 ![] bcast_S_S16x512x512 : (⟨S_, .i32⟩ : BufTy).Contents (Elt F) → (⟨S16x512x512, .i32⟩ : BufTy).Contents (Elt F)),
  StableHlo.binary main_v0 main_v1 main_v2 (cmpi .eq : (⟨S16x512x512, .i32⟩ : BufTy).Contents (Elt F) → (⟨S16x512x512, .i32⟩ : BufTy).Contents (Elt F) → (⟨S16x512x512, .i1⟩ : BufTy).Contents (Elt F)),
  StableHlo.nullary main_c_0 (constantI S_ 1 0#1),
  StableHlo.binary main_v2 main_c_0 main_v3 ((fun x v => Host.reduce IntOp.ori x v reducesTo_S16x512x512_S16x512_d2 h_S_) : (⟨S16x512x512, .i1⟩ : BufTy).Contents (Elt F) → (⟨S_, .i1⟩ : BufTy).Contents (Elt F) → (⟨S16x512, .i1⟩ : BufTy).Contents (Elt F)),
  StableHlo.nullary main_v4 (iotaInDim S512 32 0),
  StableHlo.unary main_v4 main_v5 (broadcastInDim S1x512 ![1] bcast_S512_S1x512_1 : (⟨S512, .i32⟩ : BufTy).Contents (Elt F) → (⟨S1x512, .i32⟩ : BufTy).Contents (Elt F))]

/-- The least and the greatest of those rows, and whether there is one. -/
def cupEnds : List (HloOp τ sig (Elt F)) := [
  StableHlo.nullary main_c_1 (constantI S_ 32 512#32),
  StableHlo.TRef.unary (.of main_c_1 : StableHlo.TRef sig ⟨S_, .i32⟩) main_call1.v0 id,
  StableHlo.TRef.unary (.of main_v5 : StableHlo.TRef sig ⟨S1x512, .i32⟩) main_call1.v1 (broadcastInDim S16x512 ![0, 1] bcast_S1x512_S16x512_0_1),
  StableHlo.TRef.unary main_call1.v0 main_call1.v2 (broadcastInDim S16x512 ![] bcast_S_S16x512),
  StableHlo.TRef.ternary (.of main_v3 : StableHlo.TRef sig ⟨S16x512, .i1⟩) main_call1.v1 main_call1.v2 main_call1.v3 select,
  StableHlo.nullary main_c_2 (constantI S_ 32 2147483647#32),
  StableHlo.binary main_v6 main_c_2 main_v7 ((fun x v => Host.reduce IntOp.minsi x v reducesTo_S16x512_S16_d1 h_S_) : (⟨S16x512, .i32⟩ : BufTy).Contents (Elt F) → (⟨S_, .i32⟩ : BufTy).Contents (Elt F) → (⟨S16, .i32⟩ : BufTy).Contents (Elt F)),
  StableHlo.nullary main_c_3 (constantI S_ 32 4294967295#32),
  StableHlo.TRef.unary (.of main_c_3 : StableHlo.TRef sig ⟨S_, .i32⟩) main_call2.v0 id,
  StableHlo.TRef.unary (.of main_v5 : StableHlo.TRef sig ⟨S1x512, .i32⟩) main_call2.v1 (broadcastInDim S16x512 ![0, 1] bcast_S1x512_S16x512_0_1),
  StableHlo.TRef.unary main_call2.v0 main_call2.v2 (broadcastInDim S16x512 ![] bcast_S_S16x512),
  StableHlo.TRef.ternary (.of main_v3 : StableHlo.TRef sig ⟨S16x512, .i1⟩) main_call2.v1 main_call2.v2 main_call2.v3 select,
  StableHlo.nullary main_c_4 (constantI S_ 32 2147483648#32),
  StableHlo.binary main_v8 main_c_4 main_v9 ((fun x v => Host.reduce IntOp.maxsi x v reducesTo_S16x512_S16_d1 h_S_) : (⟨S16x512, .i32⟩ : BufTy).Contents (Elt F) → (⟨S_, .i32⟩ : BufTy).Contents (Elt F) → (⟨S16, .i32⟩ : BufTy).Contents (Elt F)),
  StableHlo.nullary main_c_5 (constantI S_ 1 0#1),
  StableHlo.binary main_v3 main_c_5 main_v10 ((fun x v => Host.reduce IntOp.ori x v reducesTo_S16x512_S16_d1 h_S_) : (⟨S16x512, .i1⟩ : BufTy).Contents (Elt F) → (⟨S_, .i1⟩ : BufTy).Contents (Elt F) → (⟨S16, .i1⟩ : BufTy).Contents (Elt F))]

/-- Both as floats, zero where there is none. -/
def cupOut : List (HloOp τ sig (Elt F)) := [
  StableHlo.nullary main_c_6 (constantI S_ 32 0#32),
  StableHlo.TRef.unary (.of main_c_6 : StableHlo.TRef sig ⟨S_, .i32⟩) main_call3.v0 id,
  StableHlo.TRef.unary main_call3.v0 main_call3.v1 (broadcastInDim S16 ![] bcast_S_S16),
  StableHlo.TRef.ternary (.of main_v10 : StableHlo.TRef sig ⟨S16, .i1⟩) (.of main_v7 : StableHlo.TRef sig ⟨S16, .i32⟩) main_call3.v1 main_call3.v2 select,
  StableHlo.nullary main_c_7 (constantI S_ 32 0#32),
  StableHlo.TRef.unary (.of main_c_7 : StableHlo.TRef sig ⟨S_, .i32⟩) main_call4.v0 id,
  StableHlo.TRef.unary main_call4.v0 main_call4.v1 (broadcastInDim S16 ![] bcast_S_S16),
  StableHlo.TRef.ternary (.of main_v10 : StableHlo.TRef sig ⟨S16, .i1⟩) (.of main_v9 : StableHlo.TRef sig ⟨S16, .i32⟩) main_call4.v1 main_call4.v2 select,
  StableHlo.unary main_v11 main_v13 (broadcastInDim S16x1 ![0] bcast_S16_S16x1_0 : (⟨S16, .i32⟩ : BufTy).Contents (Elt F) → (⟨S16x1, .i32⟩ : BufTy).Contents (Elt F)),
  StableHlo.unary main_v12 main_v14 (broadcastInDim S16x1 ![0] bcast_S16_S16x1_0 : (⟨S16, .i32⟩ : BufTy).Contents (Elt F) → (⟨S16x1, .i32⟩ : BufTy).Contents (Elt F)),
  StableHlo.binary main_v13 main_v14 main_v15 ((fun a b => concatenate S16x2 1 [⟨S16x1, a⟩, ⟨S16x1, b⟩] concatenates_S16x1_S16x1_S16x2_d1) : (⟨S16x1, .i32⟩ : BufTy).Contents (Elt F) → (⟨S16x1, .i32⟩ : BufTy).Contents (Elt F) → (⟨S16x2, .i32⟩ : BufTy).Contents (Elt F)),
  StableHlo.unary main_v15 main_v16 (sitofp .f32 : (⟨S16x2, .i32⟩ : BufTy).Contents (Elt F) → (⟨S16x2, .f32⟩ : BufTy).Contents (Elt F))]

/-- The first and the last row of class 1. -/
def opsCup : List (HloOp τ sig (Elt F)) := cupHas ++ (cupEnds ++ cupOut)

/-- The rows that hold class 2. -/
def discHas : List (HloOp τ sig (Elt F)) := [
  StableHlo.nullary main_c_8 (constantI S_ 32 2#32),
  StableHlo.unary main_c_8 main_v17 (broadcastInDim S16x512x512 ![] bcast_S_S16x512x512 : (⟨S_, .i32⟩ : BufTy).Contents (Elt F) → (⟨S16x512x512, .i32⟩ : BufTy).Contents (Elt F)),
  StableHlo.binary main_v0 main_v17 main_v18 (cmpi .eq : (⟨S16x512x512, .i32⟩ : BufTy).Contents (Elt F) → (⟨S16x512x512, .i32⟩ : BufTy).Contents (Elt F) → (⟨S16x512x512, .i1⟩ : BufTy).Contents (Elt F)),
  StableHlo.nullary main_c_9 (constantI S_ 1 0#1),
  StableHlo.binary main_v18 main_c_9 main_v19 ((fun x v => Host.reduce IntOp.ori x v reducesTo_S16x512x512_S16x512_d2 h_S_) : (⟨S16x512x512, .i1⟩ : BufTy).Contents (Elt F) → (⟨S_, .i1⟩ : BufTy).Contents (Elt F) → (⟨S16x512, .i1⟩ : BufTy).Contents (Elt F)),
  StableHlo.nullary main_v20 (iotaInDim S512 32 0),
  StableHlo.unary main_v20 main_v21 (broadcastInDim S1x512 ![1] bcast_S512_S1x512_1 : (⟨S512, .i32⟩ : BufTy).Contents (Elt F) → (⟨S1x512, .i32⟩ : BufTy).Contents (Elt F))]

/-- The least and the greatest of those rows, and whether there is one. -/
def discEnds : List (HloOp τ sig (Elt F)) := [
  StableHlo.nullary main_c_10 (constantI S_ 32 512#32),
  StableHlo.TRef.unary (.of main_c_10 : StableHlo.TRef sig ⟨S_, .i32⟩) main_call5.v0 id,
  StableHlo.TRef.unary (.of main_v21 : StableHlo.TRef sig ⟨S1x512, .i32⟩) main_call5.v1 (broadcastInDim S16x512 ![0, 1] bcast_S1x512_S16x512_0_1),
  StableHlo.TRef.unary main_call5.v0 main_call5.v2 (broadcastInDim S16x512 ![] bcast_S_S16x512),
  StableHlo.TRef.ternary (.of main_v19 : StableHlo.TRef sig ⟨S16x512, .i1⟩) main_call5.v1 main_call5.v2 main_call5.v3 select,
  StableHlo.nullary main_c_11 (constantI S_ 32 2147483647#32),
  StableHlo.binary main_v22 main_c_11 main_v23 ((fun x v => Host.reduce IntOp.minsi x v reducesTo_S16x512_S16_d1 h_S_) : (⟨S16x512, .i32⟩ : BufTy).Contents (Elt F) → (⟨S_, .i32⟩ : BufTy).Contents (Elt F) → (⟨S16, .i32⟩ : BufTy).Contents (Elt F)),
  StableHlo.nullary main_c_12 (constantI S_ 32 4294967295#32),
  StableHlo.TRef.unary (.of main_c_12 : StableHlo.TRef sig ⟨S_, .i32⟩) main_call6.v0 id,
  StableHlo.TRef.unary (.of main_v21 : StableHlo.TRef sig ⟨S1x512, .i32⟩) main_call6.v1 (broadcastInDim S16x512 ![0, 1] bcast_S1x512_S16x512_0_1),
  StableHlo.TRef.unary main_call6.v0 main_call6.v2 (broadcastInDim S16x512 ![] bcast_S_S16x512),
  StableHlo.TRef.ternary (.of main_v19 : StableHlo.TRef sig ⟨S16x512, .i1⟩) main_call6.v1 main_call6.v2 main_call6.v3 select,
  StableHlo.nullary main_c_13 (constantI S_ 32 2147483648#32),
  StableHlo.binary main_v24 main_c_13 main_v25 ((fun x v => Host.reduce IntOp.maxsi x v reducesTo_S16x512_S16_d1 h_S_) : (⟨S16x512, .i32⟩ : BufTy).Contents (Elt F) → (⟨S_, .i32⟩ : BufTy).Contents (Elt F) → (⟨S16, .i32⟩ : BufTy).Contents (Elt F)),
  StableHlo.nullary main_c_14 (constantI S_ 1 0#1),
  StableHlo.binary main_v19 main_c_14 main_v26 ((fun x v => Host.reduce IntOp.ori x v reducesTo_S16x512_S16_d1 h_S_) : (⟨S16x512, .i1⟩ : BufTy).Contents (Elt F) → (⟨S_, .i1⟩ : BufTy).Contents (Elt F) → (⟨S16, .i1⟩ : BufTy).Contents (Elt F))]

/-- Both as floats, zero where there is none. -/
def discOut : List (HloOp τ sig (Elt F)) := [
  StableHlo.nullary main_c_15 (constantI S_ 32 0#32),
  StableHlo.TRef.unary (.of main_c_15 : StableHlo.TRef sig ⟨S_, .i32⟩) main_call7.v0 id,
  StableHlo.TRef.unary main_call7.v0 main_call7.v1 (broadcastInDim S16 ![] bcast_S_S16),
  StableHlo.TRef.ternary (.of main_v26 : StableHlo.TRef sig ⟨S16, .i1⟩) (.of main_v23 : StableHlo.TRef sig ⟨S16, .i32⟩) main_call7.v1 main_call7.v2 select,
  StableHlo.nullary main_c_16 (constantI S_ 32 0#32),
  StableHlo.TRef.unary (.of main_c_16 : StableHlo.TRef sig ⟨S_, .i32⟩) main_call8.v0 id,
  StableHlo.TRef.unary main_call8.v0 main_call8.v1 (broadcastInDim S16 ![] bcast_S_S16),
  StableHlo.TRef.ternary (.of main_v26 : StableHlo.TRef sig ⟨S16, .i1⟩) (.of main_v25 : StableHlo.TRef sig ⟨S16, .i32⟩) main_call8.v1 main_call8.v2 select,
  StableHlo.unary main_v27 main_v29 (broadcastInDim S16x1 ![0] bcast_S16_S16x1_0 : (⟨S16, .i32⟩ : BufTy).Contents (Elt F) → (⟨S16x1, .i32⟩ : BufTy).Contents (Elt F)),
  StableHlo.unary main_v28 main_v30 (broadcastInDim S16x1 ![0] bcast_S16_S16x1_0 : (⟨S16, .i32⟩ : BufTy).Contents (Elt F) → (⟨S16x1, .i32⟩ : BufTy).Contents (Elt F)),
  StableHlo.binary main_v29 main_v30 main_v31 ((fun a b => concatenate S16x2 1 [⟨S16x1, a⟩, ⟨S16x1, b⟩] concatenates_S16x1_S16x1_S16x2_d1) : (⟨S16x1, .i32⟩ : BufTy).Contents (Elt F) → (⟨S16x1, .i32⟩ : BufTy).Contents (Elt F) → (⟨S16x2, .i32⟩ : BufTy).Contents (Elt F)),
  StableHlo.unary main_v31 main_v32 (sitofp .f32 : (⟨S16x2, .i32⟩ : BufTy).Contents (Elt F) → (⟨S16x2, .f32⟩ : BufTy).Contents (Elt F))]

/-- The first and the last row of class 2. -/
def opsDisc : List (HloOp τ sig (Elt F)) := discHas ++ (discEnds ++ discOut)

/-- The ratio of the heights. -/
def opsRatio : List (HloOp τ sig (Elt F)) := [
  StableHlo.unary main_v16 main_v33 ((extractStridedSlice S16x1 ![0, 1] · slices_S16x2_S16x1_0_1) : (⟨S16x2, .f32⟩ : BufTy).Contents (Elt F) → (⟨S16x1, .f32⟩ : BufTy).Contents (Elt F)),
  StableHlo.reshape main_v33 main_v34 (rfl : (.f32 : EltTy) = .f32) shapeCasts_S16x1_S16,
  StableHlo.unary main_v16 main_v35 ((extractStridedSlice S16x1 ![0, 0] · slices_S16x2_S16x1_0_0) : (⟨S16x2, .f32⟩ : BufTy).Contents (Elt F) → (⟨S16x1, .f32⟩ : BufTy).Contents (Elt F)),
  StableHlo.reshape main_v35 main_v36 (rfl : (.f32 : EltTy) = .f32) shapeCasts_S16x1_S16,
  StableHlo.binary main_v34 main_v36 main_v37 (subf : (⟨S16, .f32⟩ : BufTy).Contents (Elt F) → (⟨S16, .f32⟩ : BufTy).Contents (Elt F) → (⟨S16, .f32⟩ : BufTy).Contents (Elt F)),
  StableHlo.unary main_v37 main_v38 (broadcastInDim S16x1 ![0] bcast_S16_S16x1_0 : (⟨S16, .f32⟩ : BufTy).Contents (Elt F) → (⟨S16x1, .f32⟩ : BufTy).Contents (Elt F)),
  StableHlo.unary main_v32 main_v39 ((extractStridedSlice S16x1 ![0, 1] · slices_S16x2_S16x1_0_1) : (⟨S16x2, .f32⟩ : BufTy).Contents (Elt F) → (⟨S16x1, .f32⟩ : BufTy).Contents (Elt F)),
  StableHlo.reshape main_v39 main_v40 (rfl : (.f32 : EltTy) = .f32) shapeCasts_S16x1_S16,
  StableHlo.unary main_v32 main_v41 ((extractStridedSlice S16x1 ![0, 0] · slices_S16x2_S16x1_0_0) : (⟨S16x2, .f32⟩ : BufTy).Contents (Elt F) → (⟨S16x1, .f32⟩ : BufTy).Contents (Elt F)),
  StableHlo.reshape main_v41 main_v42 (rfl : (.f32 : EltTy) = .f32) shapeCasts_S16x1_S16,
  StableHlo.binary main_v40 main_v42 main_v43 (subf : (⟨S16, .f32⟩ : BufTy).Contents (Elt F) → (⟨S16, .f32⟩ : BufTy).Contents (Elt F) → (⟨S16, .f32⟩ : BufTy).Contents (Elt F)),
  StableHlo.unary main_v43 main_v44 (broadcastInDim S16x1 ![0] bcast_S16_S16x1_0 : (⟨S16, .f32⟩ : BufTy).Contents (Elt F) → (⟨S16x1, .f32⟩ : BufTy).Contents (Elt F)),
  StableHlo.nullary main_cst (constant S_ .f32 0x358637BD#32),
  StableHlo.unary main_cst main_v45 (broadcastInDim S16x1 ![] bcast_S_S16x1 : (⟨S_, .f32⟩ : BufTy).Contents (Elt F) → (⟨S16x1, .f32⟩ : BufTy).Contents (Elt F)),
  StableHlo.binary main_v44 main_v45 main_v46 (addf : (⟨S16x1, .f32⟩ : BufTy).Contents (Elt F) → (⟨S16x1, .f32⟩ : BufTy).Contents (Elt F) → (⟨S16x1, .f32⟩ : BufTy).Contents (Elt F)),
  StableHlo.binary main_v38 main_v46 main_v47 (Host.divf : (⟨S16x1, .f32⟩ : BufTy).Contents (Elt F) → (⟨S16x1, .f32⟩ : BufTy).Contents (Elt F) → (⟨S16x1, .f32⟩ : BufTy).Contents (Elt F))]

/-- The greatest score. -/
def softTop : List (HloOp τ sig (Elt F)) := [
  StableHlo.nullary main_cst_17 (constant S_ .f32 0xFF800000#32),
  StableHlo.binary main_arg0 main_cst_17 main_v48 ((fun x v => Host.reduce FloatOps.maximumf x v reducesTo_S16x3x512x512_S16x512x512_d1 h_S_) : (⟨S16x3x512x512, .f32⟩ : BufTy).Contents (Elt F) → (⟨S_, .f32⟩ : BufTy).Contents (Elt F) → (⟨S16x512x512, .f32⟩ : BufTy).Contents (Elt F))]

/-- Not below minus infinity. -/
def softMax : List (HloOp τ sig (Elt F)) := [
  StableHlo.nullary main_cst_18 (constant S_ .f32 0xFF800000#32),
  StableHlo.unary main_cst_18 main_v49 (broadcastInDim S16x512x512 ![] bcast_S_S16x512x512 : (⟨S_, .f32⟩ : BufTy).Contents (Elt F) → (⟨S16x512x512, .f32⟩ : BufTy).Contents (Elt F)),
  StableHlo.binary main_v49 main_v48 main_v50 (maximumf : (⟨S16x512x512, .f32⟩ : BufTy).Contents (Elt F) → (⟨S16x512x512, .f32⟩ : BufTy).Contents (Elt F) → (⟨S16x512x512, .f32⟩ : BufTy).Contents (Elt F))]

/-- The exponentials. -/
def softExp : List (HloOp τ sig (Elt F)) := [
  StableHlo.unary main_v50 main_v51 (broadcastInDim S16x1x512x512 ![0, 2, 3] bcast_S16x512x512_S16x1x512x512_0_2_3 : (⟨S16x512x512, .f32⟩ : BufTy).Contents (Elt F) → (⟨S16x1x512x512, .f32⟩ : BufTy).Contents (Elt F)),
  StableHlo.unary main_v51 main_v52 (broadcastInDim S16x3x512x512 ![0, 1, 2, 3] bcast_S16x1x512x512_S16x3x512x512_0_1_2_3 : (⟨S16x1x512x512, .f32⟩ : BufTy).Contents (Elt F) → (⟨S16x3x512x512, .f32⟩ : BufTy).Contents (Elt F)),
  StableHlo.binary main_arg0 main_v52 main_v53 (subf : (⟨S16x3x512x512, .f32⟩ : BufTy).Contents (Elt F) → (⟨S16x3x512x512, .f32⟩ : BufTy).Contents (Elt F) → (⟨S16x3x512x512, .f32⟩ : BufTy).Contents (Elt F)),
  StableHlo.unary main_v53 main_v54 (Host.exp : (⟨S16x3x512x512, .f32⟩ : BufTy).Contents (Elt F) → (⟨S16x3x512x512, .f32⟩ : BufTy).Contents (Elt F))]

/-- Divided by their sum. -/
def softDiv : List (HloOp τ sig (Elt F)) := [
  StableHlo.nullary main_cst_19 (constant S_ .f32 0x00000000#32),
  StableHlo.binary main_v54 main_cst_19 main_v55 ((fun x v => Host.reduceAdd x v reducesTo_S16x3x512x512_S16x512x512_d1 h_S_) : (⟨S16x3x512x512, .f32⟩ : BufTy).Contents (Elt F) → (⟨S_, .f32⟩ : BufTy).Contents (Elt F) → (⟨S16x512x512, .f32⟩ : BufTy).Contents (Elt F)),
  StableHlo.unary main_v55 main_v56 (broadcastInDim S16x1x512x512 ![0, 2, 3] bcast_S16x512x512_S16x1x512x512_0_2_3 : (⟨S16x512x512, .f32⟩ : BufTy).Contents (Elt F) → (⟨S16x1x512x512, .f32⟩ : BufTy).Contents (Elt F)),
  StableHlo.unary main_v56 main_v57 (broadcastInDim S16x3x512x512 ![0, 1, 2, 3] bcast_S16x1x512x512_S16x3x512x512_0_1_2_3 : (⟨S16x1x512x512, .f32⟩ : BufTy).Contents (Elt F) → (⟨S16x3x512x512, .f32⟩ : BufTy).Contents (Elt F)),
  StableHlo.binary main_v54 main_v57 main_v58 (Host.divf : (⟨S16x3x512x512, .f32⟩ : BufTy).Contents (Elt F) → (⟨S16x3x512x512, .f32⟩ : BufTy).Contents (Elt F) → (⟨S16x3x512x512, .f32⟩ : BufTy).Contents (Elt F))]

/-- Classes 1 and 2. -/
def softOut : List (HloOp τ sig (Elt F)) := [
  StableHlo.unary main_v58 main_v59 ((extractStridedSlice S16x1x512x512 ![0, 1, 0, 0] · slices_S16x3x512x512_S16x1x512x512_0_1_0_0) : (⟨S16x3x512x512, .f32⟩ : BufTy).Contents (Elt F) → (⟨S16x1x512x512, .f32⟩ : BufTy).Contents (Elt F)),
  StableHlo.reshape main_v59 main_v60 (rfl : (.f32 : EltTy) = .f32) shapeCasts_S16x1x512x512_S16x512x512,
  StableHlo.unary main_v58 main_v61 ((extractStridedSlice S16x1x512x512 ![0, 2, 0, 0] · slices_S16x3x512x512_S16x1x512x512_0_2_0_0) : (⟨S16x3x512x512, .f32⟩ : BufTy).Contents (Elt F) → (⟨S16x1x512x512, .f32⟩ : BufTy).Contents (Elt F)),
  StableHlo.reshape main_v61 main_v62 (rfl : (.f32 : EltTy) = .f32) shapeCasts_S16x1x512x512_S16x512x512]

/-- The softmax over the classes. -/
def opsSoft : List (HloOp τ sig (Elt F)) := softTop ++ (softMax ++ (softExp ++ (softDiv ++ softOut)))

/-- The means and the joined columns. -/
def opsOut : List (HloOp τ sig (Elt F)) := [
  StableHlo.nullary main_cst_20 (constant S_ .f32 0x00000000#32),
  StableHlo.binary main_v62 main_cst_20 main_v63 ((fun x v => Host.reduceAdd x v reducesTo_S16x512x512_S16_d1_2 h_S_) : (⟨S16x512x512, .f32⟩ : BufTy).Contents (Elt F) → (⟨S_, .f32⟩ : BufTy).Contents (Elt F) → (⟨S16, .f32⟩ : BufTy).Contents (Elt F)),
  StableHlo.nullary main_cst_21 (constant S_ .f32 0x48800000#32),
  StableHlo.unary main_cst_21 main_v64 (broadcastInDim S16 ![] bcast_S_S16 : (⟨S_, .f32⟩ : BufTy).Contents (Elt F) → (⟨S16, .f32⟩ : BufTy).Contents (Elt F)),
  StableHlo.binary main_v63 main_v64 main_v65 (Host.divf : (⟨S16, .f32⟩ : BufTy).Contents (Elt F) → (⟨S16, .f32⟩ : BufTy).Contents (Elt F) → (⟨S16, .f32⟩ : BufTy).Contents (Elt F)),
  StableHlo.unary main_v65 main_v66 (broadcastInDim S16x1 ![0] bcast_S16_S16x1_0 : (⟨S16, .f32⟩ : BufTy).Contents (Elt F) → (⟨S16x1, .f32⟩ : BufTy).Contents (Elt F)),
  StableHlo.nullary main_cst_22 (constant S_ .f32 0x00000000#32),
  StableHlo.binary main_v60 main_cst_22 main_v67 ((fun x v => Host.reduceAdd x v reducesTo_S16x512x512_S16_d1_2 h_S_) : (⟨S16x512x512, .f32⟩ : BufTy).Contents (Elt F) → (⟨S_, .f32⟩ : BufTy).Contents (Elt F) → (⟨S16, .f32⟩ : BufTy).Contents (Elt F)),
  StableHlo.nullary main_cst_23 (constant S_ .f32 0x48800000#32),
  StableHlo.unary main_cst_23 main_v68 (broadcastInDim S16 ![] bcast_S_S16 : (⟨S_, .f32⟩ : BufTy).Contents (Elt F) → (⟨S16, .f32⟩ : BufTy).Contents (Elt F)),
  StableHlo.binary main_v67 main_v68 main_v69 (Host.divf : (⟨S16, .f32⟩ : BufTy).Contents (Elt F) → (⟨S16, .f32⟩ : BufTy).Contents (Elt F) → (⟨S16, .f32⟩ : BufTy).Contents (Elt F)),
  StableHlo.unary main_v69 main_v70 (broadcastInDim S16x1 ![0] bcast_S16_S16x1_0 : (⟨S16, .f32⟩ : BufTy).Contents (Elt F) → (⟨S16x1, .f32⟩ : BufTy).Contents (Elt F)),
  StableHlo.nullary main_cst_24 (constant S_ .f32 0x00000000#32),
  StableHlo.binary main_v62 main_cst_24 main_v71 ((fun x v => Host.reduceAdd x v reducesTo_S16x512x512_S16_d1_2 h_S_) : (⟨S16x512x512, .f32⟩ : BufTy).Contents (Elt F) → (⟨S_, .f32⟩ : BufTy).Contents (Elt F) → (⟨S16, .f32⟩ : BufTy).Contents (Elt F)),
  StableHlo.nullary main_cst_25 (constant S_ .f32 0x48800000#32),
  StableHlo.unary main_cst_25 main_v72 (broadcastInDim S16 ![] bcast_S_S16 : (⟨S_, .f32⟩ : BufTy).Contents (Elt F) → (⟨S16, .f32⟩ : BufTy).Contents (Elt F)),
  StableHlo.binary main_v71 main_v72 main_v73 (Host.divf : (⟨S16, .f32⟩ : BufTy).Contents (Elt F) → (⟨S16, .f32⟩ : BufTy).Contents (Elt F) → (⟨S16, .f32⟩ : BufTy).Contents (Elt F)),
  StableHlo.unary main_v73 main_v74 (broadcastInDim S16x1 ![0] bcast_S16_S16x1_0 : (⟨S16, .f32⟩ : BufTy).Contents (Elt F) → (⟨S16x1, .f32⟩ : BufTy).Contents (Elt F)),
  StableHlo.nullary main_cst_26 (constant S_ .f32 0x00000000#32),
  StableHlo.binary main_v60 main_cst_26 main_v75 ((fun x v => Host.reduceAdd x v reducesTo_S16x512x512_S16_d1_2 h_S_) : (⟨S16x512x512, .f32⟩ : BufTy).Contents (Elt F) → (⟨S_, .f32⟩ : BufTy).Contents (Elt F) → (⟨S16, .f32⟩ : BufTy).Contents (Elt F)),
  StableHlo.nullary main_cst_27 (constant S_ .f32 0x48800000#32),
  StableHlo.unary main_cst_27 main_v76 (broadcastInDim S16 ![] bcast_S_S16 : (⟨S_, .f32⟩ : BufTy).Contents (Elt F) → (⟨S16, .f32⟩ : BufTy).Contents (Elt F)),
  StableHlo.binary main_v75 main_v76 main_v77 (Host.divf : (⟨S16, .f32⟩ : BufTy).Contents (Elt F) → (⟨S16, .f32⟩ : BufTy).Contents (Elt F) → (⟨S16, .f32⟩ : BufTy).Contents (Elt F)),
  StableHlo.unary main_v77 main_v78 (broadcastInDim S16x1 ![0] bcast_S16_S16x1_0 : (⟨S16, .f32⟩ : BufTy).Contents (Elt F) → (⟨S16x1, .f32⟩ : BufTy).Contents (Elt F)),
  StableHlo.nary ![main_v66, main_v70, main_v74, main_v78] main_v79 (fun u => (concatenate S16x4 1 [⟨S16x1, (u 0 : (⟨S16x1, .f32⟩ : BufTy).Contents (Elt F))⟩, ⟨S16x1, (u 1 : (⟨S16x1, .f32⟩ : BufTy).Contents (Elt F))⟩, ⟨S16x1, (u 2 : (⟨S16x1, .f32⟩ : BufTy).Contents (Elt F))⟩, ⟨S16x1, (u 3 : (⟨S16x1, .f32⟩ : BufTy).Contents (Elt F))⟩] concatenates_S16x1_S16x1_S16x1_S16x1_S16x4_d1 : (⟨S16x4, .f32⟩ : BufTy).Contents (Elt F))),
  StableHlo.binary main_v47 main_v79 main_v80 ((fun a b => concatenate S16x5 1 [⟨S16x1, a⟩, ⟨S16x4, b⟩] concatenates_S16x1_S16x4_S16x5_d1) : (⟨S16x1, .f32⟩ : BufTy).Contents (Elt F) → (⟨S16x4, .f32⟩ : BufTy).Contents (Elt F) → (⟨S16x5, .f32⟩ : BufTy).Contents (Elt F))]

/-- What the reference runs. -/
def refOps : List (HloOp τ sig (Elt F)) := opsLab ++ (opsCup ++ (opsDisc ++ (opsRatio ++ (opsSoft ++ opsOut))))

set_option maxRecDepth 100000 in
set_option maxHeartbeats 4000000 in
theorem main_seq (d : Dev nD) : IsSeq (Λ := Pipeline.Sig Λ₀ (Fin 0) fun p => (pcfgs (F := F) p).Adm) (main (F := F) d) refOps := by
  simp only [main, main_part0, main_part1, fn_argmax.body, fn_where.body, fn_where_0.body, bind_assoc, pure_bind]
  simp only [refOps, opsLab, opsCup, opsDisc, opsRatio, opsSoft, opsOut, cupHas, cupEnds, cupOut, discHas, discEnds, discOut, softTop, softMax, softExp, softDiv, softOut, List.cons_append, List.nil_append]
  hlo_seq

/-- An operation of the TensorCore's buffers that does not write the images. -/
structure Apart (op : HloOp τ sig (Elt F)) : Prop where
  sub : op.bufs ⊆ StableHlo.tcRefs τ sig
  out : (Proc.devRef .tc main_arg0 : DevRef τ sig) ∉ op.writes
  fresh : op.fresh = ∅

section Apart

variable {x a b c e y : Ref sig .tc}

theorem arg_ne (h : main_arg0 ≠ y) {W : Finset (DevRef τ sig)} (hW : W = {Proc.devRef .tc y}) : (Proc.devRef .tc main_arg0 : DevRef τ sig) ∉ W := by
  subst hW; exact fun e => h (Proc.devRef_injective _ (Finset.mem_singleton.mp e))

theorem apart_nullary (v : y.ty.Contents (Elt F)) (hy) (h : main_arg0 ≠ y) : Apart (StableHlo.nullary (τ := τ) y v hy) :=
  ⟨StableHlo.nullary_bufs_sub .., arg_ne h rfl, rfl⟩
theorem apart_unary (f : x.ty.Contents (Elt F) → y.ty.Contents (Elt F)) (hx hy) (h : main_arg0 ≠ y) :
    Apart (StableHlo.unary (τ := τ) x y f hx hy) := ⟨StableHlo.unary_bufs_sub .., arg_ne h rfl, rfl⟩
theorem apart_reshape (he hn hx hy) (h : main_arg0 ≠ y) :
    Apart (F := F) (StableHlo.reshape (τ := τ) x y he hn hx hy) := ⟨StableHlo.reshape_bufs_sub .., arg_ne h rfl, rfl⟩
theorem apart_binary (f : a.ty.Contents (Elt F) → b.ty.Contents (Elt F) → y.ty.Contents (Elt F)) (ha hb hy)
    (h : main_arg0 ≠ y) : Apart (StableHlo.binary (τ := τ) a b y f ha hb hy) := ⟨StableHlo.binary_bufs_sub .., arg_ne h rfl, rfl⟩
theorem apart_ternary (f : c.ty.Contents (Elt F) → a.ty.Contents (Elt F) → b.ty.Contents (Elt F) → y.ty.Contents (Elt F)) (hc ha hb hy)
    (h : main_arg0 ≠ y) : Apart (StableHlo.ternary (τ := τ) c a b y f hc ha hb hy) := ⟨StableHlo.ternary_bufs_sub .., arg_ne h rfl, rfl⟩
theorem apart_quaternary (f : a.ty.Contents (Elt F) → b.ty.Contents (Elt F) → c.ty.Contents (Elt F) → e.ty.Contents (Elt F) → y.ty.Contents (Elt F))
    (ha hb hc he hy) (h : main_arg0 ≠ y) : Apart (StableHlo.quaternary (τ := τ) a b c e y f ha hb hc he hy) :=
  ⟨StableHlo.quaternary_bufs_sub .., arg_ne h rfl, rfl⟩
theorem apart_nary {n : ℕ} (xs : Fin n → Ref sig .tc) (f : ((k : Fin n) → (xs k).ty.Contents (Elt F)) → y.ty.Contents (Elt F)) (hxs hy)
    (h : main_arg0 ≠ y) : Apart (StableHlo.nary (τ := τ) xs y f hxs hy) := ⟨StableHlo.nary_bufs_sub .., arg_ne h rfl, rfl⟩

end Apart

set_option maxRecDepth 100000 in
theorem opsLab_apart : ∀ op ∈ (opsLab : List (HloOp τ sig (Elt F))), Apart op := by
  unfold opsLab; simp only [List.forall_mem_cons, List.not_mem_nil, false_imp_iff, implies_true, and_true]
  repeat' (first
    | refine And.intro ?_ ?_
    | exact apart_unary _ _ _ (by decide)
    | exact apart_reshape _ _ _ _ (by decide)
    | exact apart_nullary _ _ (by decide)
    | exact apart_binary _ _ _ _ (by decide)
    | exact apart_ternary _ _ _ _ _ (by decide)
    | exact apart_quaternary _ _ _ _ _ _ (by decide)
    | exact apart_nary _ _ _ _ (by decide))

set_option maxRecDepth 100000 in
theorem opsCup_apart : ∀ op ∈ (opsCup : List (HloOp τ sig (Elt F))), Apart op := by
  unfold opsCup cupHas cupEnds cupOut; simp only [List.cons_append, List.nil_append, List.forall_mem_cons, List.not_mem_nil, false_imp_iff, implies_true, and_true]
  repeat' (first
    | refine And.intro ?_ ?_
    | exact apart_unary _ _ _ (by decide)
    | exact apart_reshape _ _ _ _ (by decide)
    | exact apart_nullary _ _ (by decide)
    | exact apart_binary _ _ _ _ (by decide)
    | exact apart_ternary _ _ _ _ _ (by decide)
    | exact apart_quaternary _ _ _ _ _ _ (by decide)
    | exact apart_nary _ _ _ _ (by decide))

set_option maxRecDepth 100000 in
theorem opsDisc_apart : ∀ op ∈ (opsDisc : List (HloOp τ sig (Elt F))), Apart op := by
  unfold opsDisc discHas discEnds discOut; simp only [List.cons_append, List.nil_append, List.forall_mem_cons, List.not_mem_nil, false_imp_iff, implies_true, and_true]
  repeat' (first
    | refine And.intro ?_ ?_
    | exact apart_unary _ _ _ (by decide)
    | exact apart_reshape _ _ _ _ (by decide)
    | exact apart_nullary _ _ (by decide)
    | exact apart_binary _ _ _ _ (by decide)
    | exact apart_ternary _ _ _ _ _ (by decide)
    | exact apart_quaternary _ _ _ _ _ _ (by decide)
    | exact apart_nary _ _ _ _ (by decide))

set_option maxRecDepth 100000 in
theorem opsRatio_apart : ∀ op ∈ (opsRatio : List (HloOp τ sig (Elt F))), Apart op := by
  unfold opsRatio; simp only [List.forall_mem_cons, List.not_mem_nil, false_imp_iff, implies_true, and_true]
  repeat' (first
    | refine And.intro ?_ ?_
    | exact apart_unary _ _ _ (by decide)
    | exact apart_reshape _ _ _ _ (by decide)
    | exact apart_nullary _ _ (by decide)
    | exact apart_binary _ _ _ _ (by decide)
    | exact apart_ternary _ _ _ _ _ (by decide)
    | exact apart_quaternary _ _ _ _ _ _ (by decide)
    | exact apart_nary _ _ _ _ (by decide))

set_option maxRecDepth 100000 in
theorem opsSoft_apart : ∀ op ∈ (opsSoft : List (HloOp τ sig (Elt F))), Apart op := by
  unfold opsSoft softTop softMax softExp softDiv softOut; simp only [List.cons_append, List.nil_append, List.forall_mem_cons, List.not_mem_nil, false_imp_iff, implies_true, and_true]
  repeat' (first
    | refine And.intro ?_ ?_
    | exact apart_unary _ _ _ (by decide)
    | exact apart_reshape _ _ _ _ (by decide)
    | exact apart_nullary _ _ (by decide)
    | exact apart_binary _ _ _ _ (by decide)
    | exact apart_ternary _ _ _ _ _ (by decide)
    | exact apart_quaternary _ _ _ _ _ _ (by decide)
    | exact apart_nary _ _ _ _ (by decide))

set_option maxRecDepth 100000 in
theorem opsOut_apart : ∀ op ∈ (opsOut : List (HloOp τ sig (Elt F))), Apart op := by
  unfold opsOut; simp only [List.forall_mem_cons, List.not_mem_nil, false_imp_iff, implies_true, and_true]
  repeat' (first
    | refine And.intro ?_ ?_
    | exact apart_unary _ _ _ (by decide)
    | exact apart_reshape _ _ _ _ (by decide)
    | exact apart_nullary _ _ (by decide)
    | exact apart_binary _ _ _ _ (by decide)
    | exact apart_ternary _ _ _ _ _ (by decide)
    | exact apart_quaternary _ _ _ _ _ _ (by decide)
    | exact apart_nary _ _ _ _ (by decide))

theorem refOps_apart : ∀ op ∈ (refOps : List (HloOp τ sig (Elt F))), Apart op := by
  unfold refOps
  simp only [List.forall_mem_append]
  exact ⟨opsLab_apart, opsCup_apart, opsDisc_apart, opsRatio_apart, opsSoft_apart, opsOut_apart⟩

theorem seg_kept {ops : List (HloOp τ sig (Elt F))} (hA : ∀ op ∈ ops, Apart op) (V : Valuation τ sig (Elt F)) :
    StableHlo.after ops V (Proc.devRef .tc main_arg0) = V (Proc.devRef .tc main_arg0) := by
  induction ops generalizing V with
  | nil => rw [StableHlo.after_nil]
  | cons op ops ih =>
    rw [StableHlo.after_cons, ih (fun o ho => hA o (List.mem_cons_of_mem _ ho)), op.result_of_not_mem V (hA op List.mem_cons_self).out]

theorem arg_kept (V : Valuation τ sig (Elt F)) :
    StableHlo.after refOps V (Proc.devRef .tc main_arg0) = V (Proc.devRef .tc main_arg0) := seg_kept refOps_apart V

theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after refOps (StableHlo.launchContents m d) (Proc.devRef .tc b) :=
  StableHlo.run_hlo defs main main_seq (by decide) (by decide)
    (List.forall_iff_forall_mem.mpr fun op ho => (refOps_apart op ho).sub) (fun op ho => (refOps_apart op ho).fresh) m ρ

end Cert.Proof.Ref

end
-- ==== Proof.Frames.lean ====
/-
  The frames: each program runs, keeps its argument and leaves every semaphore at zero.
-/
module

public import proofs.«01_k».proof.Proof.Run
public import proofs.«01_k».proof.Proof.RefOps
public import proofs.«01_k».proof.Proof.Gen.Kernel

@[expose] public section

noncomputable section

namespace Cert.Proof

open Idealize.ShloMosaic Idealize.SL.Sem

/-- The frame of the kernel's text over the machine's floats. -/
def FrameText : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (Cert.KernelIdeal.threads (F := Bits)) ⟨m, fun _ => 0, g⟩ (fun r => (∀ c : Dev Cert.KernelIdeal.nD,
      r.2.mem (Mask.xLoc c) = m (Mask.xLoc c)) ∧ r.2.sem = fun _ => 0)

/-- Both programs are the same text. -/
theorem frameText_eq : FrameText = Cert.quiescent_Kernel (hKernel := Cert.Kernel.Gen.facts) := by sl_kernel_rfl

theorem frame_kernel : Cert.quiescent_Kernel (hKernel := Cert.Kernel.Gen.facts) :=
  frameText_eq.mp fun m ρ _ =>
    (θ_run Cert.KernelIdeal.defs _ _).mono (fun _ h => ⟨fun c => (h.1 c).2, h.2⟩) (Mask.run_main (F := Bits) m ρ)

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Mask.run_main (F := Ideal) m ρ)

theorem frame_reference : Cert.quiescent_ReferenceIdeal (hReferenceIdeal := Cert.ReferenceIdeal.Gen.facts) := fun m ρ _ =>
  (θ_run Cert.ReferenceIdeal.defs _ _).mono
    (fun r h => ⟨fun c => (h c Cert.ReferenceIdeal.main_arg0).trans (Ref.arg_kept _), sem_eq_zero_of_no_sems (by decide) r.2⟩)
    (Ref.run_main (F := Ideal) m ρ)

end Cert.Proof

end
-- ==== Proof.Pixel.lean ====
/-
  One pixel: the class probabilities and the class labels over the reals, and the kernel's and the reference's extended-real
  expressions of them.
-/
module

public import Idealize.ShloMosaic.Lib.Pointwise
public import Idealize.ShloMosaic.Lib.IdealHost

@[expose] public section

noncomputable section

namespace Cert.Proof.Val

open Idealize.ShloMosaic

/-- The scores of one image: class, row, column. -/
abbrev Img := Fin 3 → Fin 512 → Fin 512 → ℝ

/-- The probability of class `k` among the scores `x`. -/
def soft (x : Fin 3 → ℝ) (k : Fin 3) : ℝ := Real.exp (x k) / (Real.exp (x 0) + Real.exp (x 1) + Real.exp (x 2))

/-- Class 1 is the first largest. -/
def isOne (x : Fin 3 → ℝ) : Prop := x 0 < x 1 ∧ x 2 ≤ x 1
/-- Class 2 is the first largest. -/
def isTwo (x : Fin 3 → ℝ) : Prop := x 0 < x 2 ∧ x 1 < x 2

theorem div_coe (a : EReal) {y : ℝ} (h : y ≠ 0) : Ideal.div a (y : EReal) = a * ((y⁻¹ : ℝ) : EReal) := by
  unfold Ideal.div; rw [if_neg (by exact_mod_cast h), EReal.coe_inv]

theorem exp_coe (r : ℝ) : Ideal.exp (r : EReal) = ((Real.exp r : ℝ) : EReal) := rfl

/-- What both kernels compute of a pixel's scores. -/
theorem kernel_soft (x : Fin 3 → ℝ) (k : Fin 3) :
    Ideal.exp ((x k : EReal) - (x 0 : EReal)) * Ideal.div 1 (1 + Ideal.exp ((x 1 : EReal) - (x 0 : EReal)) + Ideal.exp ((x 2 : EReal) - (x 0 : EReal)))
      = ((soft x k : ℝ) : EReal) := by
  have h : (1 : ℝ) + Real.exp (x 1 - x 0) + Real.exp (x 2 - x 0) ≠ 0 := by positivity
  have e0 := (Real.exp_pos (x 0)).ne'
  have hs : Real.exp (x 0) + Real.exp (x 1) + Real.exp (x 2) ≠ 0 := by positivity
  simp only [← EReal.coe_sub, exp_coe]
  rw [← EReal.coe_one, ← EReal.coe_add, ← EReal.coe_add, div_coe _ h, ← EReal.coe_mul, ← EReal.coe_mul]
  congr 1
  unfold soft
  rw [one_mul, ← div_eq_mul_inv, div_eq_div_iff h hs]
  simp only [Real.exp_sub]
  field_simp

/-- What the reference computes of a pixel's scores, `M` any real the scores are shifted by. -/
theorem ref_soft (x : Fin 3 → ℝ) (k : Fin 3) (M : ℝ) :
    Ideal.div (Ideal.exp ((x k : EReal) - (M : EReal)))
        (∑ l : Fin 3, Ideal.exp ((x l : EReal) - (M : EReal)))
      = ((soft x k : ℝ) : EReal) := by
  have h : Real.exp (x 0 - M) + Real.exp (x 1 - M) + Real.exp (x 2 - M) ≠ 0 := by positivity
  have e0 := (Real.exp_pos M).ne'
  have hs : Real.exp (x 0) + Real.exp (x 1) + Real.exp (x 2) ≠ 0 := by positivity
  simp only [Fin.sum_univ_three, ← EReal.coe_sub, exp_coe]
  rw [← EReal.coe_add, ← EReal.coe_add, div_coe _ h, ← EReal.coe_mul]
  congr 1
  unfold soft
  rw [← div_eq_mul_inv, div_eq_div_iff h hs]
  simp only [Real.exp_sub]
  field_simp

/-- The largest of three real scores, from below everything, is real. -/
theorem fold_max_real (x : Fin 3 → ℝ) : ∃ M : ℝ, Finset.univ.fold max (⊥ : EReal) (fun k => (x k : EReal)) = (M : EReal) := by
  refine ⟨max (x 0) (max (x 1) (x 2)), ?_⟩
  rw [show (Finset.univ : Finset (Fin 3)) = {0, 1, 2} from rfl, Finset.fold_insert (by decide), Finset.fold_insert (by decide), Finset.fold_singleton]
  rw [max_bot_right]; push_cast; rfl

theorem kernel_one (x : Fin 3 → ℝ) :
    ((0 : EReal) < (x 1 : EReal) - (x 0 : EReal) ∧ (x 2 : EReal) - (x 0 : EReal) ≤ (x 1 : EReal) - (x 0 : EReal)) ↔ isOne x := by
  rw [← EReal.coe_sub, ← EReal.coe_sub, ← EReal.coe_zero, EReal.coe_lt_coe_iff, EReal.coe_le_coe_iff]
  unfold isOne; constructor <;> rintro ⟨h, h'⟩ <;> constructor <;> linarith

theorem kernel_two (x : Fin 3 → ℝ) :
    ((0 : EReal) < (x 2 : EReal) - (x 0 : EReal) ∧ (x 1 : EReal) - (x 0 : EReal) < (x 2 : EReal) - (x 0 : EReal)) ↔ isTwo x := by
  rw [← EReal.coe_sub, ← EReal.coe_sub, ← EReal.coe_zero, EReal.coe_lt_coe_iff, EReal.coe_lt_coe_iff]
  unfold isTwo; constructor <;> rintro ⟨h, h'⟩ <;> constructor <;> linarith

/-! ## First and last rows -/

/-- `v` is the first row at which `H` holds, 512 if it holds nowhere: by its lower bounds. -/
def IsLo (H : Fin 512 → Prop) (v : EReal) : Prop := ∀ e : EReal, e ≤ v ↔ e ≤ ((512 : ℝ) : EReal) ∧ ∀ r, H r → e ≤ ((r.val : ℝ) : EReal)
/-- `v` is the last row at which `H` holds, −1 if it holds nowhere: by its upper bounds. -/
def IsHi (H : Fin 512 → Prop) (v : EReal) : Prop := ∀ e : EReal, v ≤ e ↔ ((-1 : ℝ) : EReal) ≤ e ∧ ∀ r, H r → ((r.val : ℝ) : EReal) ≤ e

theorem IsLo.unique {H : Fin 512 → Prop} {v w : EReal} (hv : IsLo H v) (hw : IsLo H w) : v = w :=
  le_antisymm ((hw v).2 ((hv v).1 le_rfl)) ((hv w).2 ((hw w).1 le_rfl))
theorem IsHi.unique {H : Fin 512 → Prop} {v w : EReal} (hv : IsHi H v) (hw : IsHi H w) : v = w :=
  le_antisymm ((hv w).2 ((hw w).1 le_rfl)) ((hw v).2 ((hv v).1 le_rfl))

theorem IsHi.nonneg_iff {H : Fin 512 → Prop} {v : EReal} (hv : IsHi H v) : 0 ≤ v ↔ ∃ r, H r := by
  constructor
  · intro h
    by_contra hn
    have := (hv ((-1 : ℝ) : EReal)).2 ⟨le_rfl, fun r hr => absurd ⟨r, hr⟩ hn⟩
    have h2 := h.trans this
    rw [← EReal.coe_zero, EReal.coe_le_coe_iff] at h2
    linarith
  · rintro ⟨r, hr⟩
    refine le_trans ?_ (((hv v).1 le_rfl).2 r hr)
    rw [← EReal.coe_zero, EReal.coe_le_coe_iff]
    positivity

/-- The height between the first and the last row, as the kernel computes it. -/
def height (lo hi : EReal) : EReal := Scalar.select (Ideal.cmp .oge hi 0) (hi - lo) 0

open Classical in
theorem height_eq {H : Fin 512 → Prop} {lo hi : EReal} (hh : IsHi H hi) : height lo hi = if ∃ r, H r then hi - lo else 0 := by
  unfold height Ideal.cmp
  by_cases h : (0 : EReal) ≤ hi
  · rw [if_pos (hh.nonneg_iff.1 h)]; simp [h, Scalar.select]
  · rw [if_neg fun h' => h (hh.nonneg_iff.2 h')]; simp [h, Scalar.select]

end Cert.Proof.Val

end
-- ==== Proof.TcValue.lean ====
/-
  The TensorCore kernel's lanes over the extended reals.
-/
module

public import proofs.«01_k».proof.Proof.TcBody
public import proofs.«01_k».proof.Proof.Pixel
public import Idealize.ShloMosaic.Lib.WordArith

@[expose] public section

noncomputable section

namespace Cert.Proof.Val

open Cert.KernelIdeal Cert.KernelIdeal.Gen
open Idealize.ShloMosaic

/-! ## Constants -/

theorem bits_512 : Ideal.ofBits FTy.f32 0x44000000#32 = ((512 : ℝ) : EReal) := by
  simp [Ideal.ofBits, Ideal.ieee]; rw [← EReal.coe_mul]; norm_num
theorem bits_neg_one : Ideal.ofBits FTy.f32 0xBF800000#32 = ((-1 : ℝ) : EReal) := by
  simp [Ideal.ofBits, Ideal.ieee]; rw [← EReal.coe_mul]; norm_num
theorem bits_top : Ideal.ofBits FTy.f32 0x7F800000#32 = ⊤ := by
  simp [Ideal.ofBits, Ideal.ieee]
theorem bits_bot : Ideal.ofBits FTy.f32 0xFF800000#32 = ⊥ := by
  simp [Ideal.ofBits, Ideal.ieee]

open Classical in
/-- A proposition as a bit. -/
def bit (p : Prop) : BitVec 1 := BitVec.ofBool (decide p)

theorem bit_select {α : Type} (p : Prop) [Decidable p] (a b : α) : Scalar.select (bit p) a b = if p then a else b := by
  unfold bit; by_cases h : p <;> simp [h, Scalar.select]

theorem bit_iff {p q : Prop} (h : p ↔ q) : bit p = bit q := by rw [propext h]
theorem ofBool_bit (p : Prop) [Decidable p] : BitVec.ofBool (decide p) = bit p := by
  unfold bit; congr
theorem andi_bit (p q : Prop) : IntOp.andi (bit p) (bit q) = bit (p ∧ q) := by
  unfold bit; by_cases hp : p <;> by_cases hq : q <;> simp [hp, hq, IntOp.andi]
theorem ori_bit (p q : Prop) : IntOp.ori (bit p) (bit q) = bit (p ∨ q) := by
  unfold bit; by_cases hp : p <;> by_cases hq : q <;> simp [hp, hq, IntOp.ori]

/-- The largest of ones and zeros is above zero where some is one. -/
theorem fold_max_bit {n : ℕ} (p : Fin n → Prop) :
    ((0 : EReal) < Finset.univ.fold max ⊥ fun c => Scalar.select (bit (p c)) (1 : EReal) 0) ↔ ∃ c, p c := by
  classical
  simp only [bit_select, Finset.lt_fold_max, Finset.mem_univ, true_and, not_lt_bot, false_or]
  refine exists_congr fun c => ?_
  by_cases h : p c <;> simp [h]

/-- The first row by a minimum over all rows. -/
theorem isLo_fold (H : Fin 512 → Prop) :
    IsLo H (Finset.univ.fold min ⊤ fun r : Fin 512 => Scalar.select (bit (H r)) ((r.val : ℝ) : EReal) ((512 : ℝ) : EReal)) := by
  classical
  intro e
  simp only [bit_select, Finset.le_fold_min, Finset.mem_univ, forall_const, le_top, true_and]
  constructor
  · intro h
    refine ⟨?_, fun r hr => by simpa [hr] using h r⟩
    have h0 := h 0
    by_cases hr : H 0
    · rw [if_pos hr] at h0
      exact h0.trans (by rw [EReal.coe_le_coe_iff]; norm_num)
    · rwa [if_neg hr] at h0
  · rintro ⟨h, h'⟩ r
    by_cases hr : H r
    · rw [if_pos hr]; exact h' r hr
    · rwa [if_neg hr]

/-- The last row by a maximum over all rows. -/
theorem isHi_fold (H : Fin 512 → Prop) :
    IsHi H (Finset.univ.fold max ⊥ fun r : Fin 512 => Scalar.select (bit (H r)) ((r.val : ℝ) : EReal) ((-1 : ℝ) : EReal)) := by
  classical
  intro e
  simp only [bit_select, Finset.fold_max_le, Finset.mem_univ, forall_const, bot_le, true_and]
  constructor
  · intro h
    refine ⟨?_, fun r hr => by simpa [hr] using h r⟩
    have h0 := h 0
    by_cases hr : H 0
    · rw [if_pos hr] at h0
      exact le_trans (by rw [EReal.coe_le_coe_iff]; norm_num) h0
    · rwa [if_neg hr] at h0
  · rintro ⟨h, h'⟩ r
    by_cases hr : H r
    · rw [if_pos hr]; exact h' r hr
    · rwa [if_neg hr]

/-! ## An image -/

/-- The scores at a pixel. -/
abbrev px (X : Img) (r c : Fin 512) : Fin 3 → ℝ := fun k => X k r c
/-- The rows with a pixel of class 1, and of class 2. -/
def rowsOne (X : Img) (r : Fin 512) : Prop := ∃ c, isOne (px X r c)
def rowsTwo (X : Img) (r : Fin 512) : Prop := ∃ c, isTwo (px X r c)
/-- The probabilities of class `k` added over an image. -/
def total (X : Img) (k : Fin 3) : EReal := ∑ r : Fin 512, ∑ c : Fin 512, ((soft (px X r c) k : ℝ) : EReal)

section Image

variable {y : Vec Ideal S1x3x512x512 .f32} {X : Img} (hy : ∀ k r c, y (ix4 0 k r c) = ((X k r c : ℝ) : EReal))
include hy

theorem diff1 (r c : Fin 512) : k0_pay4 (F := Ideal) y (ix2 r c) = ((X 1 r c : ℝ) : EReal) - ((X 0 r c : ℝ) : EReal) := by
  pointwise [k0_pay4, k0_pay2, k0_pay3]
  rw [hy, hy]

theorem diff2 (r c : Fin 512) : k0_pay5 (F := Ideal) y (ix2 r c) = ((X 2 r c : ℝ) : EReal) - ((X 0 r c : ℝ) : EReal) := by
  pointwise [k0_pay5, k0_pay2, k0_pay3]
  rw [hy, hy]

theorem total1 : k0_pay10 (F := Ideal) (k0_pay9 y) = total X 1 := by
  pointwise [k0_pay10, k0_pay9, k0_pay8, k0_pay7, k0_pay6]
  unfold total
  refine Finset.sum_congr rfl fun r _ => Finset.sum_congr rfl fun c _ => ?_
  rw [diff1 hy, diff2 hy]
  exact kernel_soft (px X r c) 1

theorem total2 : k0_pay11 (F := Ideal) (k0_pay7 y) (k0_pay8 y) = total X 2 := by
  pointwise [k0_pay11, k0_pay8, k0_pay7, k0_pay6]
  unfold total
  refine Finset.sum_congr rfl fun r _ => Finset.sum_congr rfl fun c _ => ?_
  rw [diff1 hy, diff2 hy]
  exact kernel_soft (px X r c) 2

theorem has1 (r : Fin 512) : k0_pay12 (F := Ideal) (k0_pay4 y) (k0_pay5 y) (ix1 r) = bit (rowsOne X r) := by
  pointwise [k0_pay12]
  simp only [ofBool_bit, andi_bit, bits_bot, diff1 hy, diff2 hy, fold_max_bit]
  refine bit_iff (exists_congr fun c => kernel_one (px X r c))

theorem has2 (r : Fin 512) : k0_pay13 (F := Ideal) (k0_pay4 y) (k0_pay5 y) (ix1 r) = bit (rowsTwo X r) := by
  pointwise [k0_pay13]
  simp only [ofBool_bit, andi_bit, bits_bot, diff1 hy, diff2 hy, fold_max_bit]
  refine bit_iff (exists_congr fun c => kernel_two (px X r c))

omit hy in
theorem toInt_row (r : Fin 512) : (FloatOps.sitofp (F := Ideal) FTy.f32 (BitVec.ofNat 32 r.val) : EReal) = ((r.val : ℝ) : EReal) := by
  show ((((BitVec.ofNat 32 r.val).toInt : ℤ) : ℝ) : EReal) = _
  have : (BitVec.ofNat 32 r.val).toInt = (r.val : ℤ) := by
    have := r.isLt
    rw [BitVec.toInt_ofNat']; simp only [Int.bmod]; omega
  rw [this, Int.cast_natCast]

theorem lo1 : IsLo (rowsOne X) (k0_pay15 (F := Ideal) (k0_pay4 y) (k0_pay5 y)) := by
  pointwise [k0_pay15, k0_pay14]
  simp only [has1 hy, toInt_row, bits_512, bits_top]
  exact isLo_fold _

theorem hi1 : IsHi (rowsOne X) (k0_pay16 (F := Ideal) (k0_pay4 y) (k0_pay5 y)) := by
  pointwise [k0_pay16, k0_pay14]
  simp only [has1 hy, toInt_row, bits_neg_one, bits_bot]
  exact isHi_fold _

omit hy in
theorem pick {α : Type} (a b : BitVec 32) (x y : α) : Scalar.select (IntOp.cmpi .eq a b) x y = if a = b then x else y := by
  unfold IntOp.cmpi Scalar.select
  by_cases h : a = b
  · subst h; simp
  · rw [if_neg h, beq_eq_false_iff_ne.2 h]; rfl

omit hy in
/-- The image's output row, lane by lane. -/
theorem row_lanes (a b d e : EReal) (h : IVec S512 1) (w : FVec Ideal S512 .f32) :
    k0_pay17 (F := Ideal) a b h w d e (ix3 0 0 0) = d ∧ k0_pay17 (F := Ideal) a b h w d e (ix3 0 0 1) = e
      ∧ k0_pay17 (F := Ideal) a b h w d e (ix3 0 0 2) = (Finset.univ.fold min ⊤ fun r : Fin 512 => Scalar.select (h (ix1 r)) (w (ix1 r)) ((512 : ℝ) : EReal))
      ∧ k0_pay17 (F := Ideal) a b h w d e (ix3 0 0 3) = (Finset.univ.fold max ⊥ fun r : Fin 512 => Scalar.select (h (ix1 r)) (w (ix1 r)) ((-1 : ℝ) : EReal))
      ∧ k0_pay17 (F := Ideal) a b h w d e (ix3 0 0 4) = a ∧ k0_pay17 (F := Ideal) a b h w d e (ix3 0 0 5) = b := by
  refine ⟨?_, ?_, ?_, ?_, ?_, ?_⟩ <;> pointwise [k0_pay17] <;> simp only [pick, bits_512, bits_neg_one, bits_top, bits_bot] <;>
    simp (decide := true) only [if_true, if_false]

/-- The image's bounds and totals, in the lanes of its output row. -/
theorem image_row :
    IsLo (rowsOne X) (Mask.imgPay (F := Ideal) y (ix3 0 0 0)) ∧ IsHi (rowsOne X) (Mask.imgPay (F := Ideal) y (ix3 0 0 1))
      ∧ IsLo (rowsTwo X) (Mask.imgPay (F := Ideal) y (ix3 0 0 2)) ∧ IsHi (rowsTwo X) (Mask.imgPay (F := Ideal) y (ix3 0 0 3))
      ∧ Mask.imgPay (F := Ideal) y (ix3 0 0 4) = total X 1 ∧ Mask.imgPay (F := Ideal) y (ix3 0 0 5) = total X 2 := by
  unfold Mask.imgPay
  obtain ⟨h0, h1, h2, h3, h4, h5⟩ := row_lanes (k0_pay10 (F := Ideal) (k0_pay9 y)) (k0_pay11 (F := Ideal) (k0_pay7 y) (k0_pay8 y))
    (k0_pay15 (F := Ideal) (k0_pay4 y) (k0_pay5 y)) (k0_pay16 (F := Ideal) (k0_pay4 y) (k0_pay5 y)) (k0_pay13 (F := Ideal) (k0_pay4 y) (k0_pay5 y)) (k0_pay14 (F := Ideal))
  have hr : ∀ r : Fin 512, k0_pay14 (F := Ideal) (ix1 r) = ((r.val : ℝ) : EReal) := fun r => by pointwise [k0_pay14]; exact toInt_row r
  refine ⟨?_, ?_, ?_, ?_, h4.trans (total1 hy), h5.trans (total2 hy)⟩
  · rw [h0]; exact lo1 hy
  · rw [h1]; exact hi1 hy
  · rw [h2]; simp only [has2 hy, hr]; exact isLo_fold _
  · rw [h3]; simp only [has2 hy, hr]; exact isHi_fold _

end Image

end Cert.Proof.Val

end
-- ==== Proof.Label.lean ====
/-
  The reference's class of a pixel, and its first and last rows.
-/
module

public import proofs.«01_k».proof.Defs
public import proofs.«01_k».proof.Proof.Gen.ReferenceIdeal
public import proofs.«01_k».proof.Proof.TcValue
public import Idealize.ShloMosaic.Lib.SortNet.Extract
public import Idealize.ShloMosaic.Lib.Routing.OpsOrder
public import Idealize.ShloMosaic.PureOps.Ideal.Laws

@[expose] public section
noncomputable section
namespace Cert.Proof.Val
open Cert.ReferenceIdeal Cert.ReferenceIdeal.Gen
open Idealize.ShloMosaic

/-- One pair of a score and its class stands before another: a greater score, or the same score and no later class. -/
def Beats (p q : EReal × BitVec 32) : Prop := q.1 < p.1 ∨ (q.1 = p.1 ∧ p.2.toInt ≤ q.2.toInt)

theorem Beats.refl (p : EReal × BitVec 32) : Beats p p := .inr ⟨rfl, le_rfl⟩
theorem Beats.trans {p q s : EReal × BitVec 32} (h : Beats p q) (h' : Beats q s) : Beats p s := by
  rcases h with h | ⟨h, k⟩ <;> rcases h' with h' | ⟨h', k'⟩
  · exact .inl (h'.trans h)
  · exact .inl (h' ▸ h)
  · exact .inl (h ▸ h')
  · exact .inr ⟨h'.trans h, k.trans k'⟩

/-- One step takes one of the two, and that one stands before both. -/
theorem step_beats (p q : EReal × BitVec 32) :
    (reducer_argmax_f32_i32 (F := Ideal) p q = p ∨ reducer_argmax_f32_i32 (F := Ideal) p q = q)
    ∧ Beats (reducer_argmax_f32_i32 (F := Ideal) p q) p ∧ Beats (reducer_argmax_f32_i32 (F := Ideal) p q) q := by
  have e : reducer_argmax_f32_i32 (F := Ideal) p q
      = (Scalar.select (bit (q.1 < p.1)) p.1 q.1, Scalar.select (bit (q.1 < p.1 ∨ (p.1 = q.1 ∧ p.2.toInt < q.2.toInt))) p.2 q.2) := by
    have e1 : FloatOps.cmpf (F := Ideal) (φ := .f32) .ogt p.1 q.1 = bit (q.1 < p.1) := ofBool_bit _
    have e2 : FloatOps.cmpf (F := Ideal) (φ := .f32) .une p.1 p.1 = bit False := (ofBool_bit (p.1 ≠ p.1)).trans (bit_iff (by simp))
    have e3 : FloatOps.cmpf (F := Ideal) (φ := .f32) .oeq p.1 q.1 = bit (p.1 = q.1) := ofBool_bit _
    have e4 : IntOp.cmpi .slt p.2 q.2 = bit (p.2.toInt < q.2.toInt) := by
      show BitVec.ofBool (p.2.slt q.2) = _
      exact ofBool_bit (p.2.toInt < q.2.toInt)
    simp only [reducer_argmax_f32_i32, e1, e2, e3, e4, ori_bit, andi_bit, or_false]
  rw [e]
  classical
  simp only [bit_select]
  rcases lt_trichotomy q.1 p.1 with h | h | h
  · rw [if_pos h, if_pos (Or.inl h)]
    exact ⟨.inl rfl, .refl _, .inl h⟩
  · rw [if_neg h.not_lt]
    by_cases hk : p.2.toInt < q.2.toInt
    · rw [if_pos (Or.inr ⟨h.symm, hk⟩), h]
      exact ⟨.inl rfl, .refl _, .inr ⟨h, hk.le⟩⟩
    · rw [if_neg fun hn => hn.elim h.not_lt fun hn => hk hn.2]
      exact ⟨.inr rfl, .inr ⟨h.symm, not_lt.mp hk⟩, .refl _⟩
  · rw [if_neg (not_lt.mpr h.le), if_neg fun hn => hn.elim (not_lt.mpr h.le) fun hn => h.ne hn.1]
    exact ⟨.inr rfl, .inl h, .refl _⟩

/-- A fold of the step over a list takes the start or an entry, and that one stands before all of them. -/
theorem fold_beats {ι : Type} (f : ι → EReal × BitVec 32) (l : List ι) (p : EReal × BitVec 32) :
    (l.foldl (fun a n => reducer_argmax_f32_i32 (F := Ideal) a (f n)) p = p ∨ ∃ n ∈ l, l.foldl (fun a n => reducer_argmax_f32_i32 (F := Ideal) a (f n)) p = f n)
    ∧ Beats (l.foldl (fun a n => reducer_argmax_f32_i32 (F := Ideal) a (f n)) p) p
    ∧ ∀ n ∈ l, Beats (l.foldl (fun a n => reducer_argmax_f32_i32 (F := Ideal) a (f n)) p) (f n) := by
  induction l generalizing p with
  | nil => exact ⟨.inl rfl, .refl _, fun n hn => absurd hn List.not_mem_nil⟩
  | cons a l ih =>
    obtain ⟨h1, h2, h3⟩ := ih (reducer_argmax_f32_i32 (F := Ideal) p (f a))
    obtain ⟨s1, s2, s3⟩ := step_beats p (f a)
    simp only [List.foldl_cons]
    refine ⟨?_, h2.trans s2, fun n hn => ?_⟩
    · rcases h1 with h1 | ⟨n, hn, h1⟩
      · rcases s1 with s1 | s1
        · exact .inl (h1.trans s1)
        · exact .inr ⟨a, List.mem_cons_self, h1.trans s1⟩
      · exact .inr ⟨n, List.mem_cons_of_mem _ hn, h1⟩
    · rcases List.mem_cons.mp hn with rfl | hn
      · exact h2.trans s3
      · exact h3 n hn

/-- The class of a pixel: its score stands before the others'. -/
theorem label_at {x : FVec Ideal S16x3x512x512 .f32} {X : Fin 16 → Img}
    (hx : ∀ b k r c, x (ix4 b k r c) = ((X b k r c : ℝ) : EReal)) (b : Fin 16) (r c : Fin 512) :
    ∃ k : Fin 3, (Host.argReduce reducer_argmax_f32_i32 x (iotaInDim S16x3x512x512 32 1) (constant S_ FTy.f32 0xFF800000#32) (constantI S_ 32 0#32)
        reducesTo_S16x3x512x512_S16x512x512_d1 h_S_ (ix3 b r c)).2 = BitVec.ofNat 32 k.val
      ∧ ∀ j : Fin 3, X b j r c < X b k r c ∨ (X b j r c = X b k r c ∧ k ≤ j) := by
  rw [Ideal.argReduce_eq_reduce2]
  unfold Host.reduce2
  have H := fold_beats (fun n => (x (S16x3x512x512.rowMajor.symm n), iotaInDim S16x3x512x512 32 1 (S16x3x512x512.rowMajor.symm n)))
    ((List.finRange S16x3x512x512.numel).filter fun n => reducesTo_S16x3x512x512_S16x512x512_d1.drop (S16x3x512x512.rowMajor.symm n) = ix3 b r c)
    (constant (F := Ideal) S_ FTy.f32 0xFF800000#32 (Shape.Idx.first h_S_), constantI S_ 32 0#32 (Shape.Idx.first h_S_))
  generalize hR : List.foldl _ _ _ = R at H ⊢
  obtain ⟨h1, h2, h3⟩ := H
  have hj : ∀ j : Fin 3, Beats R (((X b j r c : ℝ) : EReal), BitVec.ofNat 32 j.val) := fun j => by
    have := h3 (S16x3x512x512.rowMajor (ix4 b j r c)) (by
      rw [List.mem_filter]
      refine ⟨List.mem_finRange _, decide_eq_true ?_⟩
      rw [Equiv.symm_apply_apply]
      funext a; fin_cases a <;> rfl)
    rw [Equiv.symm_apply_apply, hx] at this
    exact this
  rcases h1 with h1 | ⟨n, hn, h1⟩
  · exfalso
    have := hj 0
    rw [h1] at this
    have e : constant (F := Ideal) S_ FTy.f32 0xFF800000#32 (Shape.Idx.first h_S_) = (⊥ : EReal) := bits_bot
    rw [e] at this
    rcases this with h | ⟨h, _⟩
    · exact not_lt_bot h
    · exact EReal.coe_ne_bot _ h
  · rw [List.mem_filter] at hn
    have hd := of_decide_eq_true hn.2
    generalize S16x3x512x512.rowMajor.symm n = i at hd h1
    obtain ⟨k, rfl⟩ : ∃ k : Fin 3, i = ix4 b k r c := by
      refine ⟨i 1, ?_⟩
      funext a
      have d0 := congrFun hd 0
      have d1 := congrFun hd 1
      have d2 := congrFun hd 2
      fin_cases a
      · exact d0
      · rfl
      · exact d1
      · exact d2
    rw [hx] at h1
    refine ⟨k, ?_, fun j => ?_⟩
    · rw [h1]; rfl
    · have := hj j
      rw [h1] at this
      rcases this with h | ⟨h, h'⟩
      · exact .inl (EReal.coe_lt_coe_iff.mp h)
      · refine .inr ⟨EReal.coe_eq_coe_iff.mp h, ?_⟩
        have h' : (BitVec.ofNat 32 k.val).toInt ≤ (BitVec.ofNat 32 j.val).toInt := h'
        clear * - h'
        revert k j; decide

/-- Being class 1, and being class 2. -/
theorem label_bits {w : BitVec 32} {x : Fin 3 → ℝ} (h : ∃ k : Fin 3, w = BitVec.ofNat 32 k.val ∧ ∀ j : Fin 3, x j < x k ∨ (x j = x k ∧ k ≤ j)) :
    IntOp.cmpi .eq w 1#32 = bit (isOne x) ∧ IntOp.cmpi .eq w 2#32 = bit (isTwo x) := by
  obtain ⟨k, rfl, h⟩ := h
  have h0 := h 0
  have h1 := h 1
  have h2 := h 2
  have e1 : IntOp.cmpi .eq (BitVec.ofNat 32 k.val) 1#32 = bit (k = 1) := by
    clear * -; rw [← ofBool_bit]; revert k; decide
  have e2 : IntOp.cmpi .eq (BitVec.ofNat 32 k.val) 2#32 = bit (k = 2) := by
    clear * -; rw [← ofBool_bit]; revert k; decide
  rw [e1, e2]
  unfold isOne isTwo
  constructor <;> refine bit_iff ?_ <;> fin_cases k <;> simp_all <;> grind

/-! ## The rows -/

theorem bit_eq_one (p : Prop) : bit p = 1#1 ↔ p := by
  unfold bit; by_cases h : p <;> simp [h]

/-- Some bit is set. -/
theorem fold_ori_bit {n : ℕ} (p : Fin n → Prop) : Finset.univ.fold IntOp.ori (0#1) (fun r => bit (p r)) = bit (∃ r, p r) := by
  have h := Routing.fold_ori Finset.univ fun r => bit (p r)
  simp only [Finset.mem_univ, true_and, bit_eq_one] at h
  by_cases hp : ∃ r, p r
  · rw [h.mpr hp, (bit_eq_one _).mpr hp]
  · rcases BitVec.eq_zero_or_eq_one (Finset.univ.fold IntOp.ori (0#1) (fun r => bit (p r))) with e | e
    · rw [e]; unfold bit; simp [hp]
    · exact absurd (h.mp e) hp

/-- A word as an extended real. -/
abbrev real32 (w : BitVec 32) : EReal := ((w.toInt : ℝ) : EReal)

theorem real32_minsi (a b : BitVec 32) : real32 (IntOp.minsi a b) = min (real32 a) (real32 b) := by
  unfold real32; rw [SortNet.toInt_minsi]; push_cast; rfl
theorem real32_maxsi (a b : BitVec 32) : real32 (IntOp.maxsi a b) = max (real32 a) (real32 b) := by
  unfold real32; rw [SortNet.toInt_maxsi]; push_cast; rfl

theorem real32_of {w : BitVec 32} {n : ℤ} (h : w.toInt = n) : real32 w = ((n : ℝ) : EReal) := by unfold real32; rw [h]

/-- The first row as the reference finds it. -/
def firstRow (H : Fin 512 → Prop) : BitVec 32 :=
  Finset.univ.fold IntOp.minsi (2147483647#32) fun r : Fin 512 => Scalar.select (bit (H r)) (BitVec.ofNat 32 r.val) 512#32
/-- The last row as the reference finds it. -/
def lastRow (H : Fin 512 → Prop) : BitVec 32 :=
  Finset.univ.fold IntOp.maxsi (2147483648#32) fun r : Fin 512 => Scalar.select (bit (H r)) (BitVec.ofNat 32 r.val) 4294967295#32

theorem real32_row (r : Fin 512) : real32 (BitVec.ofNat 32 r.val) = ((r.val : ℝ) : EReal) := toInt_row r

theorem isLo_first (H : Fin 512 → Prop) : IsLo H (real32 (firstRow H)) := by
  classical
  have e : real32 (firstRow H) = Finset.univ.fold min (real32 2147483647#32) fun r => real32 (Scalar.select (bit (H r)) (BitVec.ofNat 32 r.val) 512#32) :=
    (Finset.fold_hom real32_minsi).symm
  have hs : ∀ r : Fin 512, real32 (Scalar.select (bit (H r)) (BitVec.ofNat 32 r.val) 512#32) = Scalar.select (bit (H r)) ((r.val : ℝ) : EReal) ((512 : ℝ) : EReal) := fun r => by
    rw [bit_select, bit_select, ← real32_row]
    split
    · rfl
    · rw [real32_of (n := 512) (by decide)]; norm_num
  have h2 : ((512 : ℝ) : EReal) ≤ real32 2147483647#32 := by rw [real32_of (n := 2147483647) (by decide), EReal.coe_le_coe_iff]; norm_num
  simp only [hs] at e
  intro v
  rw [← isLo_fold H v, e, Finset.le_fold_min, Finset.le_fold_min]
  refine ⟨fun h => ⟨le_top, h.2⟩, fun h => ⟨?_, h.2⟩⟩
  exact (((isLo_fold H v).mp ((Finset.le_fold_min _).mpr h)).1).trans h2

theorem isHi_last (H : Fin 512 → Prop) : IsHi H (real32 (lastRow H)) := by
  classical
  have e : real32 (lastRow H) = Finset.univ.fold max (real32 2147483648#32) fun r => real32 (Scalar.select (bit (H r)) (BitVec.ofNat 32 r.val) 4294967295#32) :=
    (Finset.fold_hom real32_maxsi).symm
  have hs : ∀ r : Fin 512, real32 (Scalar.select (bit (H r)) (BitVec.ofNat 32 r.val) 4294967295#32) = Scalar.select (bit (H r)) ((r.val : ℝ) : EReal) ((-1 : ℝ) : EReal) := fun r => by
    rw [bit_select, bit_select, ← real32_row]
    split
    · rfl
    · rw [real32_of (n := -1) (by decide)]; norm_num
  have h2 : real32 2147483648#32 ≤ ((-1 : ℝ) : EReal) := by rw [real32_of (n := -2147483648) (by decide), EReal.coe_le_coe_iff]; norm_num
  simp only [hs] at e
  intro v
  rw [← isHi_fold H v, e, Finset.fold_max_le, Finset.fold_max_le]
  refine ⟨fun h => ⟨bot_le, h.2⟩, fun h => ⟨?_, h.2⟩⟩
  exact h2.trans ((isHi_fold H v).mp ((Finset.fold_max_le _).mpr h)).1

/-- The difference of the two, zero where no row holds the class. -/
theorem rows_height (H : Fin 512 → Prop) :
    real32 (Scalar.select (bit (∃ r, H r)) (lastRow H) 0#32) - real32 (Scalar.select (bit (∃ r, H r)) (firstRow H) 0#32)
      = height (real32 (firstRow H)) (real32 (lastRow H)) := by
  classical
  rw [height_eq (isHi_last H), bit_select, bit_select]
  split
  · rfl
  · rw [real32_of (n := 0) (by decide)]; norm_num

end Cert.Proof.Val

end
-- ==== Proof.ScValue.lean ====
/-
  The SparseCore kernel's accumulators over the extended reals.
-/
module

public import proofs.«01_k».proof.Proof.ScBody
public import proofs.«01_k».proof.Proof.TcValue

@[expose] public section

noncomputable section

namespace Cert.Proof.Val

open Cert.KernelIdeal Cert.KernelIdeal.Gen
open Idealize.ShloMosaic

/-! ## Whether a lane is set -/

open Classical in
/-- A set lane's word, its sign bit turned, and an unset lane's. -/
def enc (p : Prop) : BitVec 32 := if p then 0x80000001#32 else 0x80000000#32

theorem enc_max (p q : Prop) : IntOp.maxui (enc p) (enc q) = enc (p ∨ q) := by
  unfold enc; by_cases hp : p <;> by_cases hq : q <;> simp [hp, hq, IntOp.maxui]

theorem enc_foldl {ι : Type} (p : ι → Prop) (l : List ι) (p0 : Prop) :
    l.foldl (fun r k => IntOp.maxui r (enc (p k))) (enc p0) = enc (p0 ∨ ∃ k ∈ l, p k) := by
  induction l generalizing p0 with
  | nil => simp
  | cons a l ih =>
    rw [List.foldl_cons, enc_max, ih]
    congr 1; simp [or_assoc]

theorem lane_ix (k : Fin 16) : (Shape.ofLane (d := ![16]) k : S16.Idx) = ix1 k := by
  funext a; apply Fin.ext
  fin_cases a; rfl

theorem scan_enc {v : IVec S16 32} {p : Fin 16 → Prop} (hv : ∀ k, v (ix1 k) = enc (p k)) : scan .max v (ix1 15) = enc (∃ l, p l) := by
  have hw : (fun k : Fin 16 => v (Shape.ofLane (d := ![16]) k)) = fun k => enc (p k) := funext fun k => (congrArg v (lane_ix k)).trans (hv k)
  have e : ∀ w : Fin 16 → BitVec 32, (fun k : Fin 16 => v (Shape.ofLane (d := ![16]) k)) = w →
      scan .max v (ix1 15) = ((List.finRange 16).filter fun k : Fin 16 => decide (0 < k.val ∧ k.val ≤ 15)).foldl
        (fun r k => IntOp.maxui r (w k)) (w 0) := by rintro _ rfl; rfl
  rw [e _ hw]
  rw [enc_foldl]
  congr 1
  rw [eq_iff_iff]
  constructor
  · rintro (h | ⟨k, _, h⟩)
    exacts [⟨_, h⟩, ⟨k, h⟩]
  · rintro ⟨k, h⟩
    by_cases hk : k.val = 0
    · left; exact (Fin.ext hk : k = 0) ▸ h
    · right
      refine ⟨k, ?_, h⟩
      simp only [List.mem_filter, List.mem_finRange, true_and, decide_eq_true_eq]
      have := k.isLt
      exact ⟨Nat.pos_of_ne_zero hk, by omega⟩

theorem anyLane_bit {v : IVec S16 1} {p : Fin 16 → Prop} (hv : ∀ l, v (ix1 l) = bit (p l)) : Mask.anyLane v = bit (∃ l, p l) := by
  have hx : ∀ k : Fin 16, xori (select v (broadcast S16 1#32) (broadcast S16 0#32)) (broadcast S16 2147483648#32) (ix1 k) = enc (p k) := by
    intro k
    show IntOp.xori (Scalar.select (v (ix1 k)) 1#32 0#32) 2147483648#32 = _
    classical
    rw [hv, bit_select]; unfold enc
    by_cases h : p k <;> simp [h, IntOp.xori]
  have e : Mask.anyLane v = Scalar.cmpi .sgt (IntOp.xori (scan .max (xori (select v (broadcast S16 1#32) (broadcast S16 0#32)) (broadcast S16 2147483648#32)) (ix1 15)) 2147483648#32) 0#32 := by
    unfold Mask.anyLane
    pointwise
  rw [e, scan_enc hx]
  unfold enc bit
  by_cases h : ∃ l, p l
  · simp only [if_pos h, h]; decide
  · simp only [if_neg h, h]; decide

/-! ## A group of lanes -/

section Group

variable {x0 x1 x2 : Vec Ideal S1x1x1x16 .f32} {l : Fin 16} {s : Fin 3 → ℝ}
  (h0 : x0 (ix4 0 0 0 l) = ((s 0 : ℝ) : EReal)) (h1 : x1 (ix4 0 0 0 l) = ((s 1 : ℝ) : EReal)) (h2 : x2 (ix4 0 0 0 l) = ((s 2 : ℝ) : EReal))
include h0 h1 h2

theorem grp_sum1 (g : FVec Ideal S16 .f32) : k1_pay9 (F := Ideal) g x0 x1 x2 (ix1 l) = g (ix1 l) + ((soft s 1 : ℝ) : EReal) := by
  pointwise [k1_pay9, k1_pay8, k1_pay7, k1_pay6, k1_pay5, k1_pay4, k1_pay3]
  rw [h0, h1, h2, kernel_soft s 1]

theorem grp_sum2 (g : FVec Ideal S16 .f32) : k1_pay10 (F := Ideal) g x0 x1 x2 (ix1 l) = g (ix1 l) + ((soft s 2 : ℝ) : EReal) := by
  pointwise [k1_pay10, k1_pay8, k1_pay7, k1_pay6, k1_pay5, k1_pay4, k1_pay3]
  rw [h0, h1, h2, kernel_soft s 2]

theorem grp_one (g : IVec S16 1) : k1_pay11 (F := Ideal) g x0 x1 x2 (ix1 l) = IntOp.ori (g (ix1 l)) (bit (isOne s)) := by
  pointwise [k1_pay11, k1_pay5, k1_pay4, k1_pay3]
  rw [h0, h1, h2]
  simp only [ofBool_bit, andi_bit]
  rw [bit_iff (kernel_one s)]

theorem grp_two (g : IVec S16 1) : k1_pay12 (F := Ideal) g x0 x1 x2 (ix1 l) = IntOp.ori (g (ix1 l)) (bit (isTwo s)) := by
  pointwise [k1_pay12, k1_pay5, k1_pay4, k1_pay3]
  rw [h0, h1, h2]
  simp only [ofBool_bit, andi_bit]
  rw [bit_iff (kernel_two s)]

end Group

/-- Row and column by number. -/
abbrev at512 (n : ℕ) : Fin 512 := ⟨n % 512, Nat.mod_lt _ (by decide)⟩

section Tile

variable {x : Vec Ideal S16x3x512x512 .f32} {X : Fin 16 → Img} (hx : ∀ b k r c, x (Mask.ix4 b k r c) = ((X b k r c : ℝ) : EReal))
include hx

/-- What the first `n` groups of a row add. -/
theorem grp_inv (b : Fin 16) (row : Fin 512) (s1 s2 : FVec Ideal S16 .f32) (n : ℕ) (l : Fin 16) :
    (Mask.grpRun x b row (s1, s2, k1_pay2, k1_pay2) n).1 (ix1 l) = s1 (ix1 l) + ∑ u ∈ Finset.range n, ((soft (px (X b) row (at512 (16 * u + l.val))) 1 : ℝ) : EReal)
    ∧ (Mask.grpRun x b row (s1, s2, k1_pay2, k1_pay2) n).2.1 (ix1 l) = s2 (ix1 l) + ∑ u ∈ Finset.range n, ((soft (px (X b) row (at512 (16 * u + l.val))) 2 : ℝ) : EReal)
    ∧ (Mask.grpRun x b row (s1, s2, k1_pay2, k1_pay2) n).2.2.1 (ix1 l) = bit (∃ u < n, isOne (px (X b) row (at512 (16 * u + l.val))))
    ∧ (Mask.grpRun x b row (s1, s2, k1_pay2, k1_pay2) n).2.2.2 (ix1 l) = bit (∃ u < n, isTwo (px (X b) row (at512 (16 * u + l.val)))) := by
  induction n with
  | zero =>
    have e : k1_pay2 (ix1 l) = bit False := by unfold bit; simp; rfl
    simp [Mask.grpRun, e]
  | succ n ih =>
    obtain ⟨i1, i2, i3, i4⟩ := ih
    have hl : ∀ k, Mask.lanes x b k row n (ix4 0 0 0 l) = ((px (X b) row (at512 (16 * n + l.val)) k : ℝ) : EReal) := fun k => hx _ _ _ _
    simp only [Mask.grpRun, Mask.grpStep]
    rw [grp_sum1 (hl 0) (hl 1) (hl 2), grp_sum2 (hl 0) (hl 1) (hl 2), grp_one (hl 0) (hl 1) (hl 2), grp_two (hl 0) (hl 1) (hl 2), i1, i2, i3, i4,
      Finset.sum_range_succ, Finset.sum_range_succ, add_assoc, add_assoc, ori_bit, ori_bit]
    refine ⟨rfl, rfl, bit_iff ?_, bit_iff ?_⟩ <;>
    · simp only [Nat.lt_succ_iff_lt_or_eq, or_and_right, exists_or, exists_eq_left]

omit hx in
theorem toInt_small {n : ℕ} (h : n < 1024) : (BitVec.ofNat 32 n).toInt = (n : ℤ) := by
  rw [BitVec.toInt_ofNat']; simp only [Int.bmod]; omega

omit hx in
/-- The number of a row, as the kernel computes it. -/
theorem rowNum_eq (i : grid1.Coords) (r : Fin 4) {n : ℕ} (h : n < 16) :
    Mask.rowNum (F := Ideal) (Mask.row0 i) (BitVec.ofNat 32 (16 * r.val)) (Mask.tripOf n) = (((Mask.tRow i + (16 * r.val + n) : ℕ) : ℝ) : EReal) := by
  have hr := Mask.tRow_lt i
  have h4 := r.isLt
  have e : Scalar.addi (Scalar.addi (Mask.row0 i) (BitVec.ofNat 32 (16 * r.val))) (Scf.iv 0#32 1#32 (Mask.tripOf n)) = BitVec.ofNat 32 (Mask.tRow i + (16 * r.val + n)) := by
    have hn : (Mask.tripOf n).val = n := Nat.mod_eq_of_lt h
    rw [Mask.row0_eq]
    unfold Scf.iv Scalar.addi IntOp.addi
    rw [hn]
    apply BitVec.eq_of_toNat_eq
    simp
    omega
  unfold Mask.rowNum
  rw [e]
  show (((((BitVec.ofNat 32 (Mask.tRow i + (16 * r.val + n))).toInt : ℤ) : ℝ)) : EReal) = _
  rw [toInt_small (by omega), Int.cast_natCast]

/-- The accumulators after the first `N` rows from row `a` on. -/
structure RowsDone (Y : Img) (a N : ℕ) (v : Mask.Acc Ideal) : Prop where
  sum1 : ∀ l : Fin 16, v.1 (ix1 l) = ∑ m ∈ Finset.range N, ∑ u ∈ Finset.range 32, ((soft (px Y (at512 (a + m)) (at512 (16 * u + l.val))) 1 : ℝ) : EReal)
  sum2 : ∀ l : Fin 16, v.2.1 (ix1 l) = ∑ m ∈ Finset.range N, ∑ u ∈ Finset.range 32, ((soft (px Y (at512 (a + m)) (at512 (16 * u + l.val))) 2 : ℝ) : EReal)
  lo1 : ∀ e : EReal, e ≤ v.2.2.1 ↔ e ≤ ((512 : ℝ) : EReal) ∧ ∀ m < N, rowsOne Y (at512 (a + m)) → e ≤ (((a + m : ℕ) : ℝ) : EReal)
  hi1 : ∀ e : EReal, v.2.2.2.1 ≤ e ↔ ((-1 : ℝ) : EReal) ≤ e ∧ ∀ m < N, rowsOne Y (at512 (a + m)) → (((a + m : ℕ) : ℝ) : EReal) ≤ e
  lo2 : ∀ e : EReal, e ≤ v.2.2.2.2.1 ↔ e ≤ ((512 : ℝ) : EReal) ∧ ∀ m < N, rowsTwo Y (at512 (a + m)) → e ≤ (((a + m : ℕ) : ℝ) : EReal)
  hi2 : ∀ e : EReal, v.2.2.2.2.2 ≤ e ↔ ((-1 : ℝ) : EReal) ≤ e ∧ ∀ m < N, rowsTwo Y (at512 (a + m)) → (((a + m : ℕ) : ℝ) : EReal) ≤ e

omit hx in
theorem rows_zero (Y : Img) (a : ℕ) : RowsDone Y a 0 (Mask.acc0 (F := Ideal)) where
  sum1 l := by show Ideal.ofBits FTy.f32 0#32 = _; simp [Ideal.ofBits_zero_f32]
  sum2 l := by show Ideal.ofBits FTy.f32 0#32 = _; simp [Ideal.ofBits_zero_f32]
  lo1 e := by show e ≤ Ideal.ofBits FTy.f32 0x44000000#32 ↔ _; simp [bits_512]
  hi1 e := by show Ideal.ofBits FTy.f32 0xBF800000#32 ≤ e ↔ _; simp [bits_neg_one]
  lo2 e := by show e ≤ Ideal.ofBits FTy.f32 0x44000000#32 ↔ _; simp [bits_512]
  hi2 e := by show Ideal.ofBits FTy.f32 0xBF800000#32 ≤ e ↔ _; simp [bits_neg_one]

omit hx in
theorem forall_lt_succ {N : ℕ} {P : ℕ → Prop} : (∀ m < N + 1, P m) ↔ (∀ m < N, P m) ∧ P N := by
  constructor
  · exact fun h => ⟨fun m hm => h m (by omega), h N (by omega)⟩
  · rintro ⟨h, h'⟩ m hm
    rcases Nat.lt_succ_iff_lt_or_eq.1 hm with h1 | rfl
    exacts [h m h1, h']

omit hx in
/-- One more row for the lowest: the minimum with the row's number if the row has the label. -/
theorem low_step {H : ℕ → Prop} {a N : ℕ} {v : EReal} {q : Prop} (hq : q ↔ H N)
    (h : ∀ e : EReal, e ≤ v ↔ e ≤ ((512 : ℝ) : EReal) ∧ ∀ m < N, H m → e ≤ (((a + m : ℕ) : ℝ) : EReal)) (e : EReal) :
    e ≤ Scalar.select (bit q) (min v (((a + N : ℕ) : ℝ) : EReal)) v ↔ e ≤ ((512 : ℝ) : EReal) ∧ ∀ m < N + 1, H m → e ≤ (((a + m : ℕ) : ℝ) : EReal) := by
  classical
  rw [bit_select, forall_lt_succ, ← and_assoc, ← h e]
  by_cases hN : q
  · rw [if_pos hN, le_min_iff]; simp only [hq.1 hN, true_imp_iff]
  · rw [if_neg hN]; simp [mt hq.2 hN]

omit hx in
/-- One more row for the highest: the row's number if the row has the label, for it is above all before it. -/
theorem high_step {H : ℕ → Prop} {a N : ℕ} {v : EReal} {q : Prop} (hq : q ↔ H N)
    (h : ∀ e : EReal, v ≤ e ↔ ((-1 : ℝ) : EReal) ≤ e ∧ ∀ m < N, H m → (((a + m : ℕ) : ℝ) : EReal) ≤ e) (e : EReal) :
    Scalar.select (bit q) (((a + N : ℕ) : ℝ) : EReal) v ≤ e ↔ ((-1 : ℝ) : EReal) ≤ e ∧ ∀ m < N + 1, H m → (((a + m : ℕ) : ℝ) : EReal) ≤ e := by
  classical
  rw [bit_select, forall_lt_succ, ← and_assoc, ← h e]
  by_cases hN : q
  · rw [if_pos hN]
    simp only [hq.1 hN, true_imp_iff]
    refine ⟨fun he => ⟨(h e).2 ⟨le_trans ?_ he, fun m hm _ => le_trans ?_ he⟩, he⟩, fun he => he.2⟩
    · rw [EReal.coe_le_coe_iff]; have : (0 : ℝ) ≤ ((a + N : ℕ) : ℝ) := Nat.cast_nonneg _; linarith
    · rw [EReal.coe_le_coe_iff]; exact_mod_cast by omega
  · rw [if_neg hN]; simp [mt hq.2 hN]

omit hx in
/-- The columns are the lanes of the groups. -/
theorem exists_lane {P : Fin 512 → Prop} : (∃ l : Fin 16, ∃ u < 32, P (at512 (16 * u + l.val))) ↔ ∃ c, P c := by
  constructor
  · rintro ⟨l, u, _, h⟩; exact ⟨_, h⟩
  · rintro ⟨c, h⟩
    have hc := c.isLt
    refine ⟨⟨c.val % 16, Nat.mod_lt _ (by decide)⟩, c.val / 16, by omega, ?_⟩
    have e : at512 (16 * (c.val / 16) + c.val % 16) = c := Fin.ext (by show _ % 512 = _; omega)
    rw [e]; exact h

/-- One more row. -/
theorem rows_succ (i : grid1.Coords) (r : Fin 4) {n : ℕ} (hn : n < 16) {v : Mask.Acc Ideal}
    (h : RowsDone (X ⟨Mask.tImg i, Mask.tImg_lt i⟩) (Mask.tRow i) (16 * r.val + n) v) :
    RowsDone (X ⟨Mask.tImg i, Mask.tImg_lt i⟩) (Mask.tRow i) (16 * r.val + n + 1)
      (Mask.rowStep (Mask.row0 i) (BitVec.ofNat 32 (16 * r.val)) (Mask.tripOf n) v
        (Mask.grpRun x ⟨Mask.tImg i, Mask.tImg_lt i⟩ (Mask.tileRow i r n) (v.1, v.2.1, k1_pay2, k1_pay2) 32)) := by
  have hg := grp_inv hx ⟨Mask.tImg i, Mask.tImg_lt i⟩ (Mask.tileRow i r n) v.1 v.2.1 32
  have hrow : Mask.tileRow i r n = at512 (Mask.tRow i + (16 * r.val + n)) := Fin.ext (by show _ % 512 = _ % 512; rw [Nat.add_assoc])
  rw [hrow] at hg ⊢
  generalize Mask.grpRun x ⟨Mask.tImg i, Mask.tImg_lt i⟩ (at512 (Mask.tRow i + (16 * r.val + n))) (v.1, v.2.1, k1_pay2, k1_pay2) 32 = g at hg ⊢
  have a1 := anyLane_bit fun l => (hg l).2.2.1
  have a2 := anyLane_bit fun l => (hg l).2.2.2
  refine ⟨fun l => ?_, fun l => ?_, fun e => ?_, fun e => ?_, fun e => ?_, fun e => ?_⟩
  · rw [Finset.sum_range_succ, ← h.sum1 l]; exact (hg l).1
  · rw [Finset.sum_range_succ, ← h.sum2 l]; exact (hg l).2.1
  · show e ≤ Scalar.select (Mask.anyLane g.2.2.1) (min v.2.2.1 (Mask.rowNum (F := Ideal) _ _ _)) v.2.2.1 ↔ _
    rw [a1, rowNum_eq i r hn]
    exact low_step (H := fun m => rowsOne _ (at512 (Mask.tRow i + m))) exists_lane h.lo1 e
  · show Scalar.select (Mask.anyLane g.2.2.1) (Mask.rowNum (F := Ideal) _ _ _) v.2.2.2.1 ≤ e ↔ _
    rw [a1, rowNum_eq i r hn]
    exact high_step (H := fun m => rowsOne _ (at512 (Mask.tRow i + m))) exists_lane h.hi1 e
  · show e ≤ Scalar.select (Mask.anyLane g.2.2.2) (min v.2.2.2.2.1 (Mask.rowNum (F := Ideal) _ _ _)) v.2.2.2.2.1 ↔ _
    rw [a2, rowNum_eq i r hn]
    exact low_step (H := fun m => rowsTwo _ (at512 (Mask.tRow i + m))) exists_lane h.lo2 e
  · show Scalar.select (Mask.anyLane g.2.2.2) (Mask.rowNum (F := Ideal) _ _ _) v.2.2.2.2.2 ≤ e ↔ _
    rw [a2, rowNum_eq i r hn]
    exact high_step (H := fun m => rowsTwo _ (at512 (Mask.tRow i + m))) exists_lane h.hi2 e

theorem rows_run (i : grid1.Coords) (r : Fin 4) {v : Mask.Acc Ideal}
    (h : RowsDone (X ⟨Mask.tImg i, Mask.tImg_lt i⟩) (Mask.tRow i) (16 * r.val) v) (n : ℕ) (hn : n ≤ 16) :
    RowsDone (X ⟨Mask.tImg i, Mask.tImg_lt i⟩) (Mask.tRow i) (16 * r.val + n) (Mask.rowRun x i r v n) := by
  induction n with
  | zero => exact h
  | succ n ih => exact rows_succ hx i r (by omega) (ih (by omega))

/-- The tile's accumulators at the end. -/
theorem tile_done (i : grid1.Coords) : RowsDone (X ⟨Mask.tImg i, Mask.tImg_lt i⟩) (Mask.tRow i) 64 (Mask.tileRun x i) :=
  rows_run hx i 3 (rows_run hx i 2 (rows_run hx i 1 (rows_run hx i 0 (rows_zero _ _) 16 le_rfl) 16 le_rfl) 16 le_rfl) 16 le_rfl

end Tile

/-! ## The tile's row of the output -/

theorem sum16 (v : FVec Ideal S16 .f32) : k1_pay66 (F := Ideal) v = ∑ l : Fin 16, v (ix1 l) := by
  simp only [Fin.sum_univ_castSucc, Fin.sum_univ_zero, zero_add]
  pointwise [k1_pay66]
  rfl

theorem acc_lanes (a : Mask.Acc Ideal) :
    Mask.accPay a (ix1 0) = a.2.2.1 ∧ Mask.accPay a (ix1 1) = a.2.2.2.1 ∧ Mask.accPay a (ix1 2) = a.2.2.2.2.1 ∧ Mask.accPay a (ix1 3) = a.2.2.2.2.2
      ∧ Mask.accPay a (ix1 4) = (∑ l : Fin 16, a.1 (ix1 l)) ∧ Mask.accPay a (ix1 5) = ∑ l : Fin 16, a.2.1 (ix1 l) := by
  rw [← sum16, ← sum16]
  unfold Mask.accPay
  generalize k1_pay66 (F := Ideal) a.1 = s
  refine ⟨?_, ?_, ?_, ?_, ?_, ?_⟩ <;> pointwise [k1_pay67, k1_pay66, k1_pay65, k1_pay64, k1_pay63, k1_pay1] <;> simp only [pick] <;>
    simp (decide := true) only [if_true, if_false]

end Cert.Proof.Val

end
-- ==== Proof.KernelValue.lean ====
/-
  The kernel's result over the extended reals: for each image the heights from its bounds, and its totals.
-/
module

public import proofs.«01_k».proof.Proof.Main
public import proofs.«01_k».proof.Proof.ScValue
public import Idealize.ShloMosaic.Lib.StableHlo.ReadAt
public import Idealize.ShloMosaic.Lib.Pipeline.Frame

@[expose] public section

noncomputable section

namespace Cert.Proof.Val

open Cert.KernelIdeal Cert.KernelIdeal.Gen
open Idealize.ShloMosaic

/-! ## What the host reads -/

/-- A column of the two kernels' outputs put together: the image's own lane, or something of its eight tiles' lanes. -/
def joined (f : (Fin 8 → EReal) → EReal) (t : Fin 12 → EReal) (s : Fin 32 → EReal) (b : Fin 16) : EReal :=
  if h : b.val < 12 then t ⟨b.val, h⟩ else f fun w => s ⟨(b.val - 12) * 8 + w.val, by omega⟩

section Reads

variable (V : Valuation τ sig (Elt Ideal)) (b : Fin 16)

/-- The lanes of the two kernels' outputs. -/
abbrev tcLane (l : Fin 128) : Fin 12 → EReal := fun a => V (Proc.devRef .tc main_v1) (ix2 a l)
abbrev scLane (l : Fin 16) : Fin 32 → EReal := fun a => V (Proc.devRef .tc main_v2) (ix2 a l)

abbrev minOf (g : Fin 8 → EReal) : EReal := Finset.univ.fold min ⊤ g
abbrev maxOf (g : Fin 8 → EReal) : EReal := Finset.univ.fold max ⊥ g
abbrev sumOf (g : Fin 8 → EReal) : EReal := ∑ w, g w

set_option maxRecDepth 100000 in
theorem low_reads :
    StableHlo.after (Mask.hostLow (F := Ideal)) V (Proc.devRef .tc main_v9) (ix1 b) = joined minOf (tcLane V 0) (scLane V 0) b
    ∧ StableHlo.after (Mask.hostLow (F := Ideal)) V (Proc.devRef .tc main_v15) (ix1 b) = joined maxOf (tcLane V 1) (scLane V 1) b
    ∧ StableHlo.after (Mask.hostLow (F := Ideal)) V (Proc.devRef .tc main_v21) (ix1 b) = joined minOf (tcLane V 2) (scLane V 2) b
    ∧ StableHlo.after (Mask.hostLow (F := Ideal)) V (Proc.devRef .tc main_v27) (ix1 b) = joined maxOf (tcLane V 3) (scLane V 3) b
    ∧ StableHlo.after (Mask.hostLow (F := Ideal)) V (Proc.devRef .tc main_v33) (ix1 b) = joined sumOf (tcLane V 4) (scLane V 4) b
    ∧ StableHlo.after (Mask.hostLow (F := Ideal)) V (Proc.devRef .tc main_v39) (ix1 b) = joined sumOf (tcLane V 5) (scLane V 5) b := by
  unfold joined minOf maxOf sumOf tcLane scLane
  refine ⟨?_, ?_, ?_, ?_, ?_, ?_⟩ <;> unfold Mask.hostLow <;> after_reads_at <;> simp only [bits_top, bits_bot]

/-- A total times 2⁻¹⁸. -/
def scaled (s : EReal) : EReal := s * Ideal.ofBits FTy.f32 914358272#32

/-- The ratio of two heights, the second moved off zero. -/
def ratio (l1 h1 l2 h2 : EReal) : EReal := Ideal.div (height l1 h1) (height l2 h2 + Ideal.ofBits FTy.f32 897988541#32)

set_option maxRecDepth 100000 in
theorem tail_ratio : StableHlo.after (Mask.hostTail (F := Ideal)) V (Proc.devRef .tc main_v60) (ix2 b 0)
    = ratio (V (Proc.devRef .tc main_v9) (ix1 b)) (V (Proc.devRef .tc main_v15) (ix1 b)) (V (Proc.devRef .tc main_v21) (ix1 b)) (V (Proc.devRef .tc main_v27) (ix1 b)) := by
  unfold Mask.hostTail
  after_reads_at
  after_reads_at
  unfold ratio height
  pointwise
  have z : id (constant (F := Ideal) S_ FTy.f32 0#32) ix0 = (0 : EReal) := Ideal.ofBits_zero_f32
  simp only [z]

set_option maxRecDepth 100000 in
theorem tail_means :
    StableHlo.after (Mask.hostTail (F := Ideal)) V (Proc.devRef .tc main_v60) (ix2 b 1) = scaled (V (Proc.devRef .tc main_v39) (ix1 b))
    ∧ StableHlo.after (Mask.hostTail (F := Ideal)) V (Proc.devRef .tc main_v60) (ix2 b 2) = scaled (V (Proc.devRef .tc main_v33) (ix1 b))
    ∧ StableHlo.after (Mask.hostTail (F := Ideal)) V (Proc.devRef .tc main_v60) (ix2 b 3) = scaled (V (Proc.devRef .tc main_v39) (ix1 b))
    ∧ StableHlo.after (Mask.hostTail (F := Ideal)) V (Proc.devRef .tc main_v60) (ix2 b 4) = scaled (V (Proc.devRef .tc main_v33) (ix1 b)) := by
  unfold scaled
  refine ⟨?_, ?_, ?_, ?_⟩ <;> unfold Mask.hostTail <;> after_reads_at <;> after_reads_at

end Reads

/-! ## What the two kernels left -/

theorem ix3_same {A B C : ℕ} (a : Fin A) (b : Fin B) (c : Fin C) : (Mask.ix3 a b c : (⟨3, ![A, B, C]⟩ : Shape).Idx) = ix3 a b c := by
  funext k; fin_cases k <;> rfl

variable (m : (ℓ : Loc nD τ sig) → Buf (Elt Ideal) ℓ) (d : Dev nD)

theorem tc_left (a : Fin 12) (l : Fin 128) : Mask.V₃ m d (Proc.devRef .tc main_v1) (ix2 a l)
    = Mask.imgPay (F := Ideal) (Mask.imgOf (Mask.imgsAt m d) ⟨a.val, by omega⟩) (ix3 0 0 l) := by
  have e1 : Mask.V₃ m d (Proc.devRef .tc main_v1) = StableHlo.after [Mask.opFirst (F := Ideal)] (Mask.V₁ m d) (Proc.devRef .tc main_v1) :=
    Function.update_of_ne (by decide) _ _
  have e2 : Mask.V₁ m d (Proc.devRef .tc main_v0) = Mask.tcOut (Mask.imgsAt m d) := Function.update_self _ _ _
  rw [e1]
  have e3 : StableHlo.after [Mask.opFirst (F := Ideal)] (Mask.V₁ m d) (Proc.devRef .tc main_v1) (ix2 a l) = Mask.V₁ m d (Proc.devRef .tc main_v0) (ix3 a 0 l) := by
    unfold Mask.opFirst
    after_reads_at
  rw [e3, e2, ← ix3_same (0 : Fin 1) (0 : Fin 1) l]
  rfl

theorem sc_left (t : Fin 32) (l : Fin 16) : Mask.V₃ m d (Proc.devRef .tc main_v2) (ix2 t l)
    = Mask.accPay (F := Ideal) (Mask.tileRun (Mask.imgsAt m d) (Mask.mkCoords ⟨t.val / 16, by omega⟩ ⟨t.val % 16, by omega⟩)) (ix1 l) := by
  have e1 : Mask.V₃ m d (Proc.devRef .tc main_v2) = Mask.scOutV (Mask.imgsAt m d) := Function.update_self _ _ _
  rw [e1]
  show Mask.accPay (F := Ideal) (Mask.tileRun (Mask.imgsAt m d) (Mask.mkCoords ⟨t.val / 16, _⟩ ⟨t.val % 16, _⟩)) _ = _
  congr 1
  funext k; fin_cases k; rfl

/-! ## Eight tiles make an image -/

theorem lo_join {H : Fin 512 → Prop} {g : Fin 8 → EReal}
    (hg : ∀ w : Fin 8, ∀ e : EReal, e ≤ g w ↔ e ≤ ((512 : ℝ) : EReal) ∧ ∀ k < 64, H (at512 (64 * w.val + k)) → e ≤ (((64 * w.val + k : ℕ) : ℝ) : EReal)) :
    IsLo H (minOf g) := by
  intro e
  simp only [minOf, Finset.le_fold_min, le_top, true_and, Finset.mem_univ, forall_const]
  constructor
  · intro h
    refine ⟨((hg 0 e).1 (h 0)).1, fun r hr => ?_⟩
    have hl := r.isLt
    have e1 : 64 * (r.val / 64) + r.val % 64 = r.val := by omega
    have e2 : at512 r.val = r := Fin.ext (Nat.mod_eq_of_lt hl)
    have := ((hg ⟨r.val / 64, by omega⟩ e).1 (h _)).2 (r.val % 64) (by omega)
    rw [e1, e2] at this
    exact this hr
  · rintro ⟨h, h'⟩ w
    refine (hg w e).2 ⟨h, fun k hk hH => ?_⟩
    have := h' _ hH
    rwa [show (at512 (64 * w.val + k)).val = 64 * w.val + k from Nat.mod_eq_of_lt (by omega)] at this

theorem hi_join {H : Fin 512 → Prop} {g : Fin 8 → EReal}
    (hg : ∀ w : Fin 8, ∀ e : EReal, g w ≤ e ↔ ((-1 : ℝ) : EReal) ≤ e ∧ ∀ k < 64, H (at512 (64 * w.val + k)) → (((64 * w.val + k : ℕ) : ℝ) : EReal) ≤ e) :
    IsHi H (maxOf g) := by
  intro e
  simp only [maxOf, Finset.fold_max_le, bot_le, true_and, Finset.mem_univ, forall_const]
  constructor
  · intro h
    refine ⟨((hg 0 e).1 (h 0)).1, fun r hr => ?_⟩
    have hl := r.isLt
    have e1 : 64 * (r.val / 64) + r.val % 64 = r.val := by omega
    have e2 : at512 r.val = r := Fin.ext (Nat.mod_eq_of_lt hl)
    have := ((hg ⟨r.val / 64, by omega⟩ e).1 (h _)).2 (r.val % 64) (by omega)
    rw [e1, e2] at this
    exact this hr
  · rintro ⟨h, h'⟩ w
    refine (hg w e).2 ⟨h, fun k hk hH => ?_⟩
    have := h' _ hH
    rwa [show (at512 (64 * w.val + k)).val = 64 * w.val + k from Nat.mod_eq_of_lt (by omega)] at this

theorem sum_blocks (G : ℕ → EReal) (a b : ℕ) : (∑ u ∈ Finset.range a, ∑ l ∈ Finset.range b, G (b * u + l)) = ∑ n ∈ Finset.range (b * a), G n := by
  induction a with
  | zero => simp
  | succ a ih => rw [Finset.sum_range_succ, ih, Nat.mul_succ, Finset.sum_range_add]

theorem sum_at (g : Fin 512 → EReal) : (∑ n ∈ Finset.range 512, g (at512 n)) = ∑ r, g r := by
  rw [Finset.sum_range]
  exact Finset.sum_congr rfl fun r _ => congrArg g (Fin.ext (Nat.mod_eq_of_lt r.isLt))

theorem sum_join (f : Fin 512 → Fin 512 → EReal) :
    (∑ w : Fin 8, ∑ l : Fin 16, ∑ k ∈ Finset.range 64, ∑ u ∈ Finset.range 32, f (at512 (64 * w.val + k)) (at512 (16 * u + l.val))) = ∑ r, ∑ c, f r c := by
  have hc : ∀ r : Fin 512, (∑ l : Fin 16, ∑ u ∈ Finset.range 32, f r (at512 (16 * u + l.val))) = ∑ c, f r c := fun r => by
    rw [Finset.sum_comm, ← sum_at, ← sum_blocks (fun n => f r (at512 n)) 32 16]
    exact Finset.sum_congr rfl fun u _ => (Finset.sum_range fun l => f r (at512 (16 * u + l))).symm
  have hr : (∑ w : Fin 8, ∑ k ∈ Finset.range 64, ∑ c, f (at512 (64 * w.val + k)) c) = ∑ r, ∑ c, f r c := by
    rw [← sum_at fun r => ∑ c, f r c, ← sum_blocks (fun n => ∑ c, f (at512 n) c) 8 64]
    exact (Finset.sum_range fun w => ∑ k ∈ Finset.range 64, ∑ c, f (at512 (64 * w + k)) c).symm
  rw [← hr]
  refine Finset.sum_congr rfl fun w _ => ?_
  rw [Finset.sum_comm]
  exact Finset.sum_congr rfl fun k _ => hc _

/-! ## The result -/

section Result

variable {X : Fin 16 → Img} (hx : ∀ b k r c, Mask.imgsAt m d (Mask.ix4 b k r c) = ((X b k r c : ℝ) : EReal))
include hx

/-- What tile `w` of image `b` leaves. -/
theorem tile_left (b : Fin 16) (hb : ¬ b.val < 12) (w : Fin 8) :
    ∃ a : Mask.Acc Ideal, RowsDone (X b) (64 * w.val) 64 a ∧ ∀ l, scLane (Mask.V₃ m d) l ⟨(b.val - 12) * 8 + w.val, by omega⟩ = Mask.accPay a (ix1 l) := by
  refine ⟨_, ?_, fun l => sc_left m d _ l⟩
  have h := tile_done hx (Mask.mkCoords ⟨((b.val - 12) * 8 + w.val) / 16, by omega⟩ ⟨((b.val - 12) * 8 + w.val) % 16, by omega⟩)
  have hn : Mask.tNum (Mask.mkCoords ⟨((b.val - 12) * 8 + w.val) / 16, by omega⟩ ⟨((b.val - 12) * 8 + w.val) % 16, by omega⟩) = (b.val - 12) * 8 + w.val := by
    show 16 * (((b.val - 12) * 8 + w.val) / 16) + ((b.val - 12) * 8 + w.val) % 16 = _
    omega
  generalize Mask.mkCoords ⟨((b.val - 12) * 8 + w.val) / 16, by omega⟩ ⟨((b.val - 12) * 8 + w.val) % 16, by omega⟩ = i at h hn ⊢
  have e1 : (⟨Mask.tImg i, Mask.tImg_lt i⟩ : Fin 16) = b := Fin.ext (by show Mask.tImg i = b.val; unfold Mask.tImg; omega)
  have e2 : Mask.tRow i = 64 * w.val := by unfold Mask.tRow; omega
  rwa [e1, e2] at h

/-- Image `b`'s bounds and totals, as the host has them. -/
theorem image_bounds (b : Fin 16) :
    IsLo (rowsOne (X b)) (joined minOf (tcLane (Mask.V₃ m d) 0) (scLane (Mask.V₃ m d) 0) b)
    ∧ IsHi (rowsOne (X b)) (joined maxOf (tcLane (Mask.V₃ m d) 1) (scLane (Mask.V₃ m d) 1) b)
    ∧ IsLo (rowsTwo (X b)) (joined minOf (tcLane (Mask.V₃ m d) 2) (scLane (Mask.V₃ m d) 2) b)
    ∧ IsHi (rowsTwo (X b)) (joined maxOf (tcLane (Mask.V₃ m d) 3) (scLane (Mask.V₃ m d) 3) b)
    ∧ joined sumOf (tcLane (Mask.V₃ m d) 4) (scLane (Mask.V₃ m d) 4) b = total (X b) 1
    ∧ joined sumOf (tcLane (Mask.V₃ m d) 5) (scLane (Mask.V₃ m d) 5) b = total (X b) 2 := by
  unfold joined
  by_cases hb : b.val < 12
  · have ht : ∀ l, tcLane (Mask.V₃ m d) l ⟨b.val, hb⟩
        = Mask.imgPay (F := Ideal) (Mask.imgOf (Mask.imgsAt m d) b) (ix3 0 0 l) :=
      fun l => tc_left m d ⟨b.val, hb⟩ l
    simp only [dif_pos hb]
    rw [ht, ht, ht, ht, ht, ht]
    have hi : ∀ k r c, Mask.imgOf (Mask.imgsAt m d) b (ix4 0 k r c) = ((X b k r c : ℝ) : EReal) := fun k r c => hx b k r c
    exact image_row hi
  · simp only [dif_neg hb]
    choose a ha hl using tile_left m d hx b hb
    simp only [hl, (acc_lanes _).1, (acc_lanes _).2.1, (acc_lanes _).2.2.1, (acc_lanes _).2.2.2.1, (acc_lanes _).2.2.2.2.1, (acc_lanes _).2.2.2.2.2]
    refine ⟨lo_join fun w => (ha w).lo1, hi_join fun w => (ha w).hi1, lo_join fun w => (ha w).lo2, hi_join fun w => (ha w).hi2, ?_, ?_⟩
    · exact (Finset.sum_congr rfl fun w _ => Finset.sum_congr rfl fun l _ => (ha w).sum1 l).trans (sum_join fun r c => ((soft (px (X b) r c) 1 : ℝ) : EReal))
    · exact (Finset.sum_congr rfl fun w _ => Finset.sum_congr rfl fun l _ => (ha w).sum2 l).trans (sum_join fun r c => ((soft (px (X b) r c) 2 : ℝ) : EReal))

/-- The result's row of image `b`. -/
theorem kernel_value (b : Fin 16) : ∃ l1 h1 l2 h2 : EReal,
    (IsLo (rowsOne (X b)) l1 ∧ IsHi (rowsOne (X b)) h1 ∧ IsLo (rowsTwo (X b)) l2 ∧ IsHi (rowsTwo (X b)) h2)
    ∧ Mask.finalVal m d (ix2 b 0) = ratio l1 h1 l2 h2
    ∧ Mask.finalVal m d (ix2 b 1) = scaled (total (X b) 2) ∧ Mask.finalVal m d (ix2 b 2) = scaled (total (X b) 1)
    ∧ Mask.finalVal m d (ix2 b 3) = scaled (total (X b) 2) ∧ Mask.finalVal m d (ix2 b 4) = scaled (total (X b) 1) := by
  obtain ⟨b1, b2, b3, b4, s1, s2⟩ := image_bounds m d hx b
  obtain ⟨r1, r2, r3, r4, r5, r6⟩ := low_reads (Mask.V₃ m d) b
  have hf : Mask.finalVal m d = StableHlo.after (Mask.hostTail (F := Ideal)) (StableHlo.after (Mask.hostLow (F := Ideal)) (Mask.V₃ m d)) (Proc.devRef .tc main_v60) := by
    unfold Mask.finalVal Mask.hostOps
    rw [StableHlo.after_append]
  refine ⟨_, _, _, _, ⟨b1, b2, b3, b4⟩, ?_⟩
  rw [hf, tail_ratio, (tail_means _ _).1, (tail_means _ _).2.1, (tail_means _ _).2.2.1, (tail_means _ _).2.2.2, r1, r2, r3, r4, r5, r6, s1, s2]
  exact ⟨rfl, rfl, rfl, rfl, rfl⟩

end Result

end Cert.Proof.Val

end
-- ==== Proof.RefValue.lean ====
/-
  The reference's result at an index.
-/
module

public import proofs.«01_k».proof.Proof.RefOps
public import proofs.«01_k».proof.Proof.Label
public import proofs.«01_k».proof.Proof.KernelValue
public import Idealize.ShloMosaic.Lib.Pointwise
public import Idealize.ShloMosaic.Lib.StableHlo.ReadAt
public import Idealize.ShloMosaic.Lib.Pipeline.Frame

@[expose] public section
noncomputable section
namespace Cert.Proof.Val
open Cert.ReferenceIdeal Cert.ReferenceIdeal.Gen
open Idealize.ShloMosaic

variable (V : Valuation τ sig (Elt Ideal)) (b : Fin 16) (r c : Fin 512)

set_option maxRecDepth 100000 in
theorem cup_has : StableHlo.after Ref.cupHas V (Proc.devRef .tc main_v3) (ix2 b r)
      = Finset.univ.fold IntOp.ori (0#1) (fun c : Fin 512 => IntOp.cmpi .eq (V (Proc.devRef .tc main_v0) (ix3 b r c)) 1#32)
    ∧ StableHlo.after Ref.cupHas V (Proc.devRef .tc main_v5) (ix2 0 r) = BitVec.ofNat 32 r.val := by
  constructor <;> unfold Ref.cupHas <;> after_reads_at
set_option maxRecDepth 100000 in
theorem disc_has : StableHlo.after Ref.discHas V (Proc.devRef .tc main_v19) (ix2 b r)
      = Finset.univ.fold IntOp.ori (0#1) (fun c : Fin 512 => IntOp.cmpi .eq (V (Proc.devRef .tc main_v0) (ix3 b r c)) 2#32)
    ∧ StableHlo.after Ref.discHas V (Proc.devRef .tc main_v21) (ix2 0 r) = BitVec.ofNat 32 r.val := by
  constructor <;> unfold Ref.discHas <;> after_reads_at

theorem word_0 : (id (constantI S_ 32 0#32) ix0 : BitVec 32) = 0#32 := rfl

set_option maxRecDepth 100000 in
theorem cup_ends (H : Fin 512 → Prop) (h3 : ∀ r, V (Proc.devRef .tc main_v3) (ix2 b r) = bit (H r))
    (h5 : ∀ r : Fin 512, V (Proc.devRef .tc main_v5) (ix2 0 r) = BitVec.ofNat 32 r.val) :
    StableHlo.after Ref.cupEnds V (Proc.devRef .tc main_v7) (ix1 b) = firstRow H
    ∧ StableHlo.after Ref.cupEnds V (Proc.devRef .tc main_v9) (ix1 b) = lastRow H
    ∧ StableHlo.after Ref.cupEnds V (Proc.devRef .tc main_v10) (ix1 b) = bit (∃ r, H r) := by
  rw [← fold_ori_bit]
  unfold firstRow lastRow
  refine ⟨?_, ?_, ?_⟩ <;> unfold Ref.cupEnds <;> after_reads_at <;> simp only [h3, h5] <;> rfl
set_option maxRecDepth 100000 in
theorem disc_ends (H : Fin 512 → Prop) (h3 : ∀ r, V (Proc.devRef .tc main_v19) (ix2 b r) = bit (H r))
    (h5 : ∀ r : Fin 512, V (Proc.devRef .tc main_v21) (ix2 0 r) = BitVec.ofNat 32 r.val) :
    StableHlo.after Ref.discEnds V (Proc.devRef .tc main_v23) (ix1 b) = firstRow H
    ∧ StableHlo.after Ref.discEnds V (Proc.devRef .tc main_v25) (ix1 b) = lastRow H
    ∧ StableHlo.after Ref.discEnds V (Proc.devRef .tc main_v26) (ix1 b) = bit (∃ r, H r) := by
  rw [← fold_ori_bit]
  unfold firstRow lastRow
  refine ⟨?_, ?_, ?_⟩ <;> unfold Ref.discEnds <;> after_reads_at <;> simp only [h3, h5] <;> rfl

set_option maxRecDepth 100000 in
theorem cup_out :
    StableHlo.after Ref.cupOut V (Proc.devRef .tc main_v16) (ix2 b 0)
      = real32 (Scalar.select (V (Proc.devRef .tc main_v10) (ix1 b)) (V (Proc.devRef .tc main_v7) (ix1 b)) 0#32)
    ∧ StableHlo.after Ref.cupOut V (Proc.devRef .tc main_v16) (ix2 b 1)
      = real32 (Scalar.select (V (Proc.devRef .tc main_v10) (ix1 b)) (V (Proc.devRef .tc main_v9) (ix1 b)) 0#32) := by
  constructor <;> unfold Ref.cupOut <;> after_reads_at <;> after_reads_at <;> pointwise <;> rw [word_0] <;> rfl
set_option maxRecDepth 100000 in
theorem disc_out :
    StableHlo.after Ref.discOut V (Proc.devRef .tc main_v32) (ix2 b 0)
      = real32 (Scalar.select (V (Proc.devRef .tc main_v26) (ix1 b)) (V (Proc.devRef .tc main_v23) (ix1 b)) 0#32)
    ∧ StableHlo.after Ref.discOut V (Proc.devRef .tc main_v32) (ix2 b 1)
      = real32 (Scalar.select (V (Proc.devRef .tc main_v26) (ix1 b)) (V (Proc.devRef .tc main_v25) (ix1 b)) 0#32) := by
  constructor <;> unfold Ref.discOut <;> after_reads_at <;> after_reads_at <;> pointwise <;> rw [word_0] <;> rfl
/-- The ratio of two differences, the second moved off zero. -/
def gaps (l1 h1 l2 h2 : EReal) : EReal := Ideal.div (h1 - l1) (h2 - l2 + Ideal.ofBits FTy.f32 897988541#32)

set_option maxRecDepth 100000 in
theorem ratio_read : StableHlo.after Ref.opsRatio V (Proc.devRef .tc main_v47) (ix2 b 0)
    = gaps (V (Proc.devRef .tc main_v16) (ix2 b 0)) (V (Proc.devRef .tc main_v16) (ix2 b 1)) (V (Proc.devRef .tc main_v32) (ix2 b 0)) (V (Proc.devRef .tc main_v32) (ix2 b 1)) := by
  unfold gaps
  unfold Ref.opsRatio
  after_reads_at
set_option maxRecDepth 100000 in
theorem out_reads :
    StableHlo.after Ref.opsOut V (Proc.devRef .tc main_v80) (ix2 b 0) = V (Proc.devRef .tc main_v47) (ix2 b 0)
    ∧ StableHlo.after Ref.opsOut V (Proc.devRef .tc main_v80) (ix2 b 1) = Ideal.div (∑ r : Fin 512, ∑ c : Fin 512, (V (Proc.devRef .tc main_v62) (ix3 b r c) : EReal)) (Ideal.ofBits FTy.f32 1216348160#32)
    ∧ StableHlo.after Ref.opsOut V (Proc.devRef .tc main_v80) (ix2 b 2) = Ideal.div (∑ r : Fin 512, ∑ c : Fin 512, (V (Proc.devRef .tc main_v60) (ix3 b r c) : EReal)) (Ideal.ofBits FTy.f32 1216348160#32)
    ∧ StableHlo.after Ref.opsOut V (Proc.devRef .tc main_v80) (ix2 b 3) = Ideal.div (∑ r : Fin 512, ∑ c : Fin 512, (V (Proc.devRef .tc main_v62) (ix3 b r c) : EReal)) (Ideal.ofBits FTy.f32 1216348160#32)
    ∧ StableHlo.after Ref.opsOut V (Proc.devRef .tc main_v80) (ix2 b 4) = Ideal.div (∑ r : Fin 512, ∑ c : Fin 512, (V (Proc.devRef .tc main_v60) (ix3 b r c) : EReal)) (Ideal.ofBits FTy.f32 1216348160#32) := by
  refine ⟨?_, ?_, ?_, ?_, ?_⟩ <;> unfold Ref.opsOut <;> after_reads_at <;> after_reads_at

/-! ## What later segments leave alone -/

set_option maxRecDepth 100000 in
theorem cup_keeps : StableHlo.after Ref.opsCup V (Proc.devRef .tc main_v0) (ix3 b r c) = V (Proc.devRef .tc main_v0) (ix3 b r c) := by
  unfold Ref.opsCup Ref.cupHas Ref.cupEnds Ref.cupOut
  simp only [List.cons_append, List.nil_append]
  after_reads_at
set_option maxRecDepth 100000 in
theorem disc_keeps (k : Fin 2) : StableHlo.after Ref.opsDisc V (Proc.devRef .tc main_v16) (ix2 b k) = V (Proc.devRef .tc main_v16) (ix2 b k) := by
  unfold Ref.opsDisc Ref.discHas Ref.discEnds Ref.discOut
  simp only [List.cons_append, List.nil_append]
  after_reads_at
set_option maxRecDepth 100000 in
theorem soft_keeps : StableHlo.after Ref.opsSoft V (Proc.devRef .tc main_v47) (ix2 b 0) = V (Proc.devRef .tc main_v47) (ix2 b 0) := by
  unfold Ref.opsSoft Ref.softTop Ref.softMax Ref.softExp Ref.softDiv Ref.softOut
  simp only [List.cons_append, List.nil_append]
  after_reads_at

/-! ## The segments joined -/

section Joined

variable {X : Fin 16 → Img}

theorem lab_reads (hx : ∀ b k r c, V (Proc.devRef .tc main_arg0) (ix4 b k r c) = ((X b k r c : ℝ) : EReal)) :
    IntOp.cmpi .eq (StableHlo.after Ref.opsLab V (Proc.devRef .tc main_v0) (ix3 b r c)) 1#32 = bit (isOne (px (X b) r c))
    ∧ IntOp.cmpi .eq (StableHlo.after Ref.opsLab V (Proc.devRef .tc main_v0) (ix3 b r c)) 2#32 = bit (isTwo (px (X b) r c)) := by
  have e : StableHlo.after Ref.opsLab V (Proc.devRef .tc main_v0) (ix3 b r c)
      = (Host.argReduce (F := Ideal) (φ := .f32) reducer_argmax_f32_i32 (V (Proc.devRef .tc main_arg0)) (iotaInDim S16x3x512x512 32 1) (constant S_ FTy.f32 0xFF800000#32) (constantI S_ 32 0#32)
        reducesTo_S16x3x512x512_S16x512x512_d1 h_S_ (ix3 b r c)).2 := by
    unfold Ref.opsLab
    after_reads_at
  rw [e]
  exact label_bits (x := px (X b) r c) (label_at hx b r c)

theorem cup_reads (h : ∀ r c, IntOp.cmpi .eq (V (Proc.devRef .tc main_v0) (ix3 b r c)) 1#32 = bit (isOne (px (X b) r c))) :
    StableHlo.after Ref.opsCup V (Proc.devRef .tc main_v16) (ix2 b 0) = real32 (Scalar.select (bit (∃ r, rowsOne (X b) r)) (firstRow (rowsOne (X b))) 0#32)
    ∧ StableHlo.after Ref.opsCup V (Proc.devRef .tc main_v16) (ix2 b 1) = real32 (Scalar.select (bit (∃ r, rowsOne (X b) r)) (lastRow (rowsOne (X b))) 0#32) := by
  unfold Ref.opsCup
  rw [StableHlo.after_append, StableHlo.after_append]
  have e := cup_ends (StableHlo.after Ref.cupHas V) b (rowsOne (X b))
    (fun r => by rw [(cup_has V b r).1]; simp only [h]; exact fold_ori_bit _) (fun r => (cup_has V b r).2)
  rw [(cup_out _ b).1, (cup_out _ b).2, e.1, e.2.1, e.2.2]
  exact ⟨rfl, rfl⟩

theorem disc_reads (h : ∀ r c, IntOp.cmpi .eq (V (Proc.devRef .tc main_v0) (ix3 b r c)) 2#32 = bit (isTwo (px (X b) r c))) :
    StableHlo.after Ref.opsDisc V (Proc.devRef .tc main_v32) (ix2 b 0) = real32 (Scalar.select (bit (∃ r, rowsTwo (X b) r)) (firstRow (rowsTwo (X b))) 0#32)
    ∧ StableHlo.after Ref.opsDisc V (Proc.devRef .tc main_v32) (ix2 b 1) = real32 (Scalar.select (bit (∃ r, rowsTwo (X b) r)) (lastRow (rowsTwo (X b))) 0#32) := by
  unfold Ref.opsDisc
  rw [StableHlo.after_append, StableHlo.after_append]
  have e := disc_ends (StableHlo.after Ref.discHas V) b (rowsTwo (X b))
    (fun r => by rw [(disc_has V b r).1]; simp only [h]; exact fold_ori_bit _) (fun r => (disc_has V b r).2)
  rw [(disc_out _ b).1, (disc_out _ b).2, e.1, e.2.1, e.2.2]
  exact ⟨rfl, rfl⟩

set_option maxRecDepth 100000 in
theorem top_reads : StableHlo.after Ref.softTop V (Proc.devRef .tc main_v48) (ix3 b r c)
      = Finset.univ.fold max (⊥ : EReal) (fun k : Fin 3 => V (Proc.devRef .tc main_arg0) (ix4 b k r c))
    ∧ ∀ k : Fin 3, StableHlo.after Ref.softTop V (Proc.devRef .tc main_arg0) (ix4 b k r c) = V (Proc.devRef .tc main_arg0) (ix4 b k r c) := by
  refine ⟨?_, fun k => ?_⟩ <;> unfold Ref.softTop <;> after_reads_at
  rw [bits_bot]
set_option maxRecDepth 100000 in
theorem max_reads : StableHlo.after Ref.softMax V (Proc.devRef .tc main_v50) (ix3 b r c) = V (Proc.devRef .tc main_v48) (ix3 b r c)
    ∧ ∀ k : Fin 3, StableHlo.after Ref.softMax V (Proc.devRef .tc main_arg0) (ix4 b k r c) = V (Proc.devRef .tc main_arg0) (ix4 b k r c) := by
  refine ⟨?_, fun k => ?_⟩ <;> unfold Ref.softMax <;> after_reads_at
  rw [bits_bot]
  exact max_eq_right bot_le

/-- A score's exponential, past `M`. -/
def expPast (x M : EReal) : EReal := Ideal.exp (x - M)
/-- One of three over their sum. -/
def share (e : Fin 3 → EReal) (k : Fin 3) : EReal := Ideal.div (e k) (∑ l, e l)

set_option maxRecDepth 100000 in
theorem exp_read (k : Fin 3) : StableHlo.after Ref.softExp V (Proc.devRef .tc main_v54) (ix4 b k r c)
    = expPast (V (Proc.devRef .tc main_arg0) (ix4 b k r c)) (V (Proc.devRef .tc main_v50) (ix3 b r c)) := by
  unfold expPast
  unfold Ref.softExp
  after_reads_at
set_option maxRecDepth 100000 in
theorem div_read (k : Fin 3) : StableHlo.after Ref.softDiv V (Proc.devRef .tc main_v58) (ix4 b k r c)
    = share (fun l => V (Proc.devRef .tc main_v54) (ix4 b l r c)) k := by
  unfold share
  unfold Ref.softDiv
  after_reads_at
set_option maxRecDepth 100000 in
theorem class_reads : StableHlo.after Ref.softOut V (Proc.devRef .tc main_v60) (ix3 b r c) = V (Proc.devRef .tc main_v58) (ix4 b 1 r c)
    ∧ StableHlo.after Ref.softOut V (Proc.devRef .tc main_v62) (ix3 b r c) = V (Proc.devRef .tc main_v58) (ix4 b 2 r c) := by
  constructor <;> unfold Ref.softOut <;> after_reads_at

theorem soft_reads (hx : ∀ b k r c, V (Proc.devRef .tc main_arg0) (ix4 b k r c) = ((X b k r c : ℝ) : EReal)) :
    StableHlo.after Ref.opsSoft V (Proc.devRef .tc main_v60) (ix3 b r c) = ((soft (px (X b) r c) 1 : ℝ) : EReal)
    ∧ StableHlo.after Ref.opsSoft V (Proc.devRef .tc main_v62) (ix3 b r c) = ((soft (px (X b) r c) 2 : ℝ) : EReal) := by
  obtain ⟨M, hM⟩ := fold_max_real (px (X b) r c)
  unfold Ref.opsSoft
  rw [StableHlo.after_append, StableHlo.after_append, StableHlo.after_append, StableHlo.after_append,
    (class_reads _ b r c).1, (class_reads _ b r c).2, div_read, div_read]
  have e : ∀ l : Fin 3, StableHlo.after Ref.softExp (StableHlo.after Ref.softMax (StableHlo.after Ref.softTop V)) (Proc.devRef .tc main_v54) (ix4 b l r c)
      = Ideal.exp (((px (X b) r c l : ℝ) : EReal) - ((M : ℝ) : EReal)) := fun l => by
    rw [exp_read, (max_reads _ b r c).1, (max_reads _ b r c).2, (top_reads _ b r c).1, (top_reads _ b r c).2]
    simp only [hx]
    exact congrArg (expPast _) hM
  simp only [e]
  exact ⟨ref_soft _ 1 M, ref_soft _ 2 M⟩

/-- Dividing by 2¹⁸ is scaling by 2⁻¹⁸. -/
theorem mean_scaled (s : EReal) : Ideal.div s (Ideal.ofBits FTy.f32 1216348160#32) = scaled s := by
  have e1 : Ideal.ofBits FTy.f32 1216348160#32 = ((262144 : ℝ) : EReal) := by
    simp [Ideal.ofBits, Ideal.ieee]; rw [← EReal.coe_mul]; norm_num
  have e2 : Ideal.ofBits FTy.f32 914358272#32 = (((262144 : ℝ)⁻¹ : ℝ) : EReal) := by
    simp [Ideal.ofBits, Ideal.ieee]; rw [← EReal.coe_mul]; norm_num
  unfold scaled
  rw [e1, e2, div_coe _ (by norm_num)]

/-- The reference's row of image `b`. -/
theorem ref_value (hx : ∀ b k r c, V (Proc.devRef .tc main_arg0) (ix4 b k r c) = ((X b k r c : ℝ) : EReal)) : ∃ l1 h1 l2 h2 : EReal,
    (IsLo (rowsOne (X b)) l1 ∧ IsHi (rowsOne (X b)) h1 ∧ IsLo (rowsTwo (X b)) l2 ∧ IsHi (rowsTwo (X b)) h2)
    ∧ StableHlo.after Ref.refOps V (Proc.devRef .tc main_v80) (ix2 b 0) = ratio l1 h1 l2 h2
    ∧ StableHlo.after Ref.refOps V (Proc.devRef .tc main_v80) (ix2 b 1) = scaled (total (X b) 2)
    ∧ StableHlo.after Ref.refOps V (Proc.devRef .tc main_v80) (ix2 b 2) = scaled (total (X b) 1)
    ∧ StableHlo.after Ref.refOps V (Proc.devRef .tc main_v80) (ix2 b 3) = scaled (total (X b) 2)
    ∧ StableHlo.after Ref.refOps V (Proc.devRef .tc main_v80) (ix2 b 4) = scaled (total (X b) 1) := by
  refine ⟨real32 (firstRow (rowsOne (X b))), real32 (lastRow (rowsOne (X b))), real32 (firstRow (rowsTwo (X b))), real32 (lastRow (rowsTwo (X b))),
    ⟨isLo_first _, isHi_last _, isLo_first _, isHi_last _⟩, ?_⟩
  unfold Ref.refOps
  rw [StableHlo.after_append, StableHlo.after_append, StableHlo.after_append, StableHlo.after_append, StableHlo.after_append]
  have k1 := Ref.seg_kept Ref.opsLab_apart V
  have k2 := Ref.seg_kept Ref.opsCup_apart (StableHlo.after Ref.opsLab V)
  have k3 := Ref.seg_kept Ref.opsDisc_apart (StableHlo.after Ref.opsCup (StableHlo.after Ref.opsLab V))
  have k4 := Ref.seg_kept Ref.opsRatio_apart (StableHlo.after Ref.opsDisc (StableHlo.after Ref.opsCup (StableHlo.after Ref.opsLab V)))
  have hx4 : ∀ b k r c, StableHlo.after Ref.opsRatio (StableHlo.after Ref.opsDisc (StableHlo.after Ref.opsCup (StableHlo.after Ref.opsLab V))) (Proc.devRef .tc main_arg0) (ix4 b k r c) = ((X b k r c : ℝ) : EReal) := fun b k r c => by
    rw [k4, k3, k2, k1, hx]
  have hl := fun r c => lab_reads V b r c hx
  have hs := fun r c => soft_reads _ b r c hx4
  have hc := cup_reads (StableHlo.after Ref.opsLab V) b fun r c => (hl r c).1
  have hd := disc_reads (StableHlo.after Ref.opsCup (StableHlo.after Ref.opsLab V)) b fun r c => by rw [cup_keeps]; exact (hl r c).2
  obtain ⟨o0, o1, o2, o3, o4⟩ := out_reads (StableHlo.after Ref.opsSoft (StableHlo.after Ref.opsRatio (StableHlo.after Ref.opsDisc (StableHlo.after Ref.opsCup (StableHlo.after Ref.opsLab V))))) b
  simp only [hs] at o1 o2 o3 o4
  refine ⟨?_, o1.trans (mean_scaled _), o2.trans (mean_scaled _), o3.trans (mean_scaled _), o4.trans (mean_scaled _)⟩
  rw [o0, soft_keeps, ratio_read, disc_keeps, disc_keeps, hc.1, hc.2, hd.1, hd.2]
  unfold gaps ratio
  rw [rows_height, rows_height]

end Joined

end Cert.Proof.Val

end
-- ==== Proof.Algebraic.lean ====
/-
  The kernel and the reference end with equal results on finite images.
-/
module

public import proofs.«01_k».proof.Proof.Frames
public import proofs.«01_k».proof.Proof.RefValue
public import Idealize.ShloMosaic.Lib.ReduceAll

@[expose] public section

noncomputable section

namespace Cert.Proof

open Idealize.ShloMosaic Idealize.SL.Sem

theorem pre_facts : Cert.Pre_finite_input.Facts := ⟨by decide, by decide, by decide⟩

/-- An input the predicate holds of has real scores. -/
theorem finite_real [Cert.Pre_finite_input.Facts] {x : FVec Ideal Cert.Pre_finite_input.S16x3x512x512 .f32}
    (h : Cert.Pre_finite_input.fn (F := Ideal) x = fun _ => 1#1) (i : Cert.Pre_finite_input.S16x3x512x512.Idx) :
    x i = (((x i : EReal).toReal : ℝ) : EReal) := by
  haveI : Subsingleton Cert.Pre_finite_input.S_.Idx := ⟨fun a b => funext fun k => k.elim0⟩
  have e := Host.reduce_andi_all _ _ _ _ ix0 (congrFun h ix0) i
  have e' : (max (x i : EReal) (-(x i : EReal))) < (⊤ : EReal) := by
    have e2 : BitVec.ofBool (decide (max (x i : EReal) (-(x i : EReal)) < Ideal.ofBits FTy.f32 0x7F800000#32)) = 1#1 := e
    rw [Val.bits_top] at e2
    by_contra hn
    simp [hn] at e2
  have ht : (x i : EReal) ≠ ⊤ := fun hx => by rw [hx] at e'; simp at e'
  have hb : (x i : EReal) ≠ ⊥ := fun hx => by rw [hx] at e'; simp at e'
  exact (EReal.coe_toReal ht hb).symm

/-- The two results, from equal finite images. -/
theorem results_same (m : (ℓ : Loc Cert.KernelIdeal.nD Cert.KernelIdeal.τ Cert.KernelIdeal.sig) → Buf (Elt Ideal) ℓ) (d : Dev Cert.KernelIdeal.nD)
    (V : Valuation Cert.ReferenceIdeal.τ Cert.ReferenceIdeal.sig (Elt Ideal)) {X : Fin 16 → Val.Img}
    (hk : ∀ b k r c, Mask.imgsAt m d (Mask.ix4 b k r c) = ((X b k r c : ℝ) : EReal))
    (hr : ∀ b k r c, V (Proc.devRef .tc Cert.ReferenceIdeal.main_arg0) (ix4 b k r c) = ((X b k r c : ℝ) : EReal))
    (b : Fin 16) (k : Fin 5) :
    StableHlo.after Ref.refOps V (Proc.devRef .tc Cert.ReferenceIdeal.main_v80) (ix2 b k) = Mask.finalVal m d (ix2 b k) := by
  obtain ⟨l1, h1, l2, h2, ⟨a1, a2, a3, a4⟩, k0, k1, k2, k3, k4⟩ := Val.kernel_value m d hk b
  obtain ⟨l1', h1', l2', h2', ⟨b1, b2, b3, b4⟩, r0, r1, r2, r3, r4⟩ := Val.ref_value V b hr
  have e0 : Val.ratio l1' h1' l2' h2' = Val.ratio l1 h1 l2 h2 := by
    rw [b1.unique a1, b2.unique a2, b3.unique a3, b4.unique a4]
  fin_cases k
  · exact r0.trans (e0.trans k0.symm)
  · exact r1.trans k1.symm
  · exact r2.trans k2.symm
  · exact r3.trans k3.symm
  · exact r4.trans k4.symm

theorem ix4_same {A B C D : ℕ} (a : Fin A) (b : Fin B) (c : Fin C) (e : Fin D) : (Mask.ix4 a b c e : (⟨4, ![A, B, C, D]⟩ : Shape).Idx) = ix4 a b c e := by
  funext k; fin_cases k <;> rfl

theorem algebraic : Cert.algebraic_KernelIdeal_ReferenceIdeal_pre_finite_input (hKernelIdeal := Cert.KernelIdeal.Gen.facts)
    (hReferenceIdeal := Cert.ReferenceIdeal.Gen.facts) (hPre_finite_input := pre_facts) := by
  intro m g m' g' hpre hag
  letI := pre_facts
  have hfin : ∀ d i, m (Mask.xLoc d) i = (((m (Mask.xLoc d) i : EReal).toReal : ℝ) : EReal) := fun d i => finite_real (hpre d) i
  refine ⟨fun d => Mask.finalVal m d, ?_, ?_⟩
  · exact (θ_run Cert.KernelIdeal.defs _ _).mono (fun _ h => h.1) (Mask.run_main (F := Ideal) m g)
  · refine (θ_run Cert.ReferenceIdeal.defs _ _).mono (fun r h d => ⟨(h d Cert.ReferenceIdeal.main_v80).trans ?_, (h d Cert.ReferenceIdeal.main_arg0).trans (Ref.arg_kept _)⟩)
      (Ref.run_main (F := Ideal) m' g')
    have hsame := results_same m d (StableHlo.launchContents m' d)
      (X := fun b k r c => (m (Mask.xLoc d) (ix4 b k r c) : EReal).toReal)
      (fun b k r c => by rw [ix4_same]; exact hfin d (ix4 b k r c))
      (fun b k r c => (congrFun (hag d) (ix4 b k r c)).trans (hfin d (ix4 b k r c)))
    funext i
    have hi : i = ix2 (i 0 : Fin 16) (i 1 : Fin 5) := by funext a; fin_cases a <;> rfl
    rw [hi]
    exact hsame (i 0) (i 1)

end Cert.Proof

end
-- ==== Proof.lean ====
/-
  The claims about the segmentation-mask statistics.
-/
module

public import proofs.«01_k».proof.Defs
public import proofs.«01_k».proof.Proof.Frames
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, pre_facts,
  frame_kernel, frame_ideal, fun m g _ => frame_ideal m g trivial, frame_reference, fun m g _ => frame_reference m g trivial, trivial, algebraic⟩

end Cert.Proof

end
